-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_above_minus_infinity [hPre_decay_above_minus_infinity : Cert.Pre_decay_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_decay_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_above_minus_infinity [hPre_decay_above_minus_infinity : Cert.Pre_decay_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decay_above_minus_infinity [hKernelIdeal : Cert.KernelIdeal.Facts] [hPre_decay_above_minus_infinity : Cert.Pre_decay_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decay_above_minus_infinity [hReferenceIdeal : Cert.ReferenceIdeal.Facts] [hPre_decay_above_minus_infinity : Cert.Pre_decay_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_decay_above_minus_infinity [hKernelIdeal : Cert.KernelIdeal.Facts] [hReferenceIdeal : Cert.ReferenceIdeal.Facts] [hPre_decay_above_minus_infinity : Cert.Pre_decay_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v59) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_decay_above_minus_infinity : Cert.Pre_decay_above_minus_infinity.Facts) (hPre_finite3 : Cert.Pre_finite3.Facts) (hPre_finite4 : Cert.Pre_finite4.Facts) (hPre_finite7 : Cert.Pre_finite7.Facts),
    quiescent_Kernel (hKernel := hKernel)
    ∧ quiescent_KernelIdeal (hKernelIdeal := hKernelIdeal)
    ∧ quiescent_KernelIdeal_pre_decay_above_minus_infinity (hKernelIdeal := hKernelIdeal) (hPre_decay_above_minus_infinity := hPre_decay_above_minus_infinity)
    ∧ quiescent_ReferenceIdeal (hReferenceIdeal := hReferenceIdeal)
    ∧ quiescent_ReferenceIdeal_pre_decay_above_minus_infinity (hReferenceIdeal := hReferenceIdeal) (hPre_decay_above_minus_infinity := hPre_decay_above_minus_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_decay_above_minus_infinity (hKernelIdeal := hKernelIdeal) (hReferenceIdeal := hReferenceIdeal) (hPre_decay_above_minus_infinity := hPre_decay_above_minus_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
-- ==== Pre_decay_above_minus_infinity.lean ====
abbrev S8x4096x4096 : Shape := ⟨3, ![8, 4096, 4096]⟩
abbrev S8x4096x6144 : Shape := ⟨3, ![8, 4096, 6144]⟩
abbrev S8x4096x128 : Shape := ⟨3, ![8, 4096, 128]⟩
abbrev S64 : Shape := ⟨1, ![64]⟩
abbrev S4096 : Shape := ⟨1, ![4096]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S8x4096x4096 .bf16) (main_arg1 : FVec F S8x4096x6144 .bf16) (main_arg2 : FVec F S8x4096x128 .f32) (main_arg3 : FVec F S64 .f32) (main_arg4 : FVec F S64 .f32) (main_arg5 : FVec F S4096 .f32) : IVec S_ 1 :=
  let main_cst : FVec F S_ .f32 := constant S_ .f32 0xFF800000#32
  let main_v0 : FVec F S64 .f32 := broadcastInDim S64 ![] bcast_S_S64 main_cst
  let main_v1 : IVec S64 1 := cmpf .ogt main_arg3 main_v0
  let main_c : IVec S_ 1 := constantI S_ 1 1#1
  let main_v2 : IVec S_ 1 := (fun x v => Host.reduce IntOp.andi x v reducesTo_S64_S_d0 h_S_) main_v1 main_c
  main_v2
-- ==== Pre_finite3.lean ====
abbrev S32768x2048 : Shape := ⟨2, ![32768, 2048]⟩
abbrev S1x2048x10304 : Shape := ⟨3, ![1, 2048, 10304]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S1x2048x10304 : S_.BroadcastsInDim S1x2048x10304 (![] : Fin 0 → Fin S1x2048x10304.rank)
  reducesTo_S1x2048x10304_S_d0_1_2 : S1x2048x10304.ReducesTo [0, 1, 2] S_

variable [Facts]

def fn {F : FTy → Type} [FloatOps F] (main_arg0 : FVec F S32768x2048 .bf16) (main_arg1 : FVec F S1x2048x10304 .f32) : IVec S_ 1 :=
  let main_v0 : FVec F S32768x2048 .bf16 := Host.absf main_arg0
  let main_cst : FVec F S_ .bf16 := constant S_ .bf16 0x7F80#16
  let main_v1 : FVec F S32768x2048 .bf16 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S1x2048x10304 .f32 := Host.absf main_arg1
  let main_cst_0 : FVec F S_ .f32 := constant S_ .f32 0x7F800000#32
  let main_v5 : FVec F S1x2048x10304 .f32 := broadcastInDim S1x2048x10304 ![] bcast_S_S1x2048x10304 main_cst_0
  let main_v6 : IVec S1x2048x10304 1 := cmpf .olt main_v4 main_v5
  let main_c_1 : IVec S_ 1 := constantI S_ 1 1#1
  let main_v7 : IVec S_ 1 := (fun x v => Host.reduce IntOp.andi x v reducesTo_S1x2048x10304_S_d0_1_2 h_S_) main_v6 main_c_1
  let main_v8 : IVec S_ 1 := andi main_v3 main_v7
  main_v8
-- ==== Pre_finite4.lean ====
abbrev S32768x2048 : Shape := ⟨2, ![32768, 2048]⟩
abbrev S1x2048x10304 : Shape := ⟨3, ![1, 2048, 10304]⟩
abbrev S4x6144 : Shape := ⟨2, ![4, 6144]⟩
abbrev S6144 : Shape := ⟨1, ![6144]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S1x2048x10304 : S_.BroadcastsInDim S1x2048x10304 (![] : Fin 0 → Fin S1x2048x10304.rank)
  reducesTo_S1x2048x10304_S_d0_1_2 : S1x2048x10304.ReducesTo [0, 1, 2] S_
  bcast_S_S4x6144 : S_.BroadcastsInDim S4x6144 (![] : Fin 0 → Fin S4x6144.rank)
  reducesTo_S4x6144_S_d0_1 : S4x6144.ReducesTo [0, 1] S_
  bcast_S_S6144 : S_.BroadcastsInDim S6144 (![] : Fin 0 → Fin S6144.rank)
  reducesTo_S6144_S_d0 : S6144.ReducesTo [0] S_

variable [Facts]

def fn_part1 {F : FTy → Type} [FloatOps F] (main_v13 : IVec S_ 1) (main_v16 : IVec S6144 1) : IVec S_ 1 :=
  let main_c_5 : IVec S_ 1 := constantI S_ 1 1#1
  let main_v17 : IVec S_ 1 := (fun x v => Host.reduce IntOp.andi x v reducesTo_S6144_S_d0 h_S_) main_v16 main_c_5
  let main_v18 : IVec S_ 1 := andi main_v13 main_v17
  main_v18

def fn {F : FTy → Type} [FloatOps F] (main_arg0 : FVec F S32768x2048 .bf16) (main_arg1 : FVec F S1x2048x10304 .f32) (main_arg2 : FVec F S4x6144 .f32) (main_arg3 : FVec F S6144 .f32) : IVec S_ 1 :=
  let main_v0 : FVec F S32768x2048 .bf16 := Host.absf main_arg0
  let main_cst : FVec F S_ .bf16 := constant S_ .bf16 0x7F80#16
  let main_v1 : FVec F S32768x2048 .bf16 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S1x2048x10304 .f32 := Host.absf main_arg1
  let main_cst_0 : FVec F S_ .f32 := constant S_ .f32 0x7F800000#32
  let main_v5 : FVec F S1x2048x10304 .f32 := broadcastInDim S1x2048x10304 ![] bcast_S_S1x2048x10304 main_cst_0
  let main_v6 : IVec S1x2048x10304 1 := cmpf .olt main_v4 main_v5
  let main_c_1 : IVec S_ 1 := constantI S_ 1 1#1
  let main_v7 : IVec S_ 1 := (fun x v => Host.reduce IntOp.andi x v reducesTo_S1x2048x10304_S_d0_1_2 h_S_) main_v6 main_c_1
  let main_v8 : IVec S_ 1 := andi main_v3 main_v7
  let main_v9 : FVec F S4x6144 .f32 := Host.absf main_arg2
  let main_cst_2 : FVec F S_ .f32 := constant S_ .f32 0x7F800000#32
  let main_v10 : FVec F S4x6144 .f32 := broadcastInDim S4x6144 ![] bcast_S_S4x6144 main_cst_2
  let main_v11 : IVec S4x6144 1 := cmpf .olt main_v9 main_v10
  let main_c_3 : IVec S_ 1 := constantI S_ 1 1#1
  let main_v12 : IVec S_ 1 := (fun x v => Host.reduce IntOp.andi x v reducesTo_S4x6144_S_d0_1 h_S_) main_v11 main_c_3
  let main_v13 : IVec S_ 1 := andi main_v8 main_v12
  let main_v14 : FVec F S6144 .f32 := Host.absf main_arg3
  let main_cst_4 : FVec F S_ .f32 := constant S_ .f32 0x7F800000#32
  let main_v15 : FVec F S6144 .f32 := broadcastInDim S6144 ![] bcast_S_S6144 main_cst_4
  let main_v16 : IVec S6144 1 := cmpf .olt main_v14 main_v15
  fn_part1 (F := F) main_v13 main_v16
-- ==== Pre_finite7.lean ====
abbrev S8x4096x6144 : Shape := ⟨3, ![8, 4096, 6144]⟩
abbrev S8x4096x128 : Shape := ⟨3, ![8, 4096, 128]⟩
abbrev S2048 : Shape := ⟨1, ![2048]⟩
abbrev S_ : Shape := ⟨0, ![]⟩

class Facts : Prop where
  bcast_S_S8x4096x6144 : S_.BroadcastsInDim S8x4096x6144 (![] : Fin 0 → Fin S8x4096x6144.rank)
  reducesTo_S8x4096x6144_S_d0_1_2 : S8x4096x6144.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x4096x6144 .bf16) (main_arg1 : FVec F S8x4096x128 .f32) (main_arg2 : FVec F S2048 .f32) : IVec S_ 1 :=
  let main_v0 : FVec F S8x4096x6144 .bf16 := Host.absf main_arg0
  let main_cst : FVec F S_ .bf16 := constant S_ .bf16 0x7F80#16
  let main_v1 : FVec F S8x4096x6144 .bf16 := broadcastInDim S8x4096x6144 ![] bcast_S_S8x4096x6144 main_cst
  let main_v2 : IVec S8x4096x6144 1 := cmpf .olt main_v0 main_v1
  let main_c : IVec S_ 1 := constantI S_ 1 1#1
  let main_v3 : IVec S_ 1 := (fun x v => Host.reduce IntOp.andi x v reducesTo_S8x4096x6144_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x4096 : Shape := ⟨3, ![8, 4096, 4096]⟩
abbrev S8x4096x6144 : Shape := ⟨3, ![8, 4096, 6144]⟩
abbrev S8x4096x128 : Shape := ⟨3, ![8, 4096, 128]⟩
abbrev S64 : Shape := ⟨1, ![64]⟩
abbrev S4096 : Shape := ⟨1, ![4096]⟩
abbrev S256 : Shape := ⟨1, ![256]⟩
abbrev S256x1 : Shape := ⟨2, ![256, 1]⟩
abbrev S_ : Shape := ⟨0, ![]⟩
abbrev S1x4096 : Shape := ⟨2, ![1, 4096]⟩
abbrev S256x4096 : Shape := ⟨2, ![256, 4096]⟩
abbrev S1x64 : Shape := ⟨2, ![1, 64]⟩
abbrev S1x128 : Shape := ⟨2, ![1, 128]⟩
abbrev S64x64 : Shape := ⟨2, ![64, 64]⟩
abbrev S1x128x4096 : Shape := ⟨3, ![1, 128, 4096]⟩
abbrev S1x128x6144 : Shape := ⟨3, ![1, 128, 6144]⟩
abbrev S1x128x128 : Shape := ⟨3, ![1, 128, 128]⟩
abbrev S8x128x512 : Shape := ⟨3, ![8, 128, 512]⟩
abbrev S128x128 : Shape := ⟨2, ![128, 128]⟩
abbrev S128x256 : Shape := ⟨2, ![128, 256]⟩
abbrev S128x4096 : Shape := ⟨2, ![128, 4096]⟩
abbrev S1x128x512 : Shape := ⟨3, ![1, 128, 512]⟩
abbrev S128x512 : Shape := ⟨2, ![128, 512]⟩
abbrev S128x1 : Shape := ⟨2, ![128, 1]⟩
abbrev S256x128 : Shape := ⟨2, ![256, 128]⟩
abbrev S1x512 : Shape := ⟨2, ![1, 512]⟩
abbrev S128 : Shape := ⟨1, ![128]⟩

abbrev nBuf : Space → Nat
  | .hbm => 63
  | .vmem => 13
  | .smem => 0
  | _ => 0

abbrev bufTy : (tb : Table) → Fin (tcTables nBuf tb) → BufTy
  | .hbm, ⟨0, _⟩ => ⟨S8x4096x4096, .bf16⟩
  | .hbm, ⟨1, _⟩ => ⟨S8x4096x6144, .bf16⟩
  | .hbm, ⟨2, _⟩ => ⟨S8x4096x128, .f32⟩
  | .hbm, ⟨3, _⟩ => ⟨S64, .f32⟩
  | .hbm, ⟨4, _⟩ => ⟨S64, .f32⟩
  | .hbm, ⟨5, _⟩ => ⟨S4096, .f32⟩
  | .hbm, ⟨6, _⟩ => ⟨S256, .i32⟩
  | .hbm, ⟨7, _⟩ => ⟨S256x1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S_, .i32⟩
  | .hbm, ⟨23, _⟩ => ⟨S_, .i1⟩
  | .hbm, ⟨24, _⟩ => ⟨S256x1, .i1⟩
  | .hbm, ⟨25, _⟩ => ⟨S256x1, .i1⟩
  | .hbm, ⟨26, _⟩ => ⟨S256x1, .i1⟩
  | .hbm, ⟨27, _⟩ => ⟨S256x1, .i32⟩
  | .hbm, ⟨28, _⟩ => ⟨S256x1, .i32⟩
  | .hbm, ⟨29, _⟩ => ⟨S256x1, .i32⟩
  | .hbm, ⟨30, _⟩ => ⟨S4096, .i32⟩
  | .hbm, ⟨31, _⟩ => ⟨S1x4096, .i32⟩
  | .hbm, ⟨32, _⟩ => ⟨S_, .i32⟩
  | .hbm, ⟨33, _⟩ => ⟨S_, .i32⟩
  | .hbm, ⟨34, _⟩ => ⟨S1x4096, .i32⟩
  | .hbm, ⟨35, _⟩ => ⟨S1x4096, .i32⟩
  | .hbm, ⟨36, _⟩ => ⟨S1x4096, .i32⟩
  | .hbm, ⟨37, _⟩ => ⟨S_, .i32⟩
  | .hbm, ⟨38, _⟩ => ⟨S1x4096, .i32⟩
  | .hbm, ⟨39, _⟩ => ⟨S1x4096, .i1⟩
  | .hbm, ⟨40, _⟩ => ⟨S1x4096, .i32⟩
  | .hbm, ⟨41, _⟩ => ⟨S1x4096, .i32⟩
  | .hbm, ⟨42, _⟩ => ⟨S_, .i32⟩
  | .hbm, ⟨43, _⟩ => ⟨S1x4096, .i32⟩
  | .hbm, ⟨44, _⟩ => ⟨S1x4096, .i1⟩
  | .hbm, ⟨45, _⟩ => ⟨S1x4096, .i1⟩
  | .hbm, ⟨46, _⟩ => ⟨S_, .i32⟩
  | .hbm, ⟨47, _⟩ => ⟨S1x4096, .i32⟩
  | .hbm, ⟨48, _⟩ => ⟨S1x4096, .i32⟩
  | .hbm, ⟨49, _⟩ => ⟨S1x4096, .i32⟩
  | .hbm, ⟨50, _⟩ => ⟨S256x4096, .i32⟩
  | .hbm, ⟨51, _⟩ => ⟨S256x4096, .i32⟩
  | .hbm, ⟨52, _⟩ => ⟨S256x4096, .i1⟩
  | .hbm, ⟨53, _⟩ => ⟨S256x4096, .bf16⟩
  | .hbm, ⟨54, _⟩ => ⟨S1x64, .f32⟩
  | .hbm, ⟨55, _⟩ => ⟨S_, .i32⟩
  | .hbm, ⟨56, _⟩ => ⟨S_, .f32⟩
  | .hbm, ⟨57, _⟩ => ⟨S1x128, .f32⟩
  | .hbm, ⟨58, _⟩ => ⟨S64x64, .f32⟩
  | .hbm, ⟨59, _⟩ => ⟨S4096, .f32⟩
  | .hbm, ⟨60, _⟩ => ⟨S1x4096, .f32⟩
  | .hbm, ⟨61, _⟩ => ⟨S1x4096, .f32⟩
  | .hbm, ⟨62, _⟩ => ⟨S8x4096x4096, .bf16⟩
  | .local _ .vmem, ⟨0, _⟩ => ⟨S1x128x4096, .bf16⟩
  | .local _ .vmem, ⟨1, _⟩ => ⟨S1x128x4096, .bf16⟩
  | .local _ .vmem, ⟨2, _⟩ => ⟨S1x128x6144, .bf16⟩
  | .local _ .vmem, ⟨3, _⟩ => ⟨S1x128x6144, .bf16⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x4096, .f32⟩
  | .local _ .vmem, ⟨8, _⟩ => ⟨S1x4096, .f32⟩
  | .local _ .vmem, ⟨9, _⟩ => ⟨S256x4096, .bf16⟩
  | .local _ .vmem, ⟨10, _⟩ => ⟨S1x128x4096, .bf16⟩
  | .local _ .vmem, ⟨11, _⟩ => ⟨S1x128x4096, .bf16⟩
  | .local _ .vmem, ⟨12, _⟩ => ⟨S8x128x512, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_c_1 : Ref sig .tc := ⟨.hbm, 55, rfl⟩
abbrev main_call2_v0 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x4096x4096 : Shape := ⟨3, ![8, 4096, 4096]⟩
abbrev S8x4096x6144 : Shape := ⟨3, ![8, 4096, 6144]⟩
abbrev S8x4096x128 : Shape := ⟨3, ![8, 4096, 128]⟩
abbrev S64 : Shape := ⟨1, ![64]⟩
abbrev S4096 : Shape := ⟨1, ![4096]⟩
abbrev S8x4096x1024 : Shape := ⟨3, ![8, 4096, 1024]⟩
abbrev S8x4096x64 : Shape := ⟨3, ![8, 4096, 64]⟩
abbrev S_ : Shape := ⟨0, ![]⟩
abbrev S1x1x64 : Shape := ⟨3, ![1, 1, 64]⟩
abbrev S8x4096x64x64 : Shape := ⟨4, ![8, 4096, 64, 64]⟩
abbrev S8x32x128x8x8x64 : Shape := ⟨6, ![8, 32, 128, 8, 8, 64]⟩
abbrev S32x8x128x8x8x64 : Shape := ⟨6, ![32, 8, 128, 8, 8, 64]⟩
abbrev S8x32x128x8x8 : Shape := ⟨5, ![8, 32, 128, 8, 8]⟩
abbrev S32x8x128x8x8 : Shape := ⟨5, ![32, 8, 128, 8, 8]⟩
abbrev S8x32x128x8x128 : Shape := ⟨5, ![8, 32, 128, 8, 128]⟩
abbrev S32x8x128x8x128 : Shape := ⟨5, ![32, 8, 128, 8, 128]⟩
abbrev S128x128 : Shape := ⟨2, ![128, 128]⟩
abbrev S8x8x8x64x128 : Shape := ⟨5, ![8, 8, 8, 64, 128]⟩
abbrev S1x8x128x8x8x64 : Shape := ⟨6, ![1, 8, 128, 8, 8, 64]⟩
abbrev S8x128x8x8x64 : Shape := ⟨5, ![8, 128, 8, 8, 64]⟩
abbrev S1x8x128x8x8 : Shape := ⟨5, ![1, 8, 128, 8, 8]⟩
abbrev S8x128x8x8 : Shape := ⟨4, ![8, 128, 8, 8]⟩
abbrev S1x8x128x8x128 : Shape := ⟨5, ![1, 8, 128, 8, 128]⟩
abbrev S8x128x8x128 : Shape := ⟨4, ![8, 128, 8, 128]⟩
abbrev S8x8x8x128 : Shape := ⟨4, ![8, 8, 8, 128]⟩
abbrev S8x8x8x128x1 : Shape := ⟨5, ![8, 8, 8, 128, 1]⟩
abbrev S8x8x8x1x128 : Shape := ⟨5, ![8, 8, 8, 1, 128]⟩
abbrev S8x8x8x128x128 : Shape := ⟨5, ![8, 8, 8, 128, 128]⟩
abbrev S8x8x128x128 : Shape := ⟨4, ![8, 8, 128, 128]⟩
abbrev S8x8x1x128x128 : Shape := ⟨5, ![8, 8, 1, 128, 128]⟩
abbrev S8x128x8x8x1 : Shape := ⟨5, ![8, 128, 8, 8, 1]⟩
abbrev S8x1x8x8 : Shape := ⟨4, ![8, 1, 8, 8]⟩
abbrev S8x8x8 : Shape := ⟨3, ![8, 8, 8]⟩
abbrev S8x8x8x1x1 : Shape := ⟨5, ![8, 8, 8, 1, 1]⟩
abbrev S64x1 : Shape := ⟨2, ![64, 1]⟩
abbrev S1x1x64x1 : Shape := ⟨4, ![1, 1, 64, 1]⟩
abbrev S8x4096x8x512 : Shape := ⟨4, ![8, 4096, 8, 512]⟩
abbrev S8x4096x8 : Shape := ⟨3, ![8, 4096, 8]⟩
abbrev S8x4096x8x1 : Shape := ⟨4, ![8, 4096, 8, 1]⟩
abbrev S1x1x4096 : Shape := ⟨3, ![1, 1, 4096]⟩

abbrev nBuf : Space → Nat
  | .hbm => 188
  | .vmem => 0
  | .smem => 0
  | _ => 0

abbrev hbmTy0_0 (i : Nat) : BufTy := match i % 128 with
  | 0 => ⟨S8x4096x4096, .bf16⟩
  | 1 => ⟨S8x4096x6144, .bf16⟩
  | 2 => ⟨S8x4096x128, .f32⟩
  | 3 => ⟨S64, .f32⟩
  | 4 => ⟨S64, .f32⟩
  | 5 => ⟨S4096, .f32⟩
  | 6 => ⟨S8x4096x6144, .f32⟩
  | 7 => ⟨S8x4096x4096, .f32⟩
  | 8 => ⟨S8x4096x1024, .f32⟩
  | 9 => ⟨S8x4096x1024, .f32⟩
  | 10 => ⟨S8x4096x64, .f32⟩
  | 11 => ⟨S_, .f32⟩
  | 12 => ⟨S8x4096x64, .f32⟩
  | 13 => ⟨S8x4096x64, .f32⟩
  | 14 => ⟨S8x4096x64, .f32⟩
  | 15 => ⟨S8x4096x64, .f32⟩
  | 16 => ⟨S8x4096x64, .i1⟩
  | 17 => ⟨S8x4096x64, .f32⟩
  | 18 => ⟨S8x4096x64, .f32⟩
  | 19 => ⟨S8x4096x64, .f32⟩
  | 20 => ⟨S8x4096x64, .f32⟩
  | 21 => ⟨S8x4096x64, .f32⟩
  | 22 => ⟨S8x4096x64, .f32⟩
  | 23 => ⟨S8x4096x64, .f32⟩
  | 24 => ⟨S8x4096x64, .f32⟩
  | 25 => ⟨S64, .f32⟩
  | 26 => ⟨S64, .f32⟩
  | 27 => ⟨S1x1x64, .f32⟩
  | 28 => ⟨S8x4096x64, .f32⟩
  | 29 => ⟨S8x4096x64, .f32⟩
  | 30 => ⟨S8x4096x64x64, .f32⟩
  | 31 => ⟨S8x32x128x8x8x64, .f32⟩
  | 32 => ⟨S32x8x128x8x8x64, .f32⟩
  | 33 => ⟨S8x32x128x8x8, .f32⟩
  | 34 => ⟨S32x8x128x8x8, .f32⟩
  | 35 => ⟨S8x32x128x8x8, .f32⟩
  | 36 => ⟨S32x8x128x8x8, .f32⟩
  | 37 => ⟨S8x32x128x8x128, .f32⟩
  | 38 => ⟨S32x8x128x8x128, .f32⟩
  | 39 => ⟨S8x32x128x8x128, .f32⟩
  | 40 => ⟨S32x8x128x8x128, .f32⟩
  | 41 => ⟨S_, .i1⟩
  | 42 => ⟨S128x128, .i1⟩
  | 43 => ⟨S128x128, .i32⟩
  | 44 => ⟨S_, .i32⟩
  | 45 => ⟨S128x128, .i32⟩
  | 46 => ⟨S128x128, .i32⟩
  | 47 => ⟨S128x128, .i32⟩
  | 48 => ⟨S128x128, .i1⟩
  | 49 => ⟨S_, .i1⟩
  | 50 => ⟨S128x128, .i1⟩
  | 51 => ⟨S128x128, .i1⟩
  | 52 => ⟨S_, .f32⟩
  | 53 => ⟨S8x8x8x64x128, .f32⟩
  | 54 => ⟨S_, .f32⟩
  | 55 => ⟨S32x8x128x8x8x64, .f32⟩
  | 56 => ⟨S_, .i32⟩
  | 57 => ⟨S32x8x128x8x8x64, .f32⟩
  | 58 => ⟨S32x8x128x8x8, .f32⟩
  | 59 => ⟨S32x8x128x8x8, .f32⟩
  | 60 => ⟨S32x8x128x8x128, .f32⟩
  | 61 => ⟨S32x8x128x8x128, .f32⟩
  | 62 => ⟨S128x128, .i1⟩
  | 63 => ⟨S_, .i32⟩
  | 64 => ⟨S8x8x8x64x128, .f32⟩
  | 65 => ⟨S32x8x128x8x8x64, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S1x8x128x8x8x64, .f32⟩
  | 74 => ⟨S8x128x8x8x64, .f32⟩
  | 75 => ⟨S_, .i32⟩
  | 76 => ⟨S_, .i32⟩
  | 77 => ⟨S_, .i32⟩
  | 78 => ⟨S_, .i32⟩
  | 79 => ⟨S1x8x128x8x8, .f32⟩
  | 80 => ⟨S8x128x8x8, .f32⟩
  | 81 => ⟨S_, .i32⟩
  | 82 => ⟨S_, .i32⟩
  | 83 => ⟨S_, .i32⟩
  | 84 => ⟨S_, .i32⟩
  | 85 => ⟨S1x8x128x8x8, .f32⟩
  | 86 => ⟨S8x128x8x8, .f32⟩
  | 87 => ⟨S_, .i32⟩
  | 88 => ⟨S_, .i32⟩
  | 89 => ⟨S_, .i32⟩
  | 90 => ⟨S_, .i32⟩
  | 91 => ⟨S1x8x128x8x128, .f32⟩
  | 92 => ⟨S8x128x8x128, .f32⟩
  | 93 => ⟨S_, .i32⟩
  | 94 => ⟨S_, .i32⟩
  | 95 => ⟨S_, .i32⟩
  | 96 => ⟨S_, .i32⟩
  | 97 => ⟨S1x8x128x8x128, .f32⟩
  | 98 => ⟨S8x128x8x128, .f32⟩
  | 99 => ⟨S_, .f32⟩
  | 100 => ⟨S_, .f32⟩
  | 101 => ⟨S8x128x8x8, .f32⟩
  | 102 => ⟨S8x8x8x128, .f32⟩
  | 103 => ⟨S8x8x8x128x1, .f32⟩
  | 104 => ⟨S8x8x8x1x128, .f32⟩
  | 105 => ⟨S8x8x8x128x128, .f32⟩
  | 106 => ⟨S8x8x8x128x128, .f32⟩
  | 107 => ⟨S8x8x8x128x128, .f32⟩
  | 108 => ⟨S_, .f32⟩
  | 109 => ⟨S_, .f32⟩
  | 110 => ⟨S8x8x8x128x128, .i1⟩
  | 111 => ⟨S8x8x8x128x128, .f32⟩
  | 112 => ⟨S8x8x8x128x128, .f32⟩
  | 113 => ⟨S8x8x8x128x128, .f32⟩
  | 114 => ⟨S8x8x128x128, .f32⟩
  | 115 => ⟨S8x8x1x128x128, .f32⟩
  | 116 => ⟨S8x8x8x128x128, .f32⟩
  | 117 => ⟨S8x8x8x128x128, .f32⟩
  | 118 => ⟨S8x8x8x128, .f32⟩
  | 119 => ⟨S8x8x8x1x128, .f32⟩
  | 120 => ⟨S8x8x8x128x128, .f32⟩
  | 121 => ⟨S8x8x8x128x128, .f32⟩
  | 122 => ⟨S8x8x8x64x128, .f32⟩
  | 123 => ⟨S8x128x8x8x64, .f32⟩
  | 124 => ⟨S8x8x8x64x128, .f32⟩
  | 125 => ⟨S8x128x8x8x64, .f32⟩
  | 126 => ⟨S8x128x8x8, .f32⟩
  | 127 => ⟨S8x128x8x8x1, .f32⟩
  | _ => ⟨S8x4096x4096, .bf16⟩

abbrev hbmTy0_1 (i : Nat) : BufTy := match i % 128 with
  | 0 => ⟨S8x128x8x8x64, .f32⟩
  | 1 => ⟨S8x128x8x8x64, .f32⟩
  | 2 => ⟨S8x1x8x8, .f32⟩
  | 3 => ⟨S8x128x8x8, .f32⟩
  | 4 => ⟨S8x128x8x8, .f32⟩
  | 5 => ⟨S8x128x8x8, .f32⟩
  | 6 => ⟨S8x128x8x8, .f32⟩
  | 7 => ⟨S8x1x8x8, .f32⟩
  | 8 => ⟨S8x8x8, .f32⟩
  | 9 => ⟨S8x8x8, .f32⟩
  | 10 => ⟨S8x8x8x1x1, .f32⟩
  | 11 => ⟨S8x8x8x64x128, .f32⟩
  | 12 => ⟨S8x8x8x64x128, .f32⟩
  | 13 => ⟨S8x128x8x8x1, .f32⟩
  | 14 => ⟨S8x128x8x8x64, .f32⟩
  | 15 => ⟨S8x128x8x8x64, .f32⟩
  | 16 => ⟨S8x8x8x64x128, .f32⟩
  | 17 => ⟨S8x8x8x64x128, .f32⟩
  | 18 => ⟨S8x128x8x8x64, .f32⟩
  | 19 => ⟨S1x8x128x8x8x64, .f32⟩
  | 20 => ⟨S_, .i32⟩
  | 21 => ⟨S_, .i32⟩
  | 22 => ⟨S_, .i32⟩
  | 23 => ⟨S_, .i32⟩
  | 24 => ⟨S_, .i32⟩
  | 25 => ⟨S32x8x128x8x8x64, .f32⟩
  | 26 => ⟨S_, .i32⟩
  | 27 => ⟨S_, .i32⟩
  | 28 => ⟨S8x32x128x8x8x64, .f32⟩
  | 29 => ⟨S8x4096x64x64, .f32⟩
  | 30 => ⟨S8x4096x4096, .bf16⟩
  | 31 => ⟨S8x4096x4096, .f32⟩
  | 32 => ⟨S8x4096x64x64, .f32⟩
  | 33 => ⟨S64x1, .f32⟩
  | 34 => ⟨S1x1x64x1, .f32⟩
  | 35 => ⟨S8x4096x64x64, .f32⟩
  | 36 => ⟨S8x4096x64x64, .f32⟩
  | 37 => ⟨S8x4096x64x64, .f32⟩
  | 38 => ⟨S8x4096x4096, .f32⟩
  | 39 => ⟨S8x4096x4096, .f32⟩
  | 40 => ⟨S8x4096x4096, .f32⟩
  | 41 => ⟨S8x4096x8x512, .f32⟩
  | 42 => ⟨S8x4096x8x512, .f32⟩
  | 43 => ⟨S_, .f32⟩
  | 44 => ⟨S8x4096x8, .f32⟩
  | 45 => ⟨S8x4096x8x1, .f32⟩
  | 46 => ⟨S_, .f32⟩
  | 47 => ⟨S8x4096x8x1, .f32⟩
  | 48 => ⟨S8x4096x8x1, .f32⟩
  | 49 => ⟨S_, .f32⟩
  | 50 => ⟨S8x4096x8x1, .f32⟩
  | 51 => ⟨S8x4096x8x1, .f32⟩
  | 52 => ⟨S8x4096x8x1, .f32⟩
  | 53 => ⟨S8x4096x8x512, .f32⟩
  | 54 => ⟨S8x4096x8x512, .f32⟩
  | 55 => ⟨S8x4096x4096, .f32⟩
  | 56 => ⟨S1x1x4096, .f32⟩
  | 57 => ⟨S8x4096x4096, .f32⟩
  | 58 => ⟨S8x4096x4096, .f32⟩
  | 59 => ⟨S8x4096x4096, .bf16⟩
  | _ => ⟨S8x4096x4096, .bf16⟩

abbrev hbmTy (i : Nat) : BufTy := match i / 128 with
  | 0 => hbmTy0_0 i
  | 1 => hbmTy0_1 i
  | _ => ⟨S8x4096x4096, .bf16⟩

abbrev bufTy : (tb : Table) → Fin (tcTables nBuf tb) → BufTy
  | .hbm, ⟨i, _⟩ => hbmTy i
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_call1_v0 : Ref sig .tc := ⟨.hbm, 43, rfl⟩
abbrev main_call1_c : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_0 : Ref sig .tc := ⟨.hbm, 49, rfl⟩
abbrev main_call1_v5 : Ref sig .tc := ⟨.hbm, 50, rfl⟩
abbrev main_v23 : Ref sig .tc := ⟨.hbm, 51, rfl⟩
abbrev main_cst : Ref sig .tc := ⟨.hbm, 52, rfl⟩
abbrev main_v24 : Ref sig .tc := ⟨.hbm, 53, rfl⟩
abbrev main_cst_0 : Ref sig .tc := ⟨.hbm, 54, rfl⟩
abbrev main_v25 : Ref sig .tc := ⟨.hbm, 55, rfl⟩
abbrev main_c_1 : Ref sig .tc := ⟨.hbm, 56, rfl⟩
abbrev main_v26_0 : Ref sig .tc := ⟨.hbm, 57, rfl⟩
abbrev main_v26_1 : Ref sig .tc := ⟨.hbm, 58, rfl⟩
abbrev main_v26_2 : Ref sig .tc := ⟨.hbm, 59, rfl⟩
abbrev main_v26_3 : Ref sig .tc := ⟨.hbm, 60, rfl⟩
abbrev main_v26_4 : Ref sig .tc := ⟨.hbm, 61, rfl⟩
abbrev main_v26_5 : Ref sig .tc := ⟨.hbm, 62, rfl⟩
abbrev main_v26_6 : Ref sig .tc := ⟨.hbm, 63, rfl⟩
abbrev main_v26_7 : Ref sig .tc := ⟨.hbm, 64, rfl⟩
abbrev main_v26_8 : Ref sig .tc := ⟨.hbm, 65, rfl⟩
abbrev main_while0c_c_13 : Ref sig .tc := ⟨.hbm, 66, rfl⟩
abbrev main_while0c_v56 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_c_1 : Ref sig .tc := ⟨.hbm, 70, rfl⟩
abbrev main_while0b_call2_c_2 : Ref sig .tc := ⟨.hbm, 71, rfl⟩
abbrev main_while0b_call2_c_3 : Ref sig .tc := ⟨.hbm, 72, rfl⟩
abbrev main_while0b_call2_v0 : Ref sig .tc := ⟨.hbm, 73, rfl⟩
abbrev main_while0b_v56 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_c_2 : Ref sig .tc := ⟨.hbm, 78, rfl⟩
abbrev main_while0b_call3_v0 : Ref sig .tc := ⟨.hbm, 79, rfl⟩
abbrev main_while0b_v57 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_c_2 : Ref sig .tc := ⟨.hbm, 84, rfl⟩
abbrev main_while0b_call4_v0 : Ref sig .tc := ⟨.hbm, 85, rfl⟩
abbrev main_while0b_v58 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_call5_c_2 : Ref sig .tc := ⟨.hbm, 90, rfl⟩
abbrev main_while0b_call5_v0 : Ref sig .tc := ⟨.hbm, 91, rfl⟩
abbrev main_while0b_v59 : Ref sig .tc := ⟨.hbm, 92, rfl⟩
abbrev main_while0b_call6_c : Ref sig .tc := ⟨.hbm, 93, rfl⟩
abbrev main_while0b_call6_c_0 : Ref sig .tc := ⟨.hbm, 94, rfl⟩
abbrev main_while0b_call6_c_1 : Ref sig .tc := ⟨.hbm, 95, rfl⟩
abbrev main_while0b_call6_c_2 : Ref sig .tc := ⟨.hbm, 96, rfl⟩
abbrev main_while0b_call6_v0 : Ref sig .tc := ⟨.hbm, 97, rfl⟩
abbrev main_while0b_v60 : Ref sig .tc := ⟨.hbm, 98, rfl⟩
abbrev main_while0b_call7_call0_cst : Ref sig .tc := ⟨.hbm, 99, rfl⟩
abbrev main_while0b_call7_call0_v0 : Ref sig .tc := ⟨.hbm, 100, rfl⟩
abbrev main_while0b_v61 : Ref sig .tc := ⟨.hbm, 101, rfl⟩
abbrev main_while0b_v62 : Ref sig .tc := ⟨.hbm, 102, rfl⟩
abbrev main_while0b_v63 : Ref sig .tc := ⟨.hbm, 103, rfl⟩
abbrev main_while0b_v64 : Ref sig .tc := ⟨.hbm, 104, rfl⟩
abbrev main_while0b_v65 : Ref sig .tc := ⟨.hbm, 105, rfl⟩
abbrev main_while0b_v66 : Ref sig .tc := ⟨.hbm, 106, rfl⟩
abbrev main_while0b_v67 : Ref sig .tc := ⟨.hbm, 107, rfl⟩
abbrev main_while0b_cst_13 : Ref sig .tc := ⟨.hbm, 108, rfl⟩
abbrev main_while0b_call8_v0 : Ref sig .tc := ⟨.hbm, 109, rfl⟩
abbrev main_while0b_call8_v1 : Ref sig .tc := ⟨.hbm, 110, rfl⟩
abbrev main_while0b_call8_v2 : Ref sig .tc := ⟨.hbm, 111, rfl⟩
abbrev main_while0b_v68 : Ref sig .tc := ⟨.hbm, 112, rfl⟩
abbrev main_while0b_v69 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_v76 : Ref sig .tc := ⟨.hbm, 120, rfl⟩
abbrev main_while0b_v77 : Ref sig .tc := ⟨.hbm, 121, rfl⟩
abbrev main_while0b_v78 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_v82 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_v88 : Ref sig .tc := ⟨.hbm, 132, rfl⟩
abbrev main_while0b_v89 : Ref sig .tc := ⟨.hbm, 133, rfl⟩
abbrev main_while0b_v90 : Ref sig .tc := ⟨.hbm, 134, rfl⟩
abbrev main_while0b_v91 : Ref sig .tc := ⟨.hbm, 135, rfl⟩
abbrev main_while0b_v92 : Ref sig .tc := ⟨.hbm, 136, rfl⟩
abbrev main_while0b_v93 : Ref sig .tc := ⟨.hbm, 137, rfl⟩
abbrev main_while0b_v94 : Ref sig .tc := ⟨.hbm, 138, rfl⟩
abbrev main_while0b_v95 : Ref sig .tc := ⟨.hbm, 139, rfl⟩
abbrev main_while0b_v96 : Ref sig .tc := ⟨.hbm, 140, rfl⟩
abbrev main_while0b_v97 : Ref sig .tc := ⟨.hbm, 141, rfl⟩
abbrev main_while0b_v98 : Ref sig .tc := ⟨.hbm, 142, rfl⟩
abbrev main_while0b_v99 : Ref sig .tc := ⟨.hbm, 143, rfl⟩
abbrev main_while0b_v100 : Ref sig .tc := ⟨.hbm, 144, rfl⟩
abbrev main_while0b_v101 : Ref sig .tc := ⟨.hbm, 145, rfl⟩
abbrev main_while0b_v102 : Ref sig .tc := ⟨.hbm, 146, rfl⟩
abbrev main_while0b_call9_v0 : Ref sig .tc := ⟨.hbm, 147, rfl⟩
abbrev main_while0b_call9_c : Ref sig .tc := ⟨.hbm, 148, rfl⟩
abbrev main_while0b_call9_c_0 : Ref sig .tc := ⟨.hbm, 149, rfl⟩
abbrev main_while0b_call9_c_1 : Ref sig .tc := ⟨.hbm, 150, rfl⟩
abbrev main_while0b_call9_c_2 : Ref sig .tc := ⟨.hbm, 151, rfl⟩
abbrev main_while0b_call9_c_3 : Ref sig .tc := ⟨.hbm, 152, rfl⟩
abbrev main_while0b_v103 : Ref sig .tc := ⟨.hbm, 153, rfl⟩
abbrev main_while0b_c_14 : Ref sig .tc := ⟨.hbm, 154, rfl⟩
abbrev main_while0b_v104 : Ref sig .tc := ⟨.hbm, 155, rfl⟩
abbrev main_v27 : Ref sig .tc := ⟨.hbm, 156, rfl⟩
abbrev main_v28 : Ref sig .tc := ⟨.hbm, 157, rfl⟩
abbrev main_v29 : Ref sig .tc := ⟨.hbm, 158, rfl⟩
abbrev main_v30 : Ref sig .tc := ⟨.hbm, 159, rfl⟩
abbrev main_v31 : Ref sig .tc := ⟨.hbm, 160, rfl⟩
abbrev main_v32 : Ref sig .tc := ⟨.hbm, 161, rfl⟩
abbrev main_v33 : Ref sig .tc := ⟨.hbm, 162, rfl⟩
abbrev main_v34 : Ref sig .tc := ⟨.hbm, 163, rfl⟩
abbrev main_v35 : Ref sig .tc := ⟨.hbm, 164, rfl⟩
abbrev main_v36 : Ref sig .tc := ⟨.hbm, 165, rfl⟩
abbrev main_v37 : Ref sig .tc := ⟨.hbm, 166, rfl⟩
abbrev main_v38 : Ref sig .tc := ⟨.hbm, 167, rfl⟩
abbrev main_v39 : Ref sig .tc := ⟨.hbm, 168, rfl⟩
abbrev main_v40 : Ref sig .tc := ⟨.hbm, 169, rfl⟩
abbrev main_v41 : Ref sig .tc := ⟨.hbm, 170, rfl⟩
abbrev main_cst_2 : Ref sig .tc := ⟨.hbm, 171, rfl⟩
abbrev main_v42 : Ref sig .tc := ⟨.hbm, 172, rfl⟩
abbrev main_v43 : Ref sig .tc := ⟨.hbm, 173, rfl⟩
abbrev main_cst_3 : Ref sig .tc := ⟨.hbm, 174, rfl⟩
abbrev main_v44 : Ref sig .tc := ⟨.hbm, 175, rfl⟩
abbrev main_v45 : Ref sig .tc := ⟨.hbm, 176, rfl⟩
abbrev main_cst_4 : Ref sig .tc := ⟨.hbm, 177, rfl⟩
abbrev main_v46 : Ref sig .tc := ⟨.hbm, 178, rfl⟩
abbrev main_v47 : Ref sig .tc := ⟨.hbm, 179, rfl⟩
abbrev main_v48 : Ref sig .tc := ⟨.hbm, 180, rfl⟩
abbrev main_v49 : Ref sig .tc := ⟨.hbm, 181, rfl⟩
abbrev main_v50 : Ref sig .tc := ⟨.hbm, 182, rfl⟩
abbrev main_v51 : Ref sig .tc := ⟨.hbm, 183, rfl⟩
abbrev main_v52 : Ref sig .tc := ⟨.hbm, 184, rfl⟩
abbrev main_v53 : Ref sig .tc := ⟨.hbm, 185, rfl⟩
abbrev main_v54 : Ref sig .tc := ⟨.hbm, 186, rfl⟩
abbrev main_v55 : Ref sig .tc := ⟨.hbm, 187, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S32768x2048 : Shape := ⟨2, ![32768, 2048]⟩
abbrev S1x2048x6152 : Shape := ⟨3, ![1, 2048, 6152]⟩
abbrev S32768x6144 : Shape := ⟨2, ![32768, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S1x2048x6152, .f32⟩
  | .hbm, ⟨2, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v8 : BitVec 32 := Scalar.addi c0_i32_6 c8_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg6 : BitVec 32 := Scf.iv c0_i32_6 c1_i32 k0_t1
  let c256_i32 : BitVec 32 := 256#32
  let v9 : BitVec 32 := Scalar.muli arg6 c256_i32
  v9
def k0_off1 (k0_t1 : Fin k0_t1_loop.trips) : Fin 3 → Nat :=
  let c0_8 : Index := 0#32
  let c0_i32_6 : BitVec 32 := 0#32
  let c1_i32 : BitVec 32 := 1#32
  let arg6 : BitVec 32 := Scf.iv c0_i32_6 c1_i32 k0_t1
  let c256_i32 : BitVec 32 := 256#32
  let v9 : BitVec 32 := Scalar.muli arg6 c256_i32
  let v10 : BitVec 32 := v9
  let v11 : Index := Scalar.indexCast v10
  let c0_9 : Index := 0#32
  ![0, v11.toNat, 0]
def k0_off2 (k0_t1 : Fin k0_t1_loop.trips) : Fin 2 → Nat :=
  let c0_i32_6 : BitVec 32 := 0#32
  let c1_i32 : BitVec 32 := 1#32
  let arg6 : BitVec 32 := Scf.iv c0_i32_6 c1_i32 k0_t1
  let c256_i32 : BitVec 32 := 256#32
  let v9 : BitVec 32 := Scalar.muli arg6 c256_i32
  let v10 : BitVec 32 := v9
  let v15 : Index := Scalar.indexCast v10
  let c0_10 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x2048 : Shape := ⟨2, ![32768, 2048]⟩
abbrev S1x2048x6152 : Shape := ⟨3, ![1, 2048, 6152]⟩
abbrev S2048x6152 : Shape := ⟨2, ![2048, 6152]⟩
abbrev S32768x6152 : Shape := ⟨2, ![32768, 6152]⟩
abbrev S32768x6144 : Shape := ⟨2, ![32768, 6144]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x6152, .f32⟩
  | .hbm, ⟨2, _⟩ => ⟨S32768x2048, .f32⟩
  | .hbm, ⟨3, _⟩ => ⟨S2048x6152, .f32⟩
  | .hbm, ⟨4, _⟩ => ⟨S32768x6152, .f32⟩
  | .hbm, ⟨5, _⟩ => ⟨S32768x6144, .f32⟩
  | .hbm, ⟨6, _⟩ => ⟨S32768x6144, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S32768x2048 : Shape := ⟨2, ![32768, 2048]⟩
abbrev S1x2048x10304 : Shape := ⟨3, ![1, 2048, 10304]⟩
abbrev S32768x4096 : Shape := ⟨2, ![32768, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S1x2048x10304, .f32⟩
  | .hbm, ⟨2, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c8_i32 : BitVec 32 := 8#32
  let v13 : BitVec 32 := Scalar.addi c0_i32_7 c8_i32
  let c1_i32 : BitVec 32 := 1#32
  ⟨c0_i32_7, v13, c1_i32⟩
def k0_mult1 (k0_t1 : Fin k0_t1_loop.trips) : BitVec 32 :=
  let c0_i32_7 : BitVec 32 := 0#32
  let c1_i32 : BitVec 32 := 1#32
  let arg6 : BitVec 32 := Scf.iv c0_i32_7 c1_i32 k0_t1
  let c256_i32 : BitVec 32 := 256#32
  let v14 : BitVec 32 := Scalar.muli arg6 c256_i32
  v14
def k0_off1 (k0_t1 : Fin k0_t1_loop.trips) : Fin 3 → Nat :=
  let c0_9 : Index := 0#32
  let c0_i32_7 : BitVec 32 := 0#32
  let c1_i32 : BitVec 32 := 1#32
  let arg6 : BitVec 32 := Scf.iv c0_i32_7 c1_i32 k0_t1
  let c256_i32 : BitVec 32 := 256#32
  let v14 : BitVec 32 := Scalar.muli arg6 c256_i32
  let v15 : BitVec 32 := v14
  let v16 : Index := Scalar.indexCast v15
  let c0_10 : Index := 0#32
  ![0, v16.toNat, 0]
def k0_off2 (k0_t1 : Fin k0_t1_loop.trips) : Fin 2 → Nat :=
  let c0_i32_7 : BitVec 32 := 0#32
  let c1_i32 : BitVec 32 := 1#32
  let arg6 : BitVec 32 := Scf.iv c0_i32_7 c1_i32 k0_t1
  let c256_i32 : BitVec 32 := 256#32
  let v14 : BitVec 32 := Scalar.muli arg6 c256_i32
  let v15 : BitVec 32 := v14
  let v20 : Index := Scalar.indexCast v15
  let c0_11 : Index := 0#32
  ![v20.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x2048 : Shape := ⟨2, ![32768, 2048]⟩
abbrev S1x2048x10304 : Shape := ⟨3, ![1, 2048, 10304]⟩
abbrev S2048x10304 : Shape := ⟨2, ![2048, 10304]⟩
abbrev S32768x10304 : Shape := ⟨2, ![32768, 10304]⟩
abbrev S32768x4096 : Shape := ⟨2, ![32768, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x10304, .f32⟩
  | .hbm, ⟨2, _⟩ => ⟨S32768x2048, .f32⟩
  | .hbm, ⟨3, _⟩ => ⟨S2048x10304, .f32⟩
  | .hbm, ⟨4, _⟩ => ⟨S32768x10304, .f32⟩
  | .hbm, ⟨5, _⟩ => ⟨S32768x4096, .f32⟩
  | .hbm, ⟨6, _⟩ => ⟨S32768x4096, .f32⟩
  | .hbm, ⟨7, _⟩ => ⟨S32768x4096, .f32⟩
  | .hbm, ⟨8, _⟩ => ⟨S_, .f32⟩
  | .hbm, ⟨9, _⟩ => ⟨S32768x4096, .f32⟩
  | .hbm, ⟨10, _⟩ => ⟨S32768x4096, .f32⟩
  | .hbm, ⟨11, _⟩ => ⟨S_, .f32⟩
  | .hbm, ⟨12, _⟩ => ⟨S32768x4096, .f32⟩
  | .hbm, ⟨13, _⟩ => ⟨S32768x4096, .f32⟩
  | .hbm, ⟨14, _⟩ => ⟨S32768x4096, .f32⟩
  | .hbm, ⟨15, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Kernel4.lean ====
abbrev S32768x2048 : Shape := ⟨2, ![32768, 2048]⟩
abbrev S1x2048x10304 : Shape := ⟨3, ![1, 2048, 10304]⟩
abbrev S4x6144 : Shape := ⟨2, ![4, 6144]⟩
abbrev S6144 : Shape := ⟨1, ![6144]⟩
abbrev S1x6144 : Shape := ⟨2, ![1, 6144]⟩
abbrev S32768x6144 : Shape := ⟨2, ![32768, 6144]⟩
abbrev S1024x2048 : Shape := ⟨2, ![1024, 2048]⟩
abbrev S16x2048 : Shape := ⟨2, ![16, 2048]⟩
abbrev S1x2048x1024 : Shape := ⟨3, ![1, 2048, 1024]⟩
abbrev S4x1024 : Shape := ⟨2, ![4, 1024]⟩
abbrev S1x1024 : Shape := ⟨2, ![1, 1024]⟩
abbrev S1024x1024 : Shape := ⟨2, ![1024, 1024]⟩
abbrev S2048x1024 : Shape := ⟨2, ![2048, 1024]⟩
abbrev S272x1024 : Shape := ⟨2, ![272, 1024]⟩
abbrev S1x256x1024 : Shape := ⟨3, ![1, 256, 1024]⟩
abbrev S256x1024 : Shape := ⟨2, ![256, 1024]⟩
abbrev S256x2048 : Shape := ⟨2, ![256, 2048]⟩
abbrev S272x2048 : Shape := ⟨2, ![272, 2048]⟩

abbrev nBuf : Space → Nat
  | .hbm => 6
  | .vmem => 17
  | .smem => 0
  | _ => 0

abbrev bufTy : (tb : Table) → Fin (tcTables nBuf tb) → BufTy
  | .hbm, ⟨0, _⟩ => ⟨S32768x2048, .bf16⟩
  | .hbm, ⟨1, _⟩ => ⟨S1x2048x10304, .f32⟩
  | .hbm, ⟨2, _⟩ => ⟨S4x6144, .f32⟩
  | .hbm, ⟨3, _⟩ => ⟨S6144, .f32⟩
  | .hbm, ⟨4, _⟩ => ⟨S1x6144, .f32⟩
  | .hbm, ⟨5, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x1024, .f32⟩
  | .local _ .vmem, ⟨5, _⟩ => ⟨S1x2048x1024, .f32⟩
  | .local _ .vmem, ⟨6, _⟩ => ⟨S4x1024, .f32⟩
  | .local _ .vmem, ⟨7, _⟩ => ⟨S4x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | .local _ .vmem, ⟨13, _⟩ => ⟨S272x1024, .f32⟩
  | .local _ .vmem, ⟨14, _⟩ => ⟨S272x1024, .f32⟩
  | .local _ .vmem, ⟨15, _⟩ => ⟨S272x1024, .f32⟩
  | .local _ .vmem, ⟨16, _⟩ => ⟨S272x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_106 : BitVec 32 := 0#32
  let c8_i32 : BitVec 32 := 8#32
  let v162 : BitVec 32 := Scalar.addi c0_i32_106 c8_i32
  let c1_i32_107 : BitVec 32 := 1#32
  ⟨c0_i32_106, v162, c1_i32_107⟩
def k0_mult1 (k0_t1 : Fin k0_t1_loop.trips) : BitVec 32 :=
  let c0_i32_106 : BitVec 32 := 0#32
  let c1_i32_107 : BitVec 32 := 1#32
  let arg13 : BitVec 32 := Scf.iv c0_i32_106 c1_i32_107 k0_t1
  let c256_i32 : BitVec 32 := 256#32
  let v163 : BitVec 32 := Scalar.muli arg13 c256_i32
  v163
def k0_off1 (k0_t1 : Fin k0_t1_loop.trips) : Fin 3 → Nat :=
  let c0_109 : Index := 0#32
  let c0_i32_106 : BitVec 32 := 0#32
  let c1_i32_107 : BitVec 32 := 1#32
  let arg13 : BitVec 32 := Scf.iv c0_i32_106 c1_i32_107 k0_t1
  let c256_i32 : BitVec 32 := 256#32
  let v163 : BitVec 32 := Scalar.muli arg13 c256_i32
  let v164 : BitVec 32 := v163
  let v165 : Index := Scalar.indexCast v164
  let c0_110 : Index := 0#32
  ![0, v165.toNat, 0]
def k0_off2 (k0_t1 : Fin k0_t1_loop.trips) : Fin 2 → Nat :=
  let c0_i32_106 : BitVec 32 := 0#32
  let c1_i32_107 : BitVec 32 := 1#32
  let arg13 : BitVec 32 := Scf.iv c0_i32_106 c1_i32_107 k0_t1
  let c256_i32 : BitVec 32 := 256#32
  let v163 : BitVec 32 := Scalar.muli arg13 c256_i32
  let v164 : BitVec 32 := v163
  let v169 : Index := Scalar.indexCast v164
  let c0_111 : Index := 0#32
  ![v169.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32768x2048 : Shape := ⟨2, ![32768, 2048]⟩
abbrev S1x2048x10304 : Shape := ⟨3, ![1, 2048, 10304]⟩
abbrev S4x6144 : Shape := ⟨2, ![4, 6144]⟩
abbrev S6144 : Shape := ⟨1, ![6144]⟩
abbrev S8x4096x2048 : Shape := ⟨3, ![8, 4096, 2048]⟩
abbrev S2048x10304 : Shape := ⟨2, ![2048, 10304]⟩
abbrev S8x4096x10304 : Shape := ⟨3, ![8, 4096, 10304]⟩
abbrev S8x4096x6144 : Shape := ⟨3, ![8, 4096, 6144]⟩
abbrev S_ : Shape := ⟨0, ![]⟩
abbrev S8x4099x6144 : Shape := ⟨3, ![8, 4099, 6144]⟩
abbrev S1x6144 : Shape := ⟨2, ![1, 6144]⟩
abbrev S1x1x6144 : Shape := ⟨3, ![1, 1, 6144]⟩
abbrev S32768x6144 : Shape := ⟨2, ![32768, 6144]⟩

abbrev nBuf : Space → Nat
  | .hbm => 53
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x10304, .f32⟩
  | .hbm, ⟨2, _⟩ => ⟨S4x6144, .f32⟩
  | .hbm, ⟨3, _⟩ => ⟨S6144, .f32⟩
  | .hbm, ⟨4, _⟩ => ⟨S32768x2048, .f32⟩
  | .hbm, ⟨5, _⟩ => ⟨S8x4096x2048, .f32⟩
  | .hbm, ⟨6, _⟩ => ⟨S2048x10304, .f32⟩
  | .hbm, ⟨7, _⟩ => ⟨S8x4096x10304, .f32⟩
  | .hbm, ⟨8, _⟩ => ⟨S8x4096x6144, .f32⟩
  | .hbm, ⟨9, _⟩ => ⟨S_, .i32⟩
  | .hbm, ⟨10, _⟩ => ⟨S_, .f32⟩
  | .hbm, ⟨11, _⟩ => ⟨S8x4099x6144, .f32⟩
  | .hbm, ⟨12, _⟩ => ⟨S1x6144, .f32⟩
  | .hbm, ⟨13, _⟩ => ⟨S6144, .f32⟩
  | .hbm, ⟨14, _⟩ => ⟨S8x4096x6144, .f32⟩
  | .hbm, ⟨15, _⟩ => ⟨S1x1x6144, .f32⟩
  | .hbm, ⟨16, _⟩ => ⟨S8x4096x6144, .f32⟩
  | .hbm, ⟨17, _⟩ => ⟨S8x4096x6144, .f32⟩
  | .hbm, ⟨18, _⟩ => ⟨S1x6144, .f32⟩
  | .hbm, ⟨19, _⟩ => ⟨S6144, .f32⟩
  | .hbm, ⟨20, _⟩ => ⟨S8x4096x6144, .f32⟩
  | .hbm, ⟨21, _⟩ => ⟨S1x1x6144, .f32⟩
  | .hbm, ⟨22, _⟩ => ⟨S8x4096x6144, .f32⟩
  | .hbm, ⟨23, _⟩ => ⟨S8x4096x6144, .f32⟩
  | .hbm, ⟨24, _⟩ => ⟨S8x4096x6144, .f32⟩
  | .hbm, ⟨25, _⟩ => ⟨S1x6144, .f32⟩
  | .hbm, ⟨26, _⟩ => ⟨S6144, .f32⟩
  | .hbm, ⟨27, _⟩ => ⟨S8x4096x6144, .f32⟩
  | .hbm, ⟨28, _⟩ => ⟨S1x1x6144, .f32⟩
  | .hbm, ⟨29, _⟩ => ⟨S8x4096x6144, .f32⟩
  | .hbm, ⟨30, _⟩ => ⟨S8x4096x6144, .f32⟩
  | .hbm, ⟨31, _⟩ => ⟨S8x4096x6144, .f32⟩
  | .hbm, ⟨32, _⟩ => ⟨S1x6144, .f32⟩
  | .hbm, ⟨33, _⟩ => ⟨S6144, .f32⟩
  | .hbm, ⟨34, _⟩ => ⟨S8x4096x6144, .f32⟩
  | .hbm, ⟨35, _⟩ => ⟨S1x1x6144, .f32⟩
  | .hbm, ⟨36, _⟩ => ⟨S8x4096x6144, .f32⟩
  | .hbm, ⟨37, _⟩ => ⟨S8x4096x6144, .f32⟩
  | .hbm, ⟨38, _⟩ => ⟨S8x4096x6144, .f32⟩
  | .hbm, ⟨39, _⟩ => ⟨S1x1x6144, .f32⟩
  | .hbm, ⟨40, _⟩ => ⟨S8x4096x6144, .f32⟩
  | .hbm, ⟨41, _⟩ => ⟨S8x4096x6144, .f32⟩
  | .hbm, ⟨42, _⟩ => ⟨S8x4096x6144, .f32⟩
  | .hbm, ⟨43, _⟩ => ⟨S8x4096x6144, .f32⟩
  | .hbm, ⟨44, _⟩ => ⟨S_, .f32⟩
  | .hbm, ⟨45, _⟩ => ⟨S8x4096x6144, .f32⟩
  | .hbm, ⟨46, _⟩ => ⟨S8x4096x6144, .f32⟩
  | .hbm, ⟨47, _⟩ => ⟨S_, .f32⟩
  | .hbm, ⟨48, _⟩ => ⟨S8x4096x6144, .f32⟩
  | .hbm, ⟨49, _⟩ => ⟨S8x4096x6144, .f32⟩
  | .hbm, ⟨50, _⟩ => ⟨S8x4096x6144, .f32⟩
  | .hbm, ⟨51, _⟩ => ⟨S32768x6144, .f32⟩
  | .hbm, ⟨52, _⟩ => ⟨S32768x6144, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel5.lean ====
abbrev S32768x4096 : Shape := ⟨2, ![32768, 4096]⟩
abbrev S1x4096x2048 : Shape := ⟨3, ![1, 4096, 2048]⟩
abbrev S32768x2048 : Shape := ⟨2, ![32768, 2048]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩
abbrev S1x256x512 : Shape := ⟨3, ![1, 256, 512]⟩
abbrev S256x512 : Shape := ⟨2, ![256, 512]⟩

abbrev nBuf : Space → Nat
  | .hbm => 4
  | .vmem => 9
  | .smem => 0
  | _ => 0

abbrev bufTy : (tb : Table) → Fin (tcTables nBuf tb) → BufTy
  | .hbm, ⟨0, _⟩ => ⟨S32768x4096, .bf16⟩
  | .hbm, ⟨1, _⟩ => ⟨S1x4096x2048, .f32⟩
  | .hbm, ⟨2, _⟩ => ⟨S32768x2048, .f32⟩
  | .hbm, ⟨3, _⟩ => ⟨S32768x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4096x512, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v9 : BitVec 32 := Scalar.addi c0_i32_8 c16_i32
  let c1_i32 : BitVec 32 := 1#32
  ⟨c0_i32_8, v9, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c256_i32 : BitVec 32 := 256#32
  let v10 : BitVec 32 := Scalar.muli arg7 c256_i32
  v10
def k0_off1 (k0_t1 : Fin k0_t1_loop.trips) : Fin 3 → Nat :=
  let c0_10 : Index := 0#32
  let c0_i32_8 : BitVec 32 := 0#32
  let c1_i32 : BitVec 32 := 1#32
  let arg7 : BitVec 32 := Scf.iv c0_i32_8 c1_i32 k0_t1
  let c256_i32 : BitVec 32 := 256#32
  let v10 : BitVec 32 := Scalar.muli arg7 c256_i32
  let v11 : BitVec 32 := v10
  let v12 : Index := Scalar.indexCast v11
  let c0_11 : Index := 0#32
  ![0, v12.toNat, 0]
def k0_off2 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c256_i32 : BitVec 32 := 256#32
  let v10 : BitVec 32 := Scalar.muli arg7 c256_i32
  let v11 : BitVec 32 := v10
  let v16 : Index := Scalar.indexCast v11
  let c0_12 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32768x4096 : Shape := ⟨2, ![32768, 4096]⟩
abbrev S1x4096x2048 : Shape := ⟨3, ![1, 4096, 2048]⟩
abbrev S32768x2048 : Shape := ⟨2, ![32768, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S1x4096x2048, .f32⟩
  | .hbm, ⟨2, _⟩ => ⟨S32768x2048, .f32⟩
  | .hbm, ⟨3, _⟩ => ⟨S32768x4096, .f32⟩
  | .hbm, ⟨4, _⟩ => ⟨S4096x2048, .f32⟩
  | .hbm, ⟨5, _⟩ => ⟨S32768x2048, .f32⟩
  | .hbm, ⟨6, _⟩ => ⟨S32768x2048, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S32768x2048 : Shape := ⟨2, ![32768, 2048]⟩
abbrev S1x2048x2048 : Shape := ⟨3, ![1, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 4
  | .vmem => 9
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S32768x2048, .f32⟩
  | .hbm, ⟨3, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c8_i32 : BitVec 32 := 8#32
  let v9 : BitVec 32 := Scalar.addi c0_i32_8 c8_i32
  let c1_i32 : BitVec 32 := 1#32
  ⟨c0_i32_8, v9, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c256_i32 : BitVec 32 := 256#32
  let v10 : BitVec 32 := Scalar.muli arg7 c256_i32
  v10
def k0_off1 (k0_t1 : Fin k0_t1_loop.trips) : Fin 3 → Nat :=
  let c0_10 : Index := 0#32
  let c0_i32_8 : BitVec 32 := 0#32
  let c1_i32 : BitVec 32 := 1#32
  let arg7 : BitVec 32 := Scf.iv c0_i32_8 c1_i32 k0_t1
  let c256_i32 : BitVec 32 := 256#32
  let v10 : BitVec 32 := Scalar.muli arg7 c256_i32
  let v11 : BitVec 32 := v10
  let v12 : Index := Scalar.indexCast v11
  let c0_11 : Index := 0#32
  ![0, v12.toNat, 0]
def k0_off2 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c256_i32 : BitVec 32 := 256#32
  let v10 : BitVec 32 := Scalar.muli arg7 c256_i32
  let v11 : BitVec 32 := v10
  let v16 : Index := Scalar.indexCast v11
  let c0_12 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32768x2048 : Shape := ⟨2, ![32768, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S32768x2048, .f32⟩
  | .hbm, ⟨3, _⟩ => ⟨S32768x2048, .f32⟩
  | .hbm, ⟨4, _⟩ => ⟨S2048x2048, .f32⟩
  | .hbm, ⟨5, _⟩ => ⟨S32768x2048, .f32⟩
  | .hbm, ⟨6, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8x4096x6144 : Shape := ⟨3, ![8, 4096, 6144]⟩
abbrev S8x4096x128 : Shape := ⟨3, ![8, 4096, 128]⟩
abbrev S2048 : Shape := ⟨1, ![2048]⟩
abbrev S1x2048 : Shape := ⟨2, ![1, 2048]⟩
abbrev S8x4096x2048 : Shape := ⟨3, ![8, 4096, 2048]⟩
abbrev S1x256x6144 : Shape := ⟨3, ![1, 256, 6144]⟩
abbrev S1x256x128 : Shape := ⟨3, ![1, 256, 128]⟩
abbrev S1x256x2048 : Shape := ⟨3, ![1, 256, 2048]⟩
abbrev S4x256x512 : Shape := ⟨3, ![4, 256, 512]⟩
abbrev S4x1x256 : Shape := ⟨3, ![4, 1, 256]⟩
abbrev S4x8x128 : Shape := ⟨3, ![4, 8, 128]⟩
abbrev S256x256 : Shape := ⟨2, ![256, 256]⟩
abbrev S256x128 : Shape := ⟨2, ![256, 128]⟩
abbrev S128x256 : Shape := ⟨2, ![128, 256]⟩
abbrev S1x256x256 : Shape := ⟨3, ![1, 256, 256]⟩
abbrev S1x256x512 : Shape := ⟨3, ![1, 256, 512]⟩
abbrev S256x512 : Shape := ⟨2, ![256, 512]⟩
abbrev S256x1 : Shape := ⟨2, ![256, 1]⟩
abbrev S1x256 : Shape := ⟨2, ![1, 256]⟩
abbrev S1x1x1 : Shape := ⟨3, ![1, 1, 1]⟩
abbrev S1x1 : Shape := ⟨2, ![1, 1]⟩
abbrev S1x1x256 : Shape := ⟨3, ![1, 1, 256]⟩
abbrev S256 : Shape := ⟨1, ![256]⟩
abbrev S1x512 : Shape := ⟨2, ![1, 512]⟩
abbrev S1 : Shape := ⟨1, ![1]⟩
abbrev S8x128 : Shape := ⟨2, ![8, 128]⟩
abbrev S1x8x128 : Shape := ⟨3, ![1, 8, 128]⟩

abbrev nBuf : Space → Nat
  | .hbm => 5
  | .vmem => 10
  | .smem => 0
  | _ => 0

abbrev bufTy : (tb : Table) → Fin (tcTables nBuf tb) → BufTy
  | .hbm, ⟨0, _⟩ => ⟨S8x4096x6144, .bf16⟩
  | .hbm, ⟨1, _⟩ => ⟨S8x4096x128, .f32⟩
  | .hbm, ⟨2, _⟩ => ⟨S2048, .f32⟩
  | .hbm, ⟨3, _⟩ => ⟨S1x2048, .f32⟩
  | .hbm, ⟨4, _⟩ => ⟨S8x4096x2048, .bf16⟩
  | .local _ .vmem, ⟨0, _⟩ => ⟨S1x256x6144, .bf16⟩
  | .local _ .vmem, ⟨1, _⟩ => ⟨S1x256x6144, .bf16⟩
  | .local _ .vmem, ⟨2, _⟩ => ⟨S1x256x128, .f32⟩
  | .local _ .vmem, ⟨3, _⟩ => ⟨S1x256x128, .f32⟩
  | .local _ .vmem, ⟨4, _⟩ => ⟨S1x2048, .f32⟩
  | .local _ .vmem, ⟨5, _⟩ => ⟨S1x256x2048, .bf16⟩
  | .local _ .vmem, ⟨6, _⟩ => ⟨S1x256x2048, .bf16⟩
  | .local _ .vmem, ⟨7, _⟩ => ⟨S4x256x512, .f32⟩
  | .local _ .vmem, ⟨8, _⟩ => ⟨S4x1x256, .f32⟩
  | .local _ .vmem, ⟨9, _⟩ => ⟨S4x8x128, .f32⟩
  | _, _ => ⟨S8x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x4096x6144 : Shape := ⟨3, ![8, 4096, 6144]⟩
abbrev S8x4096x128 : Shape := ⟨3, ![8, 4096, 128]⟩
abbrev S2048 : Shape := ⟨1, ![2048]⟩
abbrev S8x4096x1024 : Shape := ⟨3, ![8, 4096, 1024]⟩
abbrev S8x4096x2048 : Shape := ⟨3, ![8, 4096, 2048]⟩
abbrev S_ : Shape := ⟨0, ![]⟩
abbrev S8x4096x4 : Shape := ⟨3, ![8, 4096, 4]⟩
abbrev S8x4096x4x256 : Shape := ⟨4, ![8, 4096, 4, 256]⟩
abbrev S8x64x64x4x256 : Shape := ⟨5, ![8, 64, 64, 4, 256]⟩
abbrev S64x8x4x64x256 : Shape := ⟨5, ![64, 8, 4, 64, 256]⟩
abbrev S8x4096x4x512 : Shape := ⟨4, ![8, 4096, 4, 512]⟩
abbrev S8x64x64x4x512 : Shape := ⟨5, ![8, 64, 64, 4, 512]⟩
abbrev S64x8x4x64x512 : Shape := ⟨5, ![64, 8, 4, 64, 512]⟩
abbrev S8x64x64x4 : Shape := ⟨4, ![8, 64, 64, 4]⟩
abbrev S64x8x4x64 : Shape := ⟨4, ![64, 8, 4, 64]⟩
abbrev S64x64 : Shape := ⟨2, ![64, 64]⟩
abbrev S8x4x256x512 : Shape := ⟨4, ![8, 4, 256, 512]⟩
abbrev S8x4x256 : Shape := ⟨3, ![8, 4, 256]⟩
abbrev S8x4 : Shape := ⟨2, ![8, 4]⟩
abbrev S1x8x4x64x256 : Shape := ⟨5, ![1, 8, 4, 64, 256]⟩
abbrev S8x4x64x256 : Shape := ⟨4, ![8, 4, 64, 256]⟩
abbrev S1x8x4x64x512 : Shape := ⟨5, ![1, 8, 4, 64, 512]⟩
abbrev S8x4x64x512 : Shape := ⟨4, ![8, 4, 64, 512]⟩
abbrev S1x8x4x64 : Shape := ⟨4, ![1, 8, 4, 64]⟩
abbrev S8x4x64 : Shape := ⟨3, ![8, 4, 64]⟩
abbrev S8x4x64x1 : Shape := ⟨4, ![8, 4, 64, 1]⟩
abbrev S8x4x1x64 : Shape := ⟨4, ![8, 4, 1, 64]⟩
abbrev S8x4x64x64 : Shape := ⟨4, ![8, 4, 64, 64]⟩
abbrev S8x4x1 : Shape := ⟨3, ![8, 4, 1]⟩
abbrev S8x4x1x1 : Shape := ⟨4, ![8, 4, 1, 1]⟩
abbrev S8x4096x4x1 : Shape := ⟨4, ![8, 4096, 4, 1]⟩
abbrev S4x512 : Shape := ⟨2, ![4, 512]⟩
abbrev S1x1x4x512 : Shape := ⟨4, ![1, 1, 4, 512]⟩

abbrev nBuf : Space → Nat
  | .hbm => 209
  | .vmem => 0
  | .smem => 0
  | _ => 0

abbrev hbmTy0_0 (i : Nat) : BufTy := match i % 128 with
  | 0 => ⟨S8x4096x6144, .bf16⟩
  | 1 => ⟨S8x4096x128, .f32⟩
  | 2 => ⟨S2048, .f32⟩
  | 3 => ⟨S8x4096x6144, .f32⟩
  | 4 => ⟨S8x4096x1024, .f32⟩
  | 5 => ⟨S8x4096x1024, .f32⟩
  | 6 => ⟨S8x4096x2048, .f32⟩
  | 7 => ⟨S8x4096x2048, .f32⟩
  | 8 => ⟨S_, .f32⟩
  | 9 => ⟨S8x4096x1024, .f32⟩
  | 10 => ⟨S8x4096x1024, .f32⟩
  | 11 => ⟨S8x4096x4, .f32⟩
  | 12 => ⟨S8x4096x4, .f32⟩
  | 13 => ⟨S8x4096x4, .f32⟩
  | 14 => ⟨S8x4096x4, .f32⟩
  | 15 => ⟨S8x4096x4, .f32⟩
  | 16 => ⟨S8x4096x4, .f32⟩
  | 17 => ⟨S8x4096x4x256, .f32⟩
  | 18 => ⟨S8x64x64x4x256, .f32⟩
  | 19 => ⟨S64x8x4x64x256, .f32⟩
  | 20 => ⟨S8x4096x4x256, .f32⟩
  | 21 => ⟨S8x64x64x4x256, .f32⟩
  | 22 => ⟨S64x8x4x64x256, .f32⟩
  | 23 => ⟨S8x4096x4x512, .f32⟩
  | 24 => ⟨S8x64x64x4x512, .f32⟩
  | 25 => ⟨S64x8x4x64x512, .f32⟩
  | 26 => ⟨S8x64x64x4, .f32⟩
  | 27 => ⟨S64x8x4x64, .f32⟩
  | 28 => ⟨S8x64x64x4, .f32⟩
  | 29 => ⟨S64x8x4x64, .f32⟩
  | 30 => ⟨S_, .i1⟩
  | 31 => ⟨S64x64, .i1⟩
  | 32 => ⟨S64x64, .i32⟩
  | 33 => ⟨S_, .i32⟩
  | 34 => ⟨S64x64, .i32⟩
  | 35 => ⟨S64x64, .i32⟩
  | 36 => ⟨S64x64, .i32⟩
  | 37 => ⟨S64x64, .i1⟩
  | 38 => ⟨S_, .i1⟩
  | 39 => ⟨S64x64, .i1⟩
  | 40 => ⟨S64x64, .i1⟩
  | 41 => ⟨S_, .f32⟩
  | 42 => ⟨S8x4x256x512, .f32⟩
  | 43 => ⟨S_, .f32⟩
  | 44 => ⟨S8x4x256, .f32⟩
  | 45 => ⟨S_, .f32⟩
  | 46 => ⟨S8x4, .f32⟩
  | 47 => ⟨S_, .f32⟩
  | 48 => ⟨S64x8x4x64x512, .f32⟩
  | 49 => ⟨S_, .i32⟩
  | 50 => ⟨S64x8x4x64x256, .f32⟩
  | 51 => ⟨S64x8x4x64x256, .f32⟩
  | 52 => ⟨S64x8x4x64x512, .f32⟩
  | 53 => ⟨S64x8x4x64, .f32⟩
  | 54 => ⟨S64x8x4x64, .f32⟩
  | 55 => ⟨S64x64, .i1⟩
  | 56 => ⟨S_, .i32⟩
  | 57 => ⟨S8x4x256x512, .f32⟩
  | 58 => ⟨S8x4x256, .f32⟩
  | 59 => ⟨S8x4, .f32⟩
  | 60 => ⟨S64x8x4x64x512, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S1x8x4x64x256, .f32⟩
  | 68 => ⟨S8x4x64x256, .f32⟩
  | 69 => ⟨S_, .i32⟩
  | 70 => ⟨S_, .i32⟩
  | 71 => ⟨S_, .i32⟩
  | 72 => ⟨S_, .i32⟩
  | 73 => ⟨S1x8x4x64x256, .f32⟩
  | 74 => ⟨S8x4x64x256, .f32⟩
  | 75 => ⟨S_, .i32⟩
  | 76 => ⟨S_, .i32⟩
  | 77 => ⟨S_, .i32⟩
  | 78 => ⟨S_, .i32⟩
  | 79 => ⟨S1x8x4x64x512, .f32⟩
  | 80 => ⟨S8x4x64x512, .f32⟩
  | 81 => ⟨S_, .i32⟩
  | 82 => ⟨S_, .i32⟩
  | 83 => ⟨S_, .i32⟩
  | 84 => ⟨S1x8x4x64, .f32⟩
  | 85 => ⟨S8x4x64, .f32⟩
  | 86 => ⟨S_, .i32⟩
  | 87 => ⟨S_, .i32⟩
  | 88 => ⟨S_, .i32⟩
  | 89 => ⟨S1x8x4x64, .f32⟩
  | 90 => ⟨S8x4x64, .f32⟩
  | 91 => ⟨S_, .f32⟩
  | 92 => ⟨S_, .f32⟩
  | 93 => ⟨S8x4x64, .f32⟩
  | 94 => ⟨S8x4x64x1, .f32⟩
  | 95 => ⟨S8x4x1x64, .f32⟩
  | 96 => ⟨S8x4x64x64, .f32⟩
  | 97 => ⟨S8x4x64x64, .f32⟩
  | 98 => ⟨S8x4x64x64, .f32⟩
  | 99 => ⟨S8x4x1x64, .f32⟩
  | 100 => ⟨S8x4x64x64, .f32⟩
  | 101 => ⟨S8x4x64x64, .f32⟩
  | 102 => ⟨S_, .f32⟩
  | 103 => ⟨S_, .f32⟩
  | 104 => ⟨S8x4x64x64, .i1⟩
  | 105 => ⟨S8x4x64x64, .f32⟩
  | 106 => ⟨S8x4x64x64, .f32⟩
  | 107 => ⟨S8x4x1, .f32⟩
  | 108 => ⟨S8x4x64, .f32⟩
  | 109 => ⟨S8x4x64, .f32⟩
  | 110 => ⟨S_, .f32⟩
  | 111 => ⟨S8x4x64, .f32⟩
  | 112 => ⟨S8x4x64, .f32⟩
  | 113 => ⟨S8x4x64x64, .f32⟩
  | 114 => ⟨S8x4x64x1, .f32⟩
  | 115 => ⟨S8x4x64x64, .f32⟩
  | 116 => ⟨S8x4x64x64, .f32⟩
  | 117 => ⟨S8x4x64x64, .f32⟩
  | 118 => ⟨S8x4x64x64, .f32⟩
  | 119 => ⟨S8x4x64, .f32⟩
  | 120 => ⟨S8x4x64, .f32⟩
  | 121 => ⟨S8x4x64x512, .f32⟩
  | 122 => ⟨S8x4x64x1, .f32⟩
  | 123 => ⟨S8x4x64x512, .f32⟩
  | 124 => ⟨S8x4x64x512, .f32⟩
  | 125 => ⟨S8x4x64x512, .f32⟩
  | 126 => ⟨S8x4x64x512, .f32⟩
  | 127 => ⟨S_, .f32⟩
  | _ => ⟨S8x4096x6144, .bf16⟩

abbrev hbmTy0_1 (i : Nat) : BufTy := match i % 128 with
  | 0 => ⟨S8x4x64, .f32⟩
  | 1 => ⟨S8x4x64, .f32⟩
  | 2 => ⟨S8x4x64, .f32⟩
  | 3 => ⟨S8x4x64, .f32⟩
  | 4 => ⟨S8x4x64, .f32⟩
  | 5 => ⟨S8x4x64, .f32⟩
  | 6 => ⟨S8x4x64, .f32⟩
  | 7 => ⟨S8x4x64, .f32⟩
  | 8 => ⟨S8x4x64x1, .f32⟩
  | 9 => ⟨S8x4x64x512, .f32⟩
  | 10 => ⟨S8x4x64x512, .f32⟩
  | 11 => ⟨S8x4x1, .f32⟩
  | 12 => ⟨S8x4, .f32⟩
  | 13 => ⟨S8x4x1, .f32⟩
  | 14 => ⟨S8x4x64, .f32⟩
  | 15 => ⟨S8x4x64, .f32⟩
  | 16 => ⟨S8x4x64, .f32⟩
  | 17 => ⟨S8x4, .f32⟩
  | 18 => ⟨S_, .f32⟩
  | 19 => ⟨S8x4, .f32⟩
  | 20 => ⟨S8x4, .f32⟩
  | 21 => ⟨S8x4x1, .f32⟩
  | 22 => ⟨S8x4x64, .f32⟩
  | 23 => ⟨S8x4x64, .f32⟩
  | 24 => ⟨S8x4x64, .f32⟩
  | 25 => ⟨S8x4, .f32⟩
  | 26 => ⟨S8x4, .f32⟩
  | 27 => ⟨S8x4, .f32⟩
  | 28 => ⟨S8x4x1x1, .f32⟩
  | 29 => ⟨S8x4x256x512, .f32⟩
  | 30 => ⟨S8x4x256x512, .f32⟩
  | 31 => ⟨S8x4x64x1, .f32⟩
  | 32 => ⟨S8x4x64x256, .f32⟩
  | 33 => ⟨S8x4x64x256, .f32⟩
  | 34 => ⟨S8x4x256x512, .f32⟩
  | 35 => ⟨S8x4x256x512, .f32⟩
  | 36 => ⟨S8x4x1, .f32⟩
  | 37 => ⟨S8x4x256, .f32⟩
  | 38 => ⟨S8x4x256, .f32⟩
  | 39 => ⟨S8x4x256, .f32⟩
  | 40 => ⟨S8x4x256, .f32⟩
  | 41 => ⟨S1x8x4x64x512, .f32⟩
  | 42 => ⟨S_, .i32⟩
  | 43 => ⟨S_, .i32⟩
  | 44 => ⟨S_, .i32⟩
  | 45 => ⟨S_, .i32⟩
  | 46 => ⟨S64x8x4x64x512, .f32⟩
  | 47 => ⟨S_, .i32⟩
  | 48 => ⟨S_, .i32⟩
  | 49 => ⟨S8x64x64x4x512, .f32⟩
  | 50 => ⟨S8x4096x4x512, .f32⟩
  | 51 => ⟨S8x4096x4x512, .f32⟩
  | 52 => ⟨S_, .f32⟩
  | 53 => ⟨S8x4096x4, .f32⟩
  | 54 => ⟨S8x4096x4x1, .f32⟩
  | 55 => ⟨S_, .f32⟩
  | 56 => ⟨S8x4096x4x1, .f32⟩
  | 57 => ⟨S8x4096x4x1, .f32⟩
  | 58 => ⟨S_, .f32⟩
  | 59 => ⟨S8x4096x4x1, .f32⟩
  | 60 => ⟨S8x4096x4x1, .f32⟩
  | 61 => ⟨S8x4096x4x1, .f32⟩
  | 62 => ⟨S8x4096x4x512, .f32⟩
  | 63 => ⟨S8x4096x4x512, .f32⟩
  | 64 => ⟨S4x512, .f32⟩
  | 65 => ⟨S1x1x4x512, .f32⟩
  | 66 => ⟨S8x4096x4x512, .f32⟩
  | 67 => ⟨S8x4096x4x512, .f32⟩
  | 68 => ⟨S8x4096x2048, .bf16⟩
  | 69 => ⟨S8x4096x2048, .f32⟩
  | 70 => ⟨S8x4096x2048, .f32⟩
  | 71 => ⟨S8x4096x2048, .f32⟩
  | 72 => ⟨S8x4096x2048, .f32⟩
  | 73 => ⟨S_, .f32⟩
  | 74 => ⟨S8x4096x2048, .f32⟩
  | 75 => ⟨S8x4096x2048, .f32⟩
  | 76 => ⟨S_, .f32⟩
  | 77 => ⟨S8x4096x2048, .f32⟩
  | 78 => ⟨S8x4096x2048, .f32⟩
  | 79 => ⟨S8x4096x2048, .f32⟩
  | 80 => ⟨S8x4096x2048, .bf16⟩
  | _ => ⟨S8x4096x6144, .bf16⟩

abbrev hbmTy (i : Nat) : BufTy := match i / 128 with
  | 0 => hbmTy0_0 i
  | 1 => hbmTy0_1 i
  | _ => ⟨S8x4096x6144, .bf16⟩

abbrev bufTy : (tb : Table) → Fin (tcTables nBuf tb) → BufTy
  | .hbm, ⟨i, _⟩ => hbmTy i
  | _, _ => ⟨S8x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_v26 : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_c_0 : Ref sig .tc := ⟨.hbm, 38, rfl⟩
abbrev main_call0_v5 : Ref sig .tc := ⟨.hbm, 39, rfl⟩
abbrev main_v27 : Ref sig .tc := ⟨.hbm, 40, rfl⟩
abbrev main_cst_0 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_c_4 : Ref sig .tc := ⟨.hbm, 49, rfl⟩
abbrev main_v32_0 : Ref sig .tc := ⟨.hbm, 50, rfl⟩
abbrev main_v32_1 : Ref sig .tc := ⟨.hbm, 51, rfl⟩
abbrev main_v32_2 : Ref sig .tc := ⟨.hbm, 52, rfl⟩
abbrev main_v32_3 : Ref sig .tc := ⟨.hbm, 53, rfl⟩
abbrev main_v32_4 : Ref sig .tc := ⟨.hbm, 54, rfl⟩
abbrev main_v32_5 : Ref sig .tc := ⟨.hbm, 55, rfl⟩
abbrev main_v32_6 : Ref sig .tc := ⟨.hbm, 56, rfl⟩
abbrev main_v32_7 : Ref sig .tc := ⟨.hbm, 57, rfl⟩
abbrev main_v32_8 : Ref sig .tc := ⟨.hbm, 58, rfl⟩
abbrev main_v32_9 : Ref sig .tc := ⟨.hbm, 59, rfl⟩
abbrev main_v32_10 : Ref sig .tc := ⟨.hbm, 60, rfl⟩
abbrev main_while0c_c_20 : Ref sig .tc := ⟨.hbm, 61, rfl⟩
abbrev main_while0c_v60 : Ref sig .tc := ⟨.hbm, 62, rfl⟩
abbrev main_while0b_call1_c : Ref sig .tc := ⟨.hbm, 63, rfl⟩
abbrev main_while0b_call1_c_0 : Ref sig .tc := ⟨.hbm, 64, rfl⟩
abbrev main_while0b_call1_c_1 : Ref sig .tc := ⟨.hbm, 65, rfl⟩
abbrev main_while0b_call1_c_2 : Ref sig .tc := ⟨.hbm, 66, rfl⟩
abbrev main_while0b_call1_v0 : Ref sig .tc := ⟨.hbm, 67, rfl⟩
abbrev main_while0b_v60 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_c_2 : Ref sig .tc := ⟨.hbm, 72, rfl⟩
abbrev main_while0b_call2_v0 : Ref sig .tc := ⟨.hbm, 73, rfl⟩
abbrev main_while0b_v61 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_c_2 : Ref sig .tc := ⟨.hbm, 78, rfl⟩
abbrev main_while0b_call3_v0 : Ref sig .tc := ⟨.hbm, 79, rfl⟩
abbrev main_while0b_v62 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_c_1 : Ref sig .tc := ⟨.hbm, 83, rfl⟩
abbrev main_while0b_call4_v0 : Ref sig .tc := ⟨.hbm, 84, rfl⟩
abbrev main_while0b_v63 : Ref sig .tc := ⟨.hbm, 85, rfl⟩
abbrev main_while0b_call5_c : Ref sig .tc := ⟨.hbm, 86, rfl⟩
abbrev main_while0b_call5_c_0 : Ref sig .tc := ⟨.hbm, 87, rfl⟩
abbrev main_while0b_call5_c_1 : Ref sig .tc := ⟨.hbm, 88, rfl⟩
abbrev main_while0b_call5_v0 : Ref sig .tc := ⟨.hbm, 89, rfl⟩
abbrev main_while0b_v64 : Ref sig .tc := ⟨.hbm, 90, rfl⟩
abbrev main_while0b_call6_call0_cst : Ref sig .tc := ⟨.hbm, 91, rfl⟩
abbrev main_while0b_call6_call0_v0 : Ref sig .tc := ⟨.hbm, 92, rfl⟩
abbrev main_while0b_v65 : Ref sig .tc := ⟨.hbm, 93, rfl⟩
abbrev main_while0b_v66 : Ref sig .tc := ⟨.hbm, 94, rfl⟩
abbrev main_while0b_v67 : Ref sig .tc := ⟨.hbm, 95, rfl⟩
abbrev main_while0b_v68 : Ref sig .tc := ⟨.hbm, 96, rfl⟩
abbrev main_while0b_v69 : Ref sig .tc := ⟨.hbm, 97, rfl⟩
abbrev main_while0b_v70 : Ref sig .tc := ⟨.hbm, 98, rfl⟩
abbrev main_while0b_v71 : Ref sig .tc := ⟨.hbm, 99, rfl⟩
abbrev main_while0b_v72 : Ref sig .tc := ⟨.hbm, 100, rfl⟩
abbrev main_while0b_v73 : Ref sig .tc := ⟨.hbm, 101, rfl⟩
abbrev main_while0b_cst_20 : Ref sig .tc := ⟨.hbm, 102, rfl⟩
abbrev main_while0b_call7_v0 : Ref sig .tc := ⟨.hbm, 103, rfl⟩
abbrev main_while0b_call7_v1 : Ref sig .tc := ⟨.hbm, 104, rfl⟩
abbrev main_while0b_call7_v2 : Ref sig .tc := ⟨.hbm, 105, rfl⟩
abbrev main_while0b_v74 : Ref sig .tc := ⟨.hbm, 106, rfl⟩
abbrev main_while0b_v75 : Ref sig .tc := ⟨.hbm, 107, rfl⟩
abbrev main_while0b_v76 : Ref sig .tc := ⟨.hbm, 108, rfl⟩
abbrev main_while0b_v77 : Ref sig .tc := ⟨.hbm, 109, rfl⟩
abbrev main_while0b_cst_21 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_v81 : Ref sig .tc := ⟨.hbm, 114, rfl⟩
abbrev main_while0b_v82 : Ref sig .tc := ⟨.hbm, 115, rfl⟩
abbrev main_while0b_v83 : Ref sig .tc := ⟨.hbm, 116, rfl⟩
abbrev main_while0b_v84 : Ref sig .tc := ⟨.hbm, 117, rfl⟩
abbrev main_while0b_v85 : Ref sig .tc := ⟨.hbm, 118, rfl⟩
abbrev main_while0b_v86 : Ref sig .tc := ⟨.hbm, 119, rfl⟩
abbrev main_while0b_v87 : Ref sig .tc := ⟨.hbm, 120, rfl⟩
abbrev main_while0b_v88 : Ref sig .tc := ⟨.hbm, 121, rfl⟩
abbrev main_while0b_v89 : Ref sig .tc := ⟨.hbm, 122, rfl⟩
abbrev main_while0b_v90 : Ref sig .tc := ⟨.hbm, 123, rfl⟩
abbrev main_while0b_v91 : Ref sig .tc := ⟨.hbm, 124, rfl⟩
abbrev main_while0b_v92 : Ref sig .tc := ⟨.hbm, 125, rfl⟩
abbrev main_while0b_v93 : Ref sig .tc := ⟨.hbm, 126, rfl⟩
abbrev main_while0b_cst_22 : Ref sig .tc := ⟨.hbm, 127, rfl⟩
abbrev main_while0b_v94 : Ref sig .tc := ⟨.hbm, 128, rfl⟩
abbrev main_while0b_v95 : Ref sig .tc := ⟨.hbm, 129, rfl⟩
abbrev main_while0b_v96 : Ref sig .tc := ⟨.hbm, 130, rfl⟩
abbrev main_while0b_v97 : Ref sig .tc := ⟨.hbm, 131, rfl⟩
abbrev main_while0b_v98 : Ref sig .tc := ⟨.hbm, 132, rfl⟩
abbrev main_while0b_v99 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_v109 : Ref sig .tc := ⟨.hbm, 143, rfl⟩
abbrev main_while0b_v110 : Ref sig .tc := ⟨.hbm, 144, rfl⟩
abbrev main_while0b_v111 : Ref sig .tc := ⟨.hbm, 145, rfl⟩
abbrev main_while0b_cst_23 : Ref sig .tc := ⟨.hbm, 146, rfl⟩
abbrev main_while0b_v112 : Ref sig .tc := ⟨.hbm, 147, rfl⟩
abbrev main_while0b_v113 : Ref sig .tc := ⟨.hbm, 148, rfl⟩
abbrev main_while0b_v114 : Ref sig .tc := ⟨.hbm, 149, rfl⟩
abbrev main_while0b_v115 : Ref sig .tc := ⟨.hbm, 150, rfl⟩
abbrev main_while0b_v116 : Ref sig .tc := ⟨.hbm, 151, rfl⟩
abbrev main_while0b_v117 : Ref sig .tc := ⟨.hbm, 152, rfl⟩
abbrev main_while0b_v118 : Ref sig .tc := ⟨.hbm, 153, rfl⟩
abbrev main_while0b_v119 : Ref sig .tc := ⟨.hbm, 154, rfl⟩
abbrev main_while0b_v120 : Ref sig .tc := ⟨.hbm, 155, rfl⟩
abbrev main_while0b_v121 : Ref sig .tc := ⟨.hbm, 156, rfl⟩
abbrev main_while0b_v122 : Ref sig .tc := ⟨.hbm, 157, rfl⟩
abbrev main_while0b_v123 : Ref sig .tc := ⟨.hbm, 158, rfl⟩
abbrev main_while0b_v124 : Ref sig .tc := ⟨.hbm, 159, rfl⟩
abbrev main_while0b_v125 : Ref sig .tc := ⟨.hbm, 160, rfl⟩
abbrev main_while0b_v126 : Ref sig .tc := ⟨.hbm, 161, rfl⟩
abbrev main_while0b_v127 : Ref sig .tc := ⟨.hbm, 162, rfl⟩
abbrev main_while0b_v128 : Ref sig .tc := ⟨.hbm, 163, rfl⟩
abbrev main_while0b_v129 : Ref sig .tc := ⟨.hbm, 164, rfl⟩
abbrev main_while0b_v130 : Ref sig .tc := ⟨.hbm, 165, rfl⟩
abbrev main_while0b_v131 : Ref sig .tc := ⟨.hbm, 166, rfl⟩
abbrev main_while0b_v132 : Ref sig .tc := ⟨.hbm, 167, rfl⟩
abbrev main_while0b_v133 : Ref sig .tc := ⟨.hbm, 168, rfl⟩
abbrev main_while0b_call8_v0 : Ref sig .tc := ⟨.hbm, 169, rfl⟩
abbrev main_while0b_call8_c : Ref sig .tc := ⟨.hbm, 170, rfl⟩
abbrev main_while0b_call8_c_0 : Ref sig .tc := ⟨.hbm, 171, rfl⟩
abbrev main_while0b_call8_c_1 : Ref sig .tc := ⟨.hbm, 172, rfl⟩
abbrev main_while0b_call8_c_2 : Ref sig .tc := ⟨.hbm, 173, rfl⟩
abbrev main_while0b_v134 : Ref sig .tc := ⟨.hbm, 174, rfl⟩
abbrev main_while0b_c_24 : Ref sig .tc := ⟨.hbm, 175, rfl⟩
abbrev main_while0b_v135 : Ref sig .tc := ⟨.hbm, 176, rfl⟩
abbrev main_v33 : Ref sig .tc := ⟨.hbm, 177, rfl⟩
abbrev main_v34 : Ref sig .tc := ⟨.hbm, 178, rfl⟩
abbrev main_v35 : Ref sig .tc := ⟨.hbm, 179, rfl⟩
abbrev main_cst_5 : Ref sig .tc := ⟨.hbm, 180, rfl⟩
abbrev main_v36 : Ref sig .tc := ⟨.hbm, 181, rfl⟩
abbrev main_v37 : Ref sig .tc := ⟨.hbm, 182, rfl⟩
abbrev main_cst_6 : Ref sig .tc := ⟨.hbm, 183, rfl⟩
abbrev main_v38 : Ref sig .tc := ⟨.hbm, 184, rfl⟩
abbrev main_v39 : Ref sig .tc := ⟨.hbm, 185, rfl⟩
abbrev main_cst_7 : Ref sig .tc := ⟨.hbm, 186, rfl⟩
abbrev main_v40 : Ref sig .tc := ⟨.hbm, 187, rfl⟩
abbrev main_v41 : Ref sig .tc := ⟨.hbm, 188, rfl⟩
abbrev main_v42 : Ref sig .tc := ⟨.hbm, 189, rfl⟩
abbrev main_v43 : Ref sig .tc := ⟨.hbm, 190, rfl⟩
abbrev main_v44 : Ref sig .tc := ⟨.hbm, 191, rfl⟩
abbrev main_v45 : Ref sig .tc := ⟨.hbm, 192, rfl⟩
abbrev main_v46 : Ref sig .tc := ⟨.hbm, 193, rfl⟩
abbrev main_v47 : Ref sig .tc := ⟨.hbm, 194, rfl⟩
abbrev main_v48 : Ref sig .tc := ⟨.hbm, 195, rfl⟩
abbrev main_v49 : Ref sig .tc := ⟨.hbm, 196, rfl⟩
abbrev main_v50 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_cst_8 : Ref sig .tc := ⟨.hbm, 201, rfl⟩
abbrev main_v54 : Ref sig .tc := ⟨.hbm, 202, rfl⟩
abbrev main_v55 : Ref sig .tc := ⟨.hbm, 203, rfl⟩
abbrev main_cst_9 : Ref sig .tc := ⟨.hbm, 204, rfl⟩
abbrev main_v56 : Ref sig .tc := ⟨.hbm, 205, rfl⟩
abbrev main_v57 : Ref sig .tc := ⟨.hbm, 206, rfl⟩
abbrev main_v58 : Ref sig .tc := ⟨.hbm, 207, rfl⟩
abbrev main_v59 : Ref sig .tc := ⟨.hbm, 208, rfl⟩

abbrev nD : Nat := 1
abbrev τ : Topo := Topo.v7x

variable {F : FTy → Type} [FloatOps F]

abbrev main_while0_count : Scf.Loop 32 := ⟨0#32, 64#32, 1#32⟩
-- ==== Kernel8.lean ====
abbrev S32768x2048 : Shape := ⟨2, ![32768, 2048]⟩
abbrev S2048 : Shape := ⟨1, ![2048]⟩
abbrev S1x2048x6152 : Shape := ⟨3, ![1, 2048, 6152]⟩
abbrev S4 : Shape := ⟨1, ![4]⟩
abbrev S8 : Shape := ⟨1, ![8]⟩
abbrev S1x8 : Shape := ⟨2, ![1, 8]⟩
abbrev S_ : Shape := ⟨0, ![]⟩
abbrev S1x128 : Shape := ⟨2, ![1, 128]⟩
abbrev S1x2048x8 : Shape := ⟨3, ![1, 2048, 8]⟩
abbrev S2048x8 : Shape := ⟨2, ![2048, 8]⟩
abbrev S2048x128 : Shape := ⟨2, ![2048, 128]⟩
abbrev S1x2048 : Shape := ⟨2, ![1, 2048]⟩
abbrev S32768x128 : Shape := ⟨2, ![32768, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 19
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048x6152, .f32⟩
  | .hbm, ⟨3, _⟩ => ⟨S4, .f32⟩
  | .hbm, ⟨4, _⟩ => ⟨S4, .f32⟩
  | .hbm, ⟨5, _⟩ => ⟨S8, .f32⟩
  | .hbm, ⟨6, _⟩ => ⟨S1x8, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S1x2048x8, .f32⟩
  | .hbm, ⟨11, _⟩ => ⟨S2048x8, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S2048x128, .bf16⟩
  | .hbm, ⟨16, _⟩ => ⟨S1x2048, .f32⟩
  | .hbm, ⟨17, _⟩ => ⟨S32768x2048, .bf16⟩
  | .hbm, ⟨18, _⟩ => ⟨S32768x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x128, .bf16⟩
  | .local _ .vmem, ⟨4, _⟩ => ⟨S1x128, .f32⟩
  | .local _ .vmem, ⟨5, _⟩ => ⟨S256x2048, .bf16⟩
  | .local _ .vmem, ⟨6, _⟩ => ⟨S256x2048, .bf16⟩
  | .local _ .vmem, ⟨7, _⟩ => ⟨S256x128, .f32⟩
  | .local _ .vmem, ⟨8, _⟩ => ⟨S256x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S32768x2048 : Shape := ⟨2, ![32768, 2048]⟩
abbrev S2048 : Shape := ⟨1, ![2048]⟩
abbrev S1x2048x6152 : Shape := ⟨3, ![1, 2048, 6152]⟩
abbrev S4 : Shape := ⟨1, ![4]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048x6152 : Shape := ⟨2, ![2048, 6152]⟩
abbrev S32768x6152 : Shape := ⟨2, ![32768, 6152]⟩
abbrev S32768x8 : Shape := ⟨2, ![32768, 8]⟩
abbrev S8 : Shape := ⟨1, ![8]⟩
abbrev S1x8 : Shape := ⟨2, ![1, 8]⟩
abbrev S32768x128 : Shape := ⟨2, ![32768, 128]⟩

abbrev nBuf : Space → Nat
  | .hbm => 32
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048x6152, .f32⟩
  | .hbm, ⟨3, _⟩ => ⟨S4, .f32⟩
  | .hbm, ⟨4, _⟩ => ⟨S4, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S2048x6152, .f32⟩
  | .hbm, ⟨22, _⟩ => ⟨S32768x6152, .f32⟩
  | .hbm, ⟨23, _⟩ => ⟨S32768x8, .f32⟩
  | .hbm, ⟨24, _⟩ => ⟨S8, .f32⟩
  | .hbm, ⟨25, _⟩ => ⟨S1x8, .f32⟩
  | .hbm, ⟨26, _⟩ => ⟨S32768x8, .f32⟩
  | .hbm, ⟨27, _⟩ => ⟨S32768x8, .f32⟩
  | .hbm, ⟨28, _⟩ => ⟨S32768x2048, .bf16⟩
  | .hbm, ⟨29, _⟩ => ⟨S_, .i32⟩
  | .hbm, ⟨30, _⟩ => ⟨S_, .f32⟩
  | .hbm, ⟨31, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Pieces.lean ====
module

public import Idealize.ShloMosaic.Lib.Pipeline.FrameBody
public import Idealize.ShloMosaic.Lib.Pipeline.ValueKit
/-! Stores made one group after the other into one buffer: what is read back of them, and of what lay there before. -/

@[expose] public section

open Idealize Idealize.SL Idealize.ShloMosaic

noncomputable section

namespace Cert.Ssd

variable {F : FTy → Type} [FloatOps F] {N : ℕ} {s : Shape} {e : EltTy}

/-- The stores of the groups below `n`, the last first, over the stores before them. -/
def groupPieces (f : ∀ g, g < N → View.Piece (Elt F) s e) (L0 : List (View.Piece (Elt F) s e)) :
    ℕ → List (View.Piece (Elt F) s e)
  | 0 => L0
  | n + 1 => if hn : n < N then f n hn :: groupPieces f L0 n else groupPieces f L0 n

/-- Where no group's store below `n` reaches, the stores before them are read. -/
theorem groupPieces_below (f : ∀ g, g < N → View.Piece (Elt F) s e) (L0 : List (View.Piece (Elt F) s e))
    (y : s.Idx) (n : ℕ) (h : ∀ g (hg : g < N), g < n → y ∉ (f g hg).1.set) :
    View.canon (groupPieces f L0 n) y = View.canon L0 y := by
  induction n with
  | zero => rfl
  | succ n ih =>
    have ih' := ih fun g hg hn => h g hg (by omega)
    unfold groupPieces
    split
    · rename_i hn
      rw [View.canon_cons_of_not_mem _ _ (h n hn (by omega)), ih']
    · exact ih'

/-- A group's store is read back where the other groups' do not reach. -/
theorem groupPieces_at (f : ∀ g, g < N → View.Piece (Elt F) s e) (L0 : List (View.Piece (Elt F) s e))
    (g : ℕ) (hg : g < N) (x : (f g hg).1.shape.Idx) (n : ℕ) (hgn : g < n)
    (h : ∀ g' (hg' : g' < N), g < g' → (f g hg).1.emb x ∉ (f g' hg').1.set) :
    View.canon (groupPieces f L0 n) ((f g hg).1.emb x) = (f g hg).2 x := by
  induction n with
  | zero => omega
  | succ n ih =>
    unfold groupPieces
    split
    · rename_i hn
      by_cases e : g = n
      · subst e
        exact View.canon_cons_emb _ _ _ x
      · rw [View.canon_cons_of_not_mem _ _ (h n hn (by omega)), ih (by omega)]
    · exact ih (by omega)

/-- A whole buffer's store. -/
def ground (o : Fin s.rank → ℕ) (inb : ∀ a, o a + s.size a ≤ s.size a) (d : Vec F s e) : View.Piece (Elt F) s e :=
  ⟨Rect.unit o s.size inb, d⟩

/-- A whole buffer's store is read everywhere. -/
theorem ground_at (o : Fin s.rank → ℕ) (inb : ∀ a, o a + s.size a ≤ s.size a) (d : Vec F s e) (y : s.Idx) :
    View.canon [ground o inb d] y = d y := by
  have h : (Rect.unit o s.size inb).emb y = y := by
    funext a
    apply Fin.ext
    show o a + 1 * (y a).val = (y a).val
    have := inb a
    omega
  have key := View.canon_cons_emb (Val := Elt F) (e := e) (Rect.unit o s.size inb) d [] y
  rw [h] at key
  exact key

/-- What lies before the groups' stores is among the stores. -/
theorem mem_groupPieces (f : ∀ g, g < N → View.Piece (Elt F) s e) (p : View.Piece (Elt F) s e) (n : ℕ) : p ∈ groupPieces f [p] n := by
  induction n with
  | zero => simp [groupPieces]
  | succ n ih => unfold groupPieces; split <;> simp [ih]

/-- A part no group below `n` has stored into still holds the whole buffer's store. -/
theorem readCov_ground {sig : RefSig} {κ : Kind} {sp : Space} (v : View sig κ sp s e) (f : ∀ g, g < N → View.Piece (Elt F) s e)
    (o : Fin s.rank → ℕ) (inb : ∀ a, o a + s.size a ≤ s.size a) (d : Vec F s e) (n : ℕ) (R : Rect s)
    (h : ∀ g (hg : g < N), g < n → ∀ j, R.emb j ∉ (f g hg).1.set) :
    v.readCov (groupPieces f [ground o inb d] n) R.toLoadRect = View.ld d R := by
  rw [View.readCov_eq_canon]
  · funext j
    change View.canon (groupPieces f [ground o inb d] n) (R.emb j) = d (R.emb j)
    rw [groupPieces_below f _ _ n fun g hg hn => h g hg hn j, ground_at]
  · intro j
    refine ⟨_, mem_groupPieces f _ n, ?_⟩
    show R.emb j ∈ (Rect.unit o s.size inb).set
    rw [Rect.mem_set_unit]
    intro a
    have h1 := inb a
    have h2 := (R.emb j a).isLt
    exact ⟨by omega, by omega⟩

/-- Group after group, each store computed from what its part of the buffer holds by then. -/
def readStores {sig : RefSig} {κ : Kind} {sp : Space} (v : View sig κ sp s e) (z : View.Piece (Elt F) s e) (R : ∀ g, g < N → Rect s)
    (f : ∀ g (hg : g < N), ((R g hg).shape.Idx → Elt F e) → View.Piece (Elt F) s e) : ℕ → List (View.Piece (Elt F) s e)
  | 0 => [z]
  | n + 1 => if hn : n < N then f n hn (v.readCov (readStores v z R f n) (R n hn).toLoadRect) :: readStores v z R f n
    else readStores v z R f n

/-- Where no group stores into a later group's part, each is computed from the whole buffer's store. -/
theorem readStores_eq {sig : RefSig} {κ : Kind} {sp : Space} (v : View sig κ sp s e)
    (o : Fin s.rank → ℕ) (inb : ∀ a, o a + s.size a ≤ s.size a) (d : Vec F s e) (R : ∀ g, g < N → Rect s)
    (f : ∀ g (hg : g < N), ((R g hg).shape.Idx → Elt F e) → View.Piece (Elt F) s e)
    (h : ∀ g (hg : g < N) g' (hg' : g' < N), g' < g → ∀ j x, (R g hg).emb j ∉ (f g' hg' x).1.set) (n : ℕ) :
    readStores v (ground o inb d) R f n = groupPieces (fun g hg => f g hg (View.ld d (R g hg))) [ground o inb d] n := by
  induction n with
  | zero => rfl
  | succ n ih =>
    unfold readStores groupPieces
    split
    · rename_i hn
      rw [ih, readCov_ground v _ o inb d n (R n hn) fun g' hg' hlt j => h n hn g' hg' hlt j _]
    · exact ih

end Cert.Ssd

end
-- ==== Proof.Group.lean ====
module

public import proofs.«01_k».proof.Proof.Gen.KernelIdeal.Value
public import proofs.«01_k».proof.Proof.Pieces
public import Idealize.ShloMosaic.Lib.Pointwise
/-! One group of eight heads of the kernel's chunk, as a function of the group's number: the weights of a head,
the product of a pair of heads, the carried state, the gated sum and its normed value. The printed body writes the
eight groups out one after the other; each is an instance of these functions. -/

@[expose] public section

open Idealize Idealize.SL Idealize.ShloMosaic Idealize.ShloMosaic.TcCoe Cert.KernelIdeal Cert.KernelIdeal.Gen

set_option maxRecDepth 16384

noncomputable section

namespace Cert.Ssd

variable {F : FTy → Type} [FloatOps F]

/-- A column of the chunk's [128, 128] table exists. -/
theorem slCol (h : ℕ) (hh : h < 128) : S128x128.Slices ![0, h] S128x1 :=
  ⟨rfl, by intro a; fin_cases a <;> simp <;> omega⟩

/-- A row of the chunk's [128, 128] table exists. -/
theorem slRow (h : ℕ) (hh : h < 128) : S128x128.Slices ![h, 0] S1x128 :=
  ⟨rfl, by intro a; fin_cases a <;> simp <;> omega⟩

/-- A pair of heads' lanes lie inside the group's 512. -/
theorem slPair (q : ℕ) (hq : q < 4) : S128x512.Slices ![0, 128 * q] S128x128 :=
  ⟨rfl, by intro a; fin_cases a <;> simp <;> omega⟩

/-- A group's lanes lie inside the 4096. -/
theorem slGroup (g : ℕ) (hg : g < 8) : S128x4096.Slices ![0, 512 * g] S128x512 :=
  ⟨rfl, by intro a; fin_cases a <;> simp <;> omega⟩

/-- A group's lanes of the last row lie inside the table. -/
theorem slLast (g : ℕ) (hg : g < 8) : S128x4096.Slices ![127, 512 * g] S1x512 :=
  ⟨rfl, by intro a; fin_cases a <;> simp <;> omega⟩

/-- Head `h`'s weights: the masked products of the group's C and B rows, times the decay from row to column, times the
column's step. -/
def wts (h : ℕ) (hh : h < 128) (cum cumT dtT cb : FVec F S128x128 .f32) : FVec F S128x128 .bf16 :=
  truncf .bf16 (mulf (mulf cb (exp (minimumf
    (subf (broadcastTo S128x128 (extractStridedSlice S128x1 ![0, h] cum (slCol h hh)) broadcasts_S128x1_S128x128)
      (broadcastTo S128x128 (extractStridedSlice S1x128 ![h, 0] cumT (slRow h hh)) broadcasts_S1x128_S128x128))
    (broadcast S128x128 (Scalar.ofBits .f32 0x00000000#32)))))
    (broadcastTo S128x128 (extractStridedSlice S1x128 ![h, 0] dtT (slRow h hh)) broadcasts_S1x128_S128x128)) bitsLt_bf16_f32

/-- Two heads' products at once: their weights side by side against their values one below the other, each with the
other head's lanes zeroed. -/
def pair (q : ℕ) (hq : q < 4) (w1 w2 : FVec F S128x128 .bf16) (xg : FVec F S128x512 .bf16) : FVec F S128x128 .f32 :=
  matmul dot_S128x256_S256x128_S128x128_1_0_0_1_n_n none
    (concatenate S128x256 1 [⟨S128x128, w1⟩, ⟨S128x128, w2⟩] concatenates_S128x128_S128x128_S128x256_d1)
    (concatenate S256x128 0
      [⟨S128x128, mulf (extractStridedSlice S128x128 ![0, 128 * q] xg (slPair q hq)) (broadcastTo S128x128 k0_pay13 broadcasts_S1x128_S128x128)⟩,
       ⟨S128x128, mulf (extractStridedSlice S128x128 ![0, 128 * q] xg (slPair q hq)) (broadcastTo S128x128 k0_pay14 broadcasts_S1x128_S128x128)⟩]
      concatenates_S128x128_S128x128_S256x128_d0)
    (constant S128x128 .f32 0x00000000#32)

/-- The pair of heads `8g + 2q`, `8g + 2q + 1`. -/
def pairG (g : ℕ) (hg : g < 8) (q : ℕ) (hq : q < 4) (cum cumT dtT cb : FVec F S128x128 .f32) (xg : FVec F S128x512 .bf16) :
    FVec F S128x128 .f32 :=
  pair q hq (wts (8 * g + 2 * q) (by omega) cum cumT dtT cb) (wts (8 * g + (2 * q + 1)) (by omega) cum cumT dtT cb) xg

/-- A group's carried state after the chunk. -/
def stG (g : ℕ) (hg : g < 8) (ec te : FVec F S128x4096 .f32) (bm : Vec F S1x128x128 .bf16) (xg : Vec F S1x128x512 .bf16)
    (st : Vec F S1x128x512 .f32) : FVec F S1x128x512 .f32 :=
  shapeCast S1x128x512
    (addf (mulf (shapeCast S128x512 st shapeCasts_S1x128x512_S128x512)
        (broadcastTo S128x512 (extractStridedSlice S1x512 ![127, 512 * g] ec (slLast g hg)) broadcasts_S1x512_S128x512))
      (matmul dot_S128x128_S128x512_S128x512_0_0_1_1_n_n none (shapeCast S128x128 bm shapeCasts_S1x128x128_S128x128)
        (truncf .bf16 (mulf (extf .f32 (shapeCast S128x512 xg shapeCasts_S1x128x512_S128x512) bitsLt_bf16_f32)
          (extractStridedSlice S128x512 ![0, 512 * g] te (slGroup g hg))) bitsLt_bf16_f32)
        (constant S128x512 .f32 0x00000000#32)))
    shapeCasts_S128x512_S1x128x512

/-- A group's output before the norm: the chunk's own part, the part from the carried state, the skip, times the gate. -/
def ygG (g : ℕ) (hg : g < 8) (dtv cum : FVec F S128x128 .f32) (ec : FVec F S128x4096 .f32) (bm cm : Vec F S1x128x128 .bf16)
    (xg : Vec F S1x128x512 .bf16) (st : Vec F S1x128x512 .f32) (dsk : Vec F S1x512 .f32) (gt : Vec F S1x128x512 .bf16) :
    FVec F S128x512 .f32 :=
  mulf (addf (addf
      (concatenate S128x512 1
        [⟨S128x128, pairG g hg 0 (by omega) cum (k0_pay11 cum) (k0_pay12 dtv) (k0_pay19 k0_pay3 bm cm) (k0_pay17 xg)⟩,
         ⟨S128x128, pairG g hg 1 (by omega) cum (k0_pay11 cum) (k0_pay12 dtv) (k0_pay19 k0_pay3 bm cm) (k0_pay17 xg)⟩,
         ⟨S128x128, pairG g hg 2 (by omega) cum (k0_pay11 cum) (k0_pay12 dtv) (k0_pay19 k0_pay3 bm cm) (k0_pay17 xg)⟩,
         ⟨S128x128, pairG g hg 3 (by omega) cum (k0_pay11 cum) (k0_pay12 dtv) (k0_pay19 k0_pay3 bm cm) (k0_pay17 xg)⟩]
        concatenates_S128x128_S128x128_S128x128_S128x128_S128x512_d1)
      (mulf (k0_pay20 cm st) (extractStridedSlice S128x512 ![0, 512 * g] ec (slGroup g hg))))
      (mulf (broadcastTo S128x512 (shapeCast S1x512 dsk shapeCasts_S1x512_S1x512) broadcasts_S1x512_S128x512)
        (extf .f32 (shapeCast S128x512 xg shapeCasts_S1x128x512_S128x512) bitsLt_bf16_f32)))
    (extf .f32 (shapeCast S128x512 gt shapeCasts_S1x128x512_S128x512) bitsLt_bf16_f32)

/-- A group's normed output. -/
def outG (yg : FVec F S128x512 .f32) (nw : Vec F S1x512 .f32) : FVec F S1x128x512 .bf16 :=
  k0_pay38 yg (shapeCast S128x1 (multiReduction .add [1] S128 (mulf yg yg) 0x00000000#32 reduces_S128x512_S128 (.inl rfl) rfl)
    shapeCasts_S128_S128x1) k0_pay37 nw

/-- The chunk's steps. -/
def dtOf (x2 : Vec F S1x128x128 .f32) : FVec F S128x128 .f32 :=
  k0_pay4 (View.ld x2 (Rect.unit ![0, 0, 0] ![1, 128, 128] inb_S1x128x128_S1x128x128_0_0_0))

/-- The chunk's summed log decays. -/
def cumOf (x2 : Vec F S1x128x128 .f32) (x3 : Vec F S1x128 .f32) : FVec F S128x128 .f32 :=
  k0_pay5 (View.ld x2 (Rect.unit ![0, 0, 0] ![1, 128, 128] inb_S1x128x128_S1x128x128_0_0_0))
    (View.ld x3 (Rect.unit ![0, 0] ![1, 128] inb_S1x128_S1x128_0_0))

/-- The decay from the chunk's start, per lane. -/
def ecOf (x2 : Vec F S1x128x128 .f32) (x3 : Vec F S1x128 .f32) (x6 : Vec F S256x4096 .bf16) : FVec F S128x4096 .f32 :=
  k0_pay6 (View.ld x2 (Rect.unit ![0, 0, 0] ![1, 128, 128] inb_S1x128x128_S1x128x128_0_0_0))
    (View.ld x3 (Rect.unit ![0, 0] ![1, 128] inb_S1x128_S1x128_0_0))
    (View.ld x6 (Rect.unit ![0, 0] ![256, 4096] inb_S256x4096_S256x4096_0_0))

/-- The decay to the chunk's end times the step, per lane. -/
def teOf (x2 : Vec F S1x128x128 .f32) (x3 : Vec F S1x128 .f32) (x6 : Vec F S256x4096 .bf16) : FVec F S128x4096 .f32 :=
  k0_pay10 (k0_pay8 (View.ld x2 (Rect.unit ![0, 0, 0] ![1, 128, 128] inb_S1x128x128_S1x128x128_0_0_0))
      (View.ld x3 (Rect.unit ![0, 0] ![1, 128] inb_S1x128_S1x128_0_0)))
    (k0_pay9 (View.ld x2 (Rect.unit ![0, 0, 0] ![1, 128, 128] inb_S1x128x128_S1x128x128_0_0_0))
      (View.ld x3 (Rect.unit ![0, 0] ![1, 128] inb_S1x128_S1x128_0_0)))
    (View.ld x6 (Rect.unit ![0, 0] ![256, 4096] inb_S256x4096_S256x4096_0_0))

/-- A group's B columns of the convolved input's block. -/
theorem inbB (g : ℕ) (hg : g < 8) : ∀ a, (![0, 0, 4096 + 128 * g] : Fin 3 → ℕ) a + S1x128x128.size a ≤ S1x128x6144.size a := by
  intro a; fin_cases a <;> simp <;> omega

/-- A group's C columns of the convolved input's block. -/
theorem inbC (g : ℕ) (hg : g < 8) : ∀ a, (![0, 0, 5120 + 128 * g] : Fin 3 → ℕ) a + S1x128x128.size a ≤ S1x128x6144.size a := by
  intro a; fin_cases a <;> simp <;> omega

/-- A group's value columns of the convolved input's block. -/
theorem inbX (g : ℕ) (hg : g < 8) : ∀ a, (![0, 0, 512 * g] : Fin 3 → ℕ) a + S1x128x512.size a ≤ S1x128x6144.size a := by
  intro a; fin_cases a <;> simp <;> omega

/-- A group's columns of the gate's and the output's block. -/
theorem inbG (g : ℕ) (hg : g < 8) : ∀ a, (![0, 0, 512 * g] : Fin 3 → ℕ) a + S1x128x512.size a ≤ S1x128x4096.size a := by
  intro a; fin_cases a <;> simp <;> omega

/-- A group's lanes of a row. -/
theorem inbR (g : ℕ) (hg : g < 8) : ∀ a, (![0, 512 * g] : Fin 2 → ℕ) a + S1x512.size a ≤ S1x4096.size a := by
  intro a; fin_cases a <;> simp <;> omega

/-- A group's plane of the carried state. -/
theorem inbS (g : ℕ) (hg : g < 8) : ∀ a, (![g, 0, 0] : Fin 3 → ℕ) a + S1x128x512.size a ≤ S8x128x512.size a := by
  intro a; fin_cases a <;> simp <;> omega

/-- Group `g`'s new state, from the point's blocks and the state carried in (`st`, the group's plane). -/
def stV (x1 : Vec F S1x128x6144 .bf16) (x2 : Vec F S1x128x128 .f32) (x3 : Vec F S1x128 .f32) (x6 : Vec F S256x4096 .bf16)
    (g : ℕ) (hg : g < 8) (st : Vec F S1x128x512 .f32) : FVec F S1x128x512 .f32 :=
  stG g hg (ecOf x2 x3 x6) (teOf x2 x3 x6) (View.ld x1 (Rect.unit ![0, 0, 4096 + 128 * g] S1x128x128.size (inbB g hg)))
    (View.ld x1 (Rect.unit ![0, 0, 512 * g] S1x128x512.size (inbX g hg))) st

/-- Group `g`'s output before the norm, from the point's blocks and the group's carried state. -/
def ygV (x0 : Vec F S1x128x4096 .bf16) (x1 : Vec F S1x128x6144 .bf16) (x2 : Vec F S1x128x128 .f32) (x3 : Vec F S1x128 .f32)
    (x4 : Vec F S1x4096 .f32) (x6 : Vec F S256x4096 .bf16)
    (g : ℕ) (hg : g < 8) (st : Vec F S1x128x512 .f32) : FVec F S128x512 .f32 :=
  ygG g hg (dtOf x2) (cumOf x2 x3) (ecOf x2 x3 x6)
    (View.ld x1 (Rect.unit ![0, 0, 4096 + 128 * g] S1x128x128.size (inbB g hg)))
    (View.ld x1 (Rect.unit ![0, 0, 5120 + 128 * g] S1x128x128.size (inbC g hg)))
    (View.ld x1 (Rect.unit ![0, 0, 512 * g] S1x128x512.size (inbX g hg))) st
    (View.ld x4 (Rect.unit ![0, 512 * g] S1x512.size (inbR g hg)))
    (View.ld x0 (Rect.unit ![0, 0, 512 * g] S1x128x512.size (inbG g hg)))

/-- Group `g`'s output, from the point's blocks and the group's carried state. -/
def outV (x0 : Vec F S1x128x4096 .bf16) (x1 : Vec F S1x128x6144 .bf16) (x2 : Vec F S1x128x128 .f32) (x3 : Vec F S1x128 .f32)
    (x4 : Vec F S1x4096 .f32) (x5 : Vec F S1x4096 .f32) (x6 : Vec F S256x4096 .bf16)
    (g : ℕ) (hg : g < 8) (st : Vec F S1x128x512 .f32) : FVec F S1x128x512 .bf16 :=
  outG (ygV x0 x1 x2 x3 x4 x6 g hg st) (View.ld x5 (Rect.unit ![0, 512 * g] S1x512.size (inbR g hg)))

/-- The store of group `g`'s new state. -/
def stPiece (x1 : Vec F S1x128x6144 .bf16) (x2 : Vec F S1x128x128 .f32) (x3 : Vec F S1x128 .f32) (x6 : Vec F S256x4096 .bf16)
    (st : Vec F S8x128x512 .f32) (g : ℕ) (hg : g < 8) : View.Piece (Elt F) S8x128x512 .f32 :=
  ⟨Rect.unit ![g, 0, 0] S1x128x512.size (inbS g hg),
    stV x1 x2 x3 x6 g hg (View.ld st (Rect.unit ![g, 0, 0] S1x128x512.size (inbS g hg)))⟩

/-- The store of group `g`'s output. -/
def outPiece (x0 : Vec F S1x128x4096 .bf16) (x1 : Vec F S1x128x6144 .bf16) (x2 : Vec F S1x128x128 .f32) (x3 : Vec F S1x128 .f32)
    (x4 : Vec F S1x4096 .f32) (x5 : Vec F S1x4096 .f32) (x6 : Vec F S256x4096 .bf16)
    (st : Vec F S8x128x512 .f32) (g : ℕ) (hg : g < 8) : View.Piece (Elt F) S1x128x4096 .bf16 :=
  ⟨Rect.unit ![0, 0, 512 * g] S1x128x512.size (inbG g hg),
    outV x0 x1 x2 x3 x4 x5 x6 g hg (View.ld st (Rect.unit ![g, 0, 0] S1x128x512.size (inbS g hg)))⟩

end Cert.Ssd
-- ==== Proof.Spec.lean ====
module

public import Idealize.ShloMosaic.PureOps.Ideal
public import Idealize.ShloMosaic.Lib.WordCmp
/-! One chunk of the recurrence over the extended reals, a head and a lane at a time, and the facts about its decays
that both programs' readings need. -/

@[expose] public section

open Idealize Idealize.ShloMosaic

noncomputable section

namespace Cert.Ssd

/-- The step a raw step stands for. -/
def sp (x : EReal) : EReal := max x 0 + Ideal.log1p (Ideal.exp (-(max x (-x))))

/-- A position's log decay for a head. -/
def da (D : Fin 128 → Fin 128 → EReal) (A : Fin 128 → EReal) (k h : Fin 128) : EReal := sp (D k h) * -Ideal.exp (A h)

/-- The log decays summed from the chunk's start to a position. -/
def cum (D : Fin 128 → Fin 128 → EReal) (A : Fin 128 → EReal) (t h : Fin 128) : EReal :=
  ∑ k : Fin 128, if k ≤ t then da D A k h else 0

/-- A head among the 128 lanes of the step table. -/
def hd (g h : Fin 8) : Fin 128 := ⟨g.val * 8 + h.val, by omega⟩

/-- A value column. -/
def iX (g h : Fin 8) (p : Fin 64) : Fin 6144 := ⟨g.val * 512 + h.val * 64 + p.val, by omega⟩

/-- A value column among the gate's. -/
def iG (g h : Fin 8) (p : Fin 64) : Fin 4096 := ⟨g.val * 512 + h.val * 64 + p.val, by omega⟩

/-- A B column. -/
def iB (g : Fin 8) (n : Fin 128) : Fin 6144 := ⟨4096 + (g.val * 128 + n.val), by omega⟩

/-- A C column. -/
def iC (g : Fin 8) (n : Fin 128) : Fin 6144 := ⟨5120 + (g.val * 128 + n.val), by omega⟩

/-- The weight of position `s` at position `t` for a head. -/
def wt (X : Fin 128 → Fin 6144 → EReal) (D : Fin 128 → Fin 128 → EReal) (A : Fin 128 → EReal) (g h : Fin 8) (t s : Fin 128) : EReal :=
  (∑ n, X t (iC g n) * X s (iB g n)) * Ideal.exp (if s ≤ t then cum D A t (hd g h) - cum D A s (hd g h) else ⊥) * sp (D s (hd g h))

/-- A chunk's output before skip, gate and norm, from the state carried in. -/
def yC (X : Fin 128 → Fin 6144 → EReal) (D : Fin 128 → Fin 128 → EReal) (A : Fin 128 → EReal)
    (st : Fin 8 → Fin 8 → Fin 64 → Fin 128 → EReal) (t : Fin 128) (g h : Fin 8) (p : Fin 64) : EReal :=
  ∑ s, X s (iX g h p) * wt X D A g h t s + (∑ n, st g h p n * X t (iC g n)) * Ideal.exp (cum D A t (hd g h))

/-- A chunk's state handed on, from the state carried in. -/
def sC (X : Fin 128 → Fin 6144 → EReal) (D : Fin 128 → Fin 128 → EReal) (A : Fin 128 → EReal)
    (st : Fin 8 → Fin 8 → Fin 64 → Fin 128 → EReal) (g h : Fin 8) (p : Fin 64) (n : Fin 128) : EReal :=
  st g h p n * Ideal.exp (cum D A 127 (hd g h))
    + ∑ x, Ideal.exp (cum D A 127 (hd g h) - cum D A x (hd g h)) * sp (D x (hd g h)) * X x (iX g h p) * X x (iB g n)

/-- A position of a chunk among the sequence's. -/
def pos (j : ℕ) (t : Fin 128) : Fin 4096 := ⟨(j * 128 + t.val) % 4096, Nat.mod_lt _ (by norm_num)⟩

/-- The state after `j` chunks of a sequence. -/
def stN (X : Fin 4096 → Fin 6144 → EReal) (D : Fin 4096 → Fin 128 → EReal) (A : Fin 128 → EReal) :
    ℕ → Fin 8 → Fin 8 → Fin 64 → Fin 128 → EReal
  | 0 => fun _ _ _ _ => 0
  | j + 1 => sC (fun t => X (pos j t)) (fun t => D (pos j t)) A (stN X D A j)

/-- The output of chunk `j` of a sequence before skip, gate and norm. -/
def yN (X : Fin 4096 → Fin 6144 → EReal) (D : Fin 4096 → Fin 128 → EReal) (A : Fin 128 → EReal) (j : ℕ) :
    Fin 128 → Fin 8 → Fin 8 → Fin 64 → EReal :=
  yC (fun t => X (pos j t)) (fun t => D (pos j t)) A (stN X D A j)

/-- A chunk's gated output: the recurrence's, the skip added, times the gate. -/
def gC (X : Fin 128 → Fin 6144 → EReal) (D : Fin 128 → Fin 128 → EReal) (A : Fin 128 → EReal)
    (K : Fin 64 → EReal) (G : Fin 128 → Fin 4096 → EReal)
    (st : Fin 8 → Fin 8 → Fin 64 → Fin 128 → EReal) (t : Fin 128) (g h : Fin 8) (p : Fin 64) : EReal :=
  (yC X D A st t g h p + K ⟨g.val * 8 + h.val, by omega⟩ * X t (iX g h p)) * G t (iG g h p)

/-- A group's head of one of its 512 lanes. -/
def lh (e : Fin 512) : Fin 8 := ⟨e.val / 64, by omega⟩

/-- The place of one of a group's 512 lanes inside its head. -/
def lp (e : Fin 512) : Fin 64 := ⟨e.val % 64, by omega⟩

/-- A chunk's result: each group's gated output over its root mean square, times the scale. -/
def oC (X : Fin 128 → Fin 6144 → EReal) (D : Fin 128 → Fin 128 → EReal) (A : Fin 128 → EReal)
    (K : Fin 64 → EReal) (W : Fin 4096 → EReal) (G : Fin 128 → Fin 4096 → EReal)
    (st : Fin 8 → Fin 8 → Fin 64 → Fin 128 → EReal) (t : Fin 128) (g : Fin 8) (e : Fin 512) : EReal :=
  gC X D A K G st t g (lh e) (lp e)
    * Ideal.rsqrt (Ideal.div (∑ x : Fin 512, gC X D A K G st t g (lh x) (lp x) * gC X D A K G st t g (lh x) (lp x))
        (Ideal.ofBits .f32 1140850688#32) + Ideal.ofBits .f32 897988541#32)
    * W ⟨g.val * 512 + e.val, by omega⟩

/-- The result at a position and column of a sequence. -/
def oN (X : Fin 4096 → Fin 6144 → EReal) (D : Fin 4096 → Fin 128 → EReal) (A : Fin 128 → EReal)
    (K : Fin 64 → EReal) (W : Fin 4096 → EReal) (G : Fin 4096 → Fin 4096 → EReal) (l q : Fin 4096) : EReal :=
  oC (fun t => X (pos (l.val / 128) t)) (fun t => D (pos (l.val / 128) t)) A K W (fun t => G (pos (l.val / 128) t))
    (stN X D A (l.val / 128)) ⟨l.val % 128, by omega⟩ ⟨q.val / 512, by omega⟩ ⟨q.val % 512, by omega⟩

/-! ## The decays' bounds -/

/-- The exponential is not negative. -/
theorem exp_nonneg (x : EReal) : 0 ≤ Ideal.exp x := by
  induction x with
  | bot => exact le_refl _
  | top => exact le_top
  | coe r => exact EReal.coe_nonneg.2 (Real.exp_pos r).le

/-- The exponential of a nonpositive value is a real. -/
theorem exp_real {x : EReal} (h : x ≤ 0) : ∃ r : ℝ, Ideal.exp x = r := by
  induction x with
  | bot => exact ⟨0, rfl⟩
  | top => exact absurd h (by simp)
  | coe r => exact ⟨Real.exp r, rfl⟩

/-- The exponential of anything but minus infinity is positive. -/
theorem exp_pos {x : EReal} (h : x ≠ ⊥) : 0 < Ideal.exp x := by
  induction x with
  | bot => exact absurd rfl h
  | top => exact EReal.zero_lt_top
  | coe r => exact EReal.coe_pos.2 (Real.exp_pos r)

/-- The logarithm of one plus a nonnegative value is not negative. -/
theorem log1p_nonneg {x : EReal} (h : 0 ≤ x) : 0 ≤ Ideal.log1p x := by
  induction x with
  | bot => exact absurd h (by simp)
  | top => rw [Ideal.log1p, EReal.add_top_of_ne_bot (by decide)]; exact le_top
  | coe r =>
    have hr : (0 : ℝ) ≤ r := EReal.coe_nonneg.1 h
    rw [Ideal.log1p, ← EReal.coe_one, ← EReal.coe_add]
    change 0 ≤ if 1 + r ≤ 0 then (⊥ : EReal) else ((Real.log (1 + r) : ℝ) : EReal)
    rw [if_neg (by linarith)]
    exact EReal.coe_nonneg.2 (Real.log_nonneg (by linarith))

/-- A step is not negative. -/
theorem sp_nonneg (x : EReal) : 0 ≤ sp x := add_nonneg (le_max_right _ _) (log1p_nonneg (exp_nonneg _))

variable (D : Fin 128 → Fin 128 → EReal) (A : Fin 128 → EReal)

/-- A log decay is not positive. -/
theorem da_nonpos (k h : Fin 128) : da D A k h ≤ 0 := by
  unfold da
  rw [mul_neg]
  rw [← neg_zero]
  exact EReal.neg_le_neg_iff.2 (mul_nonneg (sp_nonneg _) (exp_nonneg _))

/-- The summed log decays do not increase. -/
theorem cum_anti {s t : Fin 128} (h : Fin 128) (hst : s ≤ t) : cum D A t h ≤ cum D A s h := by
  refine Finset.sum_le_sum fun k _ => ?_
  by_cases hs : k ≤ s
  · rw [if_pos hs, if_pos (hs.trans hst)]
  · rw [if_neg hs]
    split
    · exact da_nonpos D A k h
    · exact le_refl _

/-- A summed log decay is not positive. -/
theorem cum_nonpos (t h : Fin 128) : cum D A t h ≤ 0 := by
  refine Finset.sum_nonpos fun k _ => ?_
  split
  · exact da_nonpos D A k h
  · exact le_refl _

/-- The log decay between two positions is not positive. -/
theorem seg_nonpos {s t : Fin 128} (h : Fin 128) (hst : s ≤ t) : cum D A t h - cum D A s h ≤ 0 :=
  EReal.sub_nonpos.2 (cum_anti D A h hst)

/-- A value less itself is nothing, when it is a real. -/
theorem sub_self_real {x : EReal} (h : ∃ r : ℝ, x = r) : x - x = 0 := by
  obtain ⟨r, rfl⟩ := h
  rw [← EReal.coe_sub, sub_self, EReal.coe_zero]

/-- The decay from the chunk's start is a real. -/
theorem ec_real (t h : Fin 128) : ∃ r : ℝ, Ideal.exp (cum D A t h) = r := exp_real (cum_nonpos D A t h)

/-- The decay to the chunk's end times the step is a real. -/
theorem te_real (x h : Fin 128) (hA : A h ≠ ⊥) :
    ∃ r : ℝ, Ideal.exp (cum D A 127 h - cum D A x h) * sp (D x h) = r := by
  have hle : x ≤ 127 := by rw [Fin.le_def]; exact Nat.le_of_lt_succ x.isLt
  obtain ⟨e, he⟩ := exp_real (seg_nonpos D A h hle)
  rcases eq_or_ne (sp (D x h)) ⊤ with hs | hs
  · have hb : da D A x h = ⊥ := by
      unfold da
      rw [hs, mul_neg, EReal.top_mul_of_pos (exp_pos hA)]
      rfl
    have hc : cum D A 127 h = ⊥ := by
      refine le_bot_iff.1 ((Finset.sum_le_sum fun k _ => ?_ : cum D A 127 h ≤ ∑ k : Fin 128, if k = x then ⊥ else 0).trans ?_)
      · split
        · split
          · rename_i hk; rw [hk, hb]
          · exact da_nonpos D A k h
        · rename_i hk
          exact absurd (by rw [Fin.le_def]; exact Nat.le_of_lt_succ k.isLt) hk
      · rw [Finset.sum_ite_eq' Finset.univ x, if_pos (Finset.mem_univ x)]
    refine ⟨0, ?_⟩
    rw [hc, sub_eq_add_neg, EReal.bot_add]
    exact zero_mul _
  · have h0 := sp_nonneg (D x h)
    induction hv : sp (D x h) with
    | bot => rw [hv] at h0; exact absurd h0 (by simp)
    | top => exact absurd hv hs
    | coe r => exact ⟨e * r, by rw [he, EReal.coe_mul]⟩

/-- A table of reals and its rounding errors, picked by a lane's indicator, is the lane's entry. -/
theorem pick {n : ℕ} (v : Fin n → EReal) (w : Fin n → EReal) (w' : Fin n → EReal) (i : Fin n) (hw : ∀ x, w x = if x = i then 1 else 0)
    (hw' : ∀ x, w' x = if x = i then 1 else 0) (hv : ∃ r : ℝ, v i = r) :
    ∑ x, v x * w x + ∑ x, (v x - v x) * w' x = v i := by
  have h1 : ∑ x, v x * w x = v i := by
    rw [Finset.sum_eq_single i (fun b _ hb => by rw [hw, if_neg hb, mul_zero]) (fun h => absurd (Finset.mem_univ i) h),
      hw, if_pos rfl, mul_one]
  have h2 : ∑ x, (v x - v x) * w' x = 0 :=
    Finset.sum_eq_zero fun x _ => by
      rw [hw']
      split
      · rename_i hx; rw [hx, sub_self_real hv, zero_mul]
      · rw [mul_zero]
  rw [h1, h2, add_zero]

/-- The kernel's weight: the masked product times the clamped decay times the step is the weight. -/
theorem wt_clamp (X : Fin 128 → Fin 6144 → EReal) (g h : Fin 8) (t s : Fin 128) :
    (if s ≤ t then ∑ n, X t (iC g n) * X s (iB g n) else 0)
        * Ideal.exp (min (cum D A t (hd g h) - cum D A s (hd g h)) 0) * sp (D s (hd g h)) = wt X D A g h t s := by
  unfold wt
  by_cases hst : s ≤ t
  · rw [if_pos hst, if_pos hst, min_eq_left (seg_nonpos D A _ hst)]
  · rw [if_neg hst, if_neg hst, zero_mul, zero_mul, show Ideal.exp ⊥ = 0 from rfl, mul_zero, zero_mul]

/-- Two small words compared from below. -/
theorem ge_word {a b : ℕ} (ha : a < 2 ^ 31) (hb : b < 2 ^ 31) :
    IntOp.cmpi .sge (BitVec.ofNat 32 a) (BitVec.ofNat 32 b) = BitVec.ofBool (decide (b ≤ a)) :=
  WordCmp.cmpi_sge_ofNat ha hb

/-- Two small words compared from above. -/
theorem lt_word {a b : ℕ} (ha : a < 2 ^ 31) (hb : b < 2 ^ 31) :
    IntOp.cmpi .slt (BitVec.ofNat 32 a) (BitVec.ofNat 32 b) = BitVec.ofBool (decide (a < b)) :=
  WordCmp.cmpi_slt_ofNat ha hb

/-- A comparison's bit as a number. -/
theorem bit_real (p : Prop) [Decidable p] :
    (FloatOps.sitofp (F := Ideal) .f32 (BitVec.setWidth 32 (BitVec.ofBool (decide p))) : EReal) = if p then 1 else 0 := by
  by_cases h : p
  · rw [if_pos h, decide_eq_true h]
    change (((BitVec.setWidth 32 (BitVec.ofBool true)).toInt : ℝ) : EReal) = 1
    rw [show (BitVec.setWidth 32 (BitVec.ofBool true)).toInt = 1 by decide]
    norm_num
  · rw [if_neg h, decide_eq_false h]
    change (((BitVec.setWidth 32 (BitVec.ofBool false)).toInt : ℝ) : EReal) = 0
    rw [show (BitVec.setWidth 32 (BitVec.ofBool false)).toInt = 0 by decide]
    norm_num

/-- A selection on a comparison's bit. -/
theorem bit_select {α : Type} (p : Prop) [Decidable p] (x y : α) :
    Scalar.select (BitVec.ofBool (decide p)) x y = if p then x else y := WordCmp.select_ofBool _ _ _ |>.trans (by simp)

end Cert.Ssd
-- ==== Proof.KernelValue.lean ====
module

public import proofs.«01_k».proof.Proof.Group
public import proofs.«01_k».proof.Proof.Spec
public import Idealize.ShloMosaic.Lib.Pointwise
/-! The kernel's group functions at an index over the extended reals: they are the chunk's spec. -/

@[expose] public section

set_option maxRecDepth 16384

noncomputable section

namespace Cert.Ssd

open Idealize Idealize.SL Idealize.ShloMosaic Idealize.ShloMosaic.TcCoe Cert.KernelIdeal Cert.KernelIdeal.Gen

/-- What a point's blocks hold: the chunk's operands and the host's tables. -/
structure Blocks (X : Fin 128 → Fin 6144 → EReal) (D : Fin 128 → Fin 128 → EReal) (A : Fin 128 → EReal)
    (K : Fin 64 → EReal) (W : Fin 4096 → EReal) (G : Fin 128 → Fin 4096 → EReal)
    (x0 : Vec Ideal S1x128x4096 .bf16) (x1 : Vec Ideal S1x128x6144 .bf16) (x2 : Vec Ideal S1x128x128 .f32) (x3 : Vec Ideal S1x128 .f32)
    (x4 : Vec Ideal S1x4096 .f32) (x5 : Vec Ideal S1x4096 .f32) (x6 : Vec Ideal S256x4096 .bf16) : Prop where
  h0 : ∀ t c, x0 (ix3 0 t c) = G t c
  h1 : ∀ t c, x1 (ix3 0 t c) = X t c
  h2 : ∀ t h, x2 (ix3 0 t h) = D t h
  h3 : ∀ h, x3 (ix2 0 h) = A h
  h4 : ∀ c : Fin 4096, x4 (ix2 0 c) = K ⟨c.val / 64, by omega⟩
  h5 : ∀ c, x5 (ix2 0 c) = W c
  h6 : ∀ (k : Fin 256) (c : Fin 4096), x6 (ix2 k c) = if k.val % 128 = c.val / 64 then 1 else 0
  hA : ∀ h, A h ≠ ⊥

variable {X : Fin 128 → Fin 6144 → EReal} {D : Fin 128 → Fin 128 → EReal} {A : Fin 128 → EReal}
  {K : Fin 64 → EReal} {W : Fin 4096 → EReal} {G : Fin 128 → Fin 4096 → EReal}
  {x0 : Vec Ideal S1x128x4096 .bf16} {x1 : Vec Ideal S1x128x6144 .bf16} {x2 : Vec Ideal S1x128x128 .f32} {x3 : Vec Ideal S1x128 .f32}
  {x4 : Vec Ideal S1x4096 .f32} {x5 : Vec Ideal S1x4096 .f32} {x6 : Vec Ideal S256x4096 .bf16}
  (hb : Blocks X D A K W G x0 x1 x2 x3 x4 x5 x6)

include hb

/-- The chunk's steps. -/
theorem dtOf_at (r h : Fin 128) : dtOf x2 (ix2 r h) = sp (D r h) := by
  pointwise [dtOf, k0_pay4]
  rw [hb.h2]
  simp only [zero_sub]
  rfl

/-- The chunk's summed log decays. -/
theorem cumOf_at (r h : Fin 128) : cumOf x2 x3 (ix2 r h) = cum D A r h := by
  pointwise [cumOf, k0_pay5, k0_pay3]
  unfold cum
  refine Finset.sum_congr rfl fun k _ => ?_
  rw [ge_word (by omega) (by omega), bit_real, hb.h3]
  have e : k0_pay4 (View.ld x2 (Rect.unit ![0, 0, 0] ![1, 128, 128] inb_S1x128x128_S1x128x128_0_0_0)) (ix2 k h) = sp (D k h) :=
    dtOf_at hb k h
  rw [e, zero_sub]
  by_cases hk : k ≤ r
  · rw [if_pos hk, if_pos (show k.val ≤ r.val from hk), one_mul]; rfl
  · rw [if_neg hk, if_neg (show ¬k.val ≤ r.val from hk), zero_mul]

/-- The decay from the chunk's start at a lane. -/
theorem ecOf_at (r : Fin 128) (c : Fin 4096) : ecOf x2 x3 x6 (ix2 r c) = Ideal.exp (cum D A r ⟨c.val / 64, by omega⟩) := by
  pointwise [ecOf, k0_pay6]
  have e : ∀ x, k0_pay5 (View.ld x2 (Rect.unit ![0, 0, 0] ![1, 128, 128] inb_S1x128x128_S1x128x128_0_0_0))
    (View.ld x3 (Rect.unit ![0, 0] ![1, 128] inb_S1x128_S1x128_0_0)) (ix2 r x) = cum D A r x := cumOf_at hb r
  simp only [e]
  refine pick (fun x => Ideal.exp (cum D A r x)) _ _ ⟨c.val / 64, by omega⟩ (fun x => ?_) (fun x => ?_) (ec_real D A r _)
  · rw [hb.h6]
    refine if_congr ?_ rfl rfl
    rw [Fin.ext_iff]
    dsimp only
    omega
  · rw [hb.h6]
    refine if_congr ?_ rfl rfl
    rw [Fin.ext_iff]
    dsimp only
    omega

/-- The decay to the chunk's end times the step at a lane. -/
theorem teOf_at (r : Fin 128) (c : Fin 4096) : teOf x2 x3 x6 (ix2 r c)
    = Ideal.exp (cum D A 127 ⟨c.val / 64, by omega⟩ - cum D A r ⟨c.val / 64, by omega⟩) * sp (D r ⟨c.val / 64, by omega⟩) := by
  pointwise [teOf, k0_pay10, k0_pay8, k0_pay9, k0_pay7]
  have e : ∀ r x, k0_pay5 (View.ld x2 (Rect.unit ![0, 0, 0] ![1, 128, 128] inb_S1x128x128_S1x128x128_0_0_0))
    (View.ld x3 (Rect.unit ![0, 0] ![1, 128] inb_S1x128_S1x128_0_0)) (ix2 r x) = cum D A r x := cumOf_at hb
  have e' : ∀ x, k0_pay4 (View.ld x2 (Rect.unit ![0, 0, 0] ![1, 128, 128] inb_S1x128x128_S1x128x128_0_0_0)) (ix2 r x) = sp (D r x) :=
    dtOf_at hb r
  simp only [e, e']
  refine pick (fun x => Ideal.exp (cum D A 127 x - cum D A r x) * sp (D r x)) _ _ ⟨c.val / 64, by omega⟩ (fun x => ?_) (fun x => ?_)
    (te_real D A r _ (hb.hA _))
  · rw [hb.h6]
    refine if_congr ?_ rfl rfl
    rw [Fin.ext_iff]
    dsimp only
    omega
  · rw [hb.h6]
    refine if_congr ?_ rfl rfl
    rw [Fin.ext_iff]
    dsimp only
    omega

/-- A group's B columns. -/
theorem bm_at (g : Fin 8) (s n : Fin 128) :
    View.ld x1 (Rect.unit ![0, 0, 4096 + 128 * g.val] S1x128x128.size (inbB g.val g.isLt)) (ix3 0 s n) = X s (iB g n) := by
  pointwise
  rw [hb.h1]
  exact congrArg (X s) (Fin.ext (by simp only [iB]; omega))

/-- A group's C columns. -/
theorem cm_at (g : Fin 8) (s n : Fin 128) :
    View.ld x1 (Rect.unit ![0, 0, 5120 + 128 * g.val] S1x128x128.size (inbC g.val g.isLt)) (ix3 0 s n) = X s (iC g n) := by
  pointwise
  rw [hb.h1]
  exact congrArg (X s) (Fin.ext (by simp only [iC]; omega))

/-- A group's values. -/
theorem xg_at (g : Fin 8) (s : Fin 128) (e : Fin 512) :
    View.ld x1 (Rect.unit ![0, 0, 512 * g.val] S1x128x512.size (inbX g.val g.isLt)) (ix3 0 s e) = X s (iX g (lh e) (lp e)) := by
  pointwise
  rw [hb.h1]
  exact congrArg (X s) (Fin.ext (by simp only [iX, lh, lp]; omega))

/-- A head's weights. -/
theorem wts_at (g h : Fin 8) (v : ℕ) (hv : v < 128) (e : v = g.val * 8 + h.val) (bm cm : Vec Ideal S1x128x128 .bf16)
    (hbm : ∀ s n, bm (ix3 0 s n) = X s (iB g n)) (hcm : ∀ s n, cm (ix3 0 s n) = X s (iC g n)) (r l : Fin 128) :
    wts v hv (cumOf x2 x3) (k0_pay11 (cumOf x2 x3)) (k0_pay12 (dtOf x2)) (k0_pay19 k0_pay3 bm cm) (ix2 r l) = wt X D A g h r l := by
  subst e
  rw [← wt_clamp]
  pointwise [wts, k0_pay11, k0_pay12, k0_pay19, k0_pay3, k0_pay16, k0_pay15]
  rw [ge_word (by omega) (by omega), bit_select, cumOf_at hb, cumOf_at hb, dtOf_at hb]
  simp only [hbm, hcm]
  by_cases h0 : l ≤ r
  · rw [if_pos h0, if_pos (show l.val ≤ r.val from h0)]
    rfl
  · rw [if_neg h0, if_neg (show ¬ l.val ≤ r.val from h0), zero_mul, zero_mul]

omit hb in
/-- One of two products is masked away. -/
theorem lane (a b x : EReal) (p p' : Prop) [Decidable p] [Decidable p'] (h : p' ↔ ¬p) :
    a * (x * if p then 1 else 0) + b * (x * if p' then 1 else 0) = x * if p then a else b := by
  by_cases hp : p
  · rw [if_pos hp, if_pos hp, if_neg (by simpa [h] using hp), mul_zero, mul_zero, mul_one, add_zero, mul_comm]
  · rw [if_neg hp, if_neg hp, if_pos (h.2 hp), mul_zero, mul_zero, mul_one, zero_add, mul_comm]

omit hb in
/-- A pair of heads at a lane: the lane's own head's product. -/
theorem pair_at (q : ℕ) (hq : q < 4) (w1 w2 : FVec Ideal S128x128 .bf16) (xg : FVec Ideal S128x512 .bf16) (r l : Fin 128) :
    pair q hq w1 w2 xg (ix2 r l)
      = ∑ x, xg (ix2 x ⟨128 * q + l.val, by omega⟩) * (if l.val < 64 then w1 (ix2 r x) else w2 (ix2 r x)) := by
  pointwise [pair, k0_pay13, k0_pay14]
  rw [lt_word (by omega) (by omega), ge_word (by omega) (by omega), bit_real, bit_real, ← Finset.sum_add_distrib]
  exact Finset.sum_congr rfl fun x _ => lane _ _ _ _ _ (by omega)

/-- A group's own part of the chunk's output at a lane. -/
theorem pairG_at (g : Fin 8) (q : ℕ) (hq : q < 4) (bm cm : Vec Ideal S1x128x128 .bf16) (xg : Vec Ideal S1x128x512 .bf16)
    (hbm : ∀ s n, bm (ix3 0 s n) = X s (iB g n)) (hcm : ∀ s n, cm (ix3 0 s n) = X s (iC g n))
    (hxg : ∀ s e, xg (ix3 0 s e) = X s (iX g (lh e) (lp e))) (r l : Fin 128) (e : Fin 512) (he : e.val = 128 * q + l.val) :
    pairG g.val g.isLt q hq (cumOf x2 x3) (k0_pay11 (cumOf x2 x3)) (k0_pay12 (dtOf x2)) (k0_pay19 k0_pay3 bm cm) (k0_pay17 xg) (ix2 r l)
      = ∑ x, X x (iX g (lh e) (lp e)) * wt X D A g (lh e) r x := by
  unfold pairG
  rw [pair_at]
  refine Finset.sum_congr rfl fun x _ => congrArg₂ (· * ·) ?_ ?_
  · pointwise [k0_pay17]
    rw [hxg]
    rw [show (⟨128 * q + l.val, by omega⟩ : Fin 512) = e from Fin.ext he.symm]
  · split
    · exact wts_at hb g (lh e) _ _ (by simp only [lh]; omega) bm cm hbm hcm r x
    · exact wts_at hb g (lh e) _ _ (by simp only [lh]; omega) bm cm hbm hcm r x

variable {S : Fin 8 → Fin 8 → Fin 64 → Fin 128 → EReal}

/-- A group's gated output at a lane. -/
theorem ygG_at (g : Fin 8) (bm cm : Vec Ideal S1x128x128 .bf16) (xg : Vec Ideal S1x128x512 .bf16)
    (st : Vec Ideal S1x128x512 .f32) (dsk : Vec Ideal S1x512 .f32) (gt : Vec Ideal S1x128x512 .bf16)
    (hbm : ∀ s n, bm (ix3 0 s n) = X s (iB g n)) (hcm : ∀ s n, cm (ix3 0 s n) = X s (iC g n))
    (hxg : ∀ s e, xg (ix3 0 s e) = X s (iX g (lh e) (lp e))) (hst : ∀ n e, st (ix3 0 n e) = S g (lh e) (lp e) n)
    (hdk : ∀ e, dsk (ix2 0 e) = K ⟨g.val * 8 + (lh e).val, by omega⟩) (hgt : ∀ s e, gt (ix3 0 s e) = G s (iG g (lh e) (lp e)))
    (r : Fin 128) (e : Fin 512) :
    ygG g.val g.isLt (dtOf x2) (cumOf x2 x3) (ecOf x2 x3 x6) bm cm xg st dsk gt (ix2 r e) = gC X D A K G S r g (lh e) (lp e) := by
  pointwise [ygG, k0_pay20, k0_pay16, k0_pay18]
  unfold gC yC
  refine congrArg₂ (· * ·) (congrArg₂ (· + ·) (congrArg₂ (· + ·) ?_ (congrArg₂ (· * ·) ?_ ?_)) (congrArg₂ (· * ·) (hdk e) (hxg r e))) (hgt r e)
  · split
    · exact pairG_at hb g 0 _ bm cm xg hbm hcm hxg r _ e (by dsimp only; omega)
    split
    · exact pairG_at hb g 1 _ bm cm xg hbm hcm hxg r _ e (by dsimp only; omega)
    split
    · exact pairG_at hb g 2 _ bm cm xg hbm hcm hxg r _ e (by dsimp only; omega)
    · exact pairG_at hb g 3 _ bm cm xg hbm hcm hxg r _ e (by dsimp only; omega)
  · refine Finset.sum_congr rfl fun n _ => ?_
    rw [hcm, hst, mul_comm]
  · rw [ecOf_at hb]
    exact congrArg (fun z => Ideal.exp (cum D A r z)) (Fin.ext (by simp only [hd, lh]; omega))

/-- A group's new state at a lane. -/
theorem stG_at (g : Fin 8) (bm : Vec Ideal S1x128x128 .bf16) (xg : Vec Ideal S1x128x512 .bf16) (st : Vec Ideal S1x128x512 .f32)
    (hbm : ∀ s n, bm (ix3 0 s n) = X s (iB g n))
    (hxg : ∀ s e, xg (ix3 0 s e) = X s (iX g (lh e) (lp e))) (hst : ∀ n e, st (ix3 0 n e) = S g (lh e) (lp e) n)
    (n : Fin 128) (e : Fin 512) :
    stG g.val g.isLt (ecOf x2 x3 x6) (teOf x2 x3 x6) bm xg st (ix3 0 n e) = sC X D A S g (lh e) (lp e) n := by
  pointwise [stG]
  unfold sC
  have hl : ∀ h, (⟨(⟨512 * g.val + e.val, h⟩ : Fin 4096).val / 64, by omega⟩ : Fin 128) = hd g (lh e) :=
    fun h => Fin.ext (by simp only [hd, lh]; omega)
  refine congrArg₂ (· + ·) (congrArg₂ (· * ·) (hst n e) ?_) (Finset.sum_congr rfl fun x _ => ?_)
  · rw [ecOf_at hb, hl]
  · rw [hbm, hxg, teOf_at hb, hl]
    rw [mul_comm (X x (iB g n)), mul_comm (X x (iX g (lh e) (lp e)))]

/-- Group `g`'s new state at a lane, from the point's blocks. -/
theorem stV_at (g : Fin 8) (st : Vec Ideal S1x128x512 .f32) (hst : ∀ n e, st (ix3 0 n e) = S g (lh e) (lp e) n) (n : Fin 128) (e : Fin 512) :
    stV x1 x2 x3 x6 g.val g.isLt st (ix3 0 n e) = sC X D A S g (lh e) (lp e) n :=
  stG_at hb g _ _ st (bm_at hb g) (xg_at hb g) hst n e

/-- Group `g`'s gated output at a lane, from the point's blocks. -/
theorem ygV_at (g : Fin 8) (st : Vec Ideal S1x128x512 .f32) (hst : ∀ n e, st (ix3 0 n e) = S g (lh e) (lp e) n) (r : Fin 128) (e : Fin 512) :
    ygV x0 x1 x2 x3 x4 x6 g.val g.isLt st (ix2 r e) = gC X D A K G S r g (lh e) (lp e) := by
  refine ygG_at hb g _ _ _ st _ _ (bm_at hb g) (cm_at hb g) (xg_at hb g) hst (fun e => ?_) (fun s e => ?_) r e
  · pointwise
    rw [hb.h4]
    exact congrArg K (Fin.ext (by simp only [lh]; omega))
  · pointwise
    rw [hb.h0]
    exact congrArg (G s) (Fin.ext (by simp only [iG, lh, lp]; omega))

/-- Group `g`'s result at a lane, from the point's blocks. -/
theorem outV_at (g : Fin 8) (st : Vec Ideal S1x128x512 .f32) (hst : ∀ n e, st (ix3 0 n e) = S g (lh e) (lp e) n) (r : Fin 128) (e : Fin 512) :
    outV x0 x1 x2 x3 x4 x5 x6 g.val g.isLt st (ix3 0 r e) = oC X D A K W G S r g e := by
  have hy := ygV_at hb g st hst r
  unfold outV
  revert hy
  generalize ygV x0 x1 x2 x3 x4 x6 g.val g.isLt st = yg
  intro hy
  pointwise [outG, k0_pay38, k0_pay37]
  unfold oC
  simp only [hy]
  rw [hb.h5]
  exact congrArg (_ * W ·) (Fin.ext (by dsimp only; omega))

end Cert.Ssd

end
-- ==== Proof.Open.lean ====
module

public import proofs.«01_k».proof.Proof.Group
/-! What one grid point of the kernel stores, opened to one list of eight stores, group by group. -/

@[expose] public section

open Idealize Idealize.SL Idealize.ShloMosaic Idealize.ShloMosaic.TcCoe Cert.KernelIdeal Cert.KernelIdeal.Gen

set_option maxRecDepth 16384

noncomputable section

namespace Cert.Ssd

variable {F : FTy → Type} [FloatOps F]
variable (c : Dev nD) (i : grid0.Coords) (arg2 : Memref sig .tc .vmem S1x128x4096 .bf16) (harg2 : arg2.IsWhole) (arg3 : Memref sig .tc .vmem S1x128x6144 .bf16) (harg3 : arg3.IsWhole) (arg4 : Memref sig .tc .vmem S1x128x128 .f32) (harg4 : arg4.IsWhole) (arg5 : Memref sig .tc .vmem S1x128 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S256x4096 .bf16) (harg8 : arg8.IsWhole) (arg9 : Memref sig .tc .vmem S1x128x4096 .bf16) (harg9 : arg9.IsWhole) (arg10 : Memref sig .tc .vmem S8x128x512 .f32) (harg10 : arg10.IsWhole)
  (x0 : Vec F S1x128x4096 .bf16) (x1 : Vec F S1x128x6144 .bf16) (x2 : Vec F S1x128x128 .f32) (x3 : Vec F S1x128 .f32) (x4 : Vec F S1x4096 .f32) (x5 : Vec F S1x4096 .f32) (x6 : Vec F S256x4096 .bf16)

/-- The carried state a later chunk leaves: eight stores, one per group. -/
theorem state_later (hc0 : ¬cond0_0 i) (xs0 : Vec F S8x128x512 .f32) :
    sout0_B_0 c i arg2 harg2 arg3 harg3 arg4 harg4 arg5 harg5 arg6 harg6 arg7 harg7 arg8 harg8 arg9 harg9 arg10 harg10 hc0 x0 x1 x2 x3 x4 x5 x6 xs0 = View.canon (groupPieces (stPiece x1 x2 x3 x6 xs0) [] 8) := by
  unfold sout0_B_0
  rw [View.read_writes_eq_canon _ _ _ (scover0_B_0 _ _ _ _ _ _ _ _ _ _ _ _ _ _ _ _ _ _ _ _ _ _ _ _ _ _ _ _ _)]
  unfold kernelRun0_B
  dsimp only
  sl_unfold_words
  simp only [View.readAt_eq_ld, harg2.read_unread, harg3.read_unread, harg4.read_unread, harg5.read_unread, harg6.read_unread, harg7.read_unread, harg8.read_unread, harg10.read_unread]
  rfl

/-- The output a later chunk leaves: eight stores, one per group. -/
theorem out_later (hc0 : ¬cond0_0 i) (xs0 : Vec F S8x128x512 .f32) :
    out0_B_7 c i arg2 harg2 arg3 harg3 arg4 harg4 arg5 harg5 arg6 harg6 arg7 harg7 arg8 harg8 arg9 harg9 arg10 harg10 hc0 x0 x1 x2 x3 x4 x5 x6 xs0 = View.canon (groupPieces (outPiece x0 x1 x2 x3 x4 x5 x6 xs0) [] 8) := by
  unfold out0_B_7
  rw [View.read_writes_eq_canon _ _ _ (cover0_B_7 _ _ _ _ _ _ _ _ _ _ _ _ _ _ _ _ _ _ _ _ _ _ _ _ _ _ _ _ _)]
  unfold kernelRun0_B
  dsimp only
  sl_unfold_words
  simp only [View.readAt_eq_ld, harg2.read_unread, harg3.read_unread, harg4.read_unread, harg5.read_unread, harg6.read_unread, harg7.read_unread, harg8.read_unread, harg10.read_unread]
  rfl

/-- The zeros a batch's first chunk stores over the whole state. -/
def zeroPiece : View.Piece (Elt F) S8x128x512 .f32 :=
  ⟨Rect.unit ![0, 0, 0] S8x128x512.size inb_S8x128x512_S8x128x512_0_0_0, k0_pay2 (F := F)⟩

/-- A first chunk's stores into the state: the zeros, then group by group the new state over what the group's plane holds. -/
def firstPieces (v : View sig .tc .vmem S8x128x512 .f32) : ℕ → List (View.Piece (Elt F) S8x128x512 .f32)
  | 0 => [zeroPiece]
  | n + 1 => if hn : n < 8 then
      ⟨Rect.unit ![n, 0, 0] S1x128x512.size (inbS n hn),
        stV x1 x2 x3 x6 n hn (v.readCov (firstPieces v n) (Rect.unit (s := S8x128x512) ![n, 0, 0] S1x128x512.size (inbS n hn)).toLoadRect)⟩
        :: firstPieces v n
    else firstPieces v n

/-- A first chunk's store of group `g`'s new state. -/
def firstSt (v : View sig .tc .vmem S8x128x512 .f32) (g : ℕ) (hg : g < 8) : View.Piece (Elt F) S8x128x512 .f32 :=
  ⟨Rect.unit ![g, 0, 0] S1x128x512.size (inbS g hg),
    stV x1 x2 x3 x6 g hg (v.readCov (firstPieces x1 x2 x3 x6 v g) (Rect.unit (s := S8x128x512) ![g, 0, 0] S1x128x512.size (inbS g hg)).toLoadRect)⟩

/-- A first chunk's stores into the state are the groups' over the zeros. -/
theorem firstPieces_eq (v : View sig .tc .vmem S8x128x512 .f32) (n : ℕ) :
    firstPieces x1 x2 x3 x6 v n = groupPieces (firstSt x1 x2 x3 x6 v) [zeroPiece] n := by
  induction n with
  | zero => rfl
  | succ n ih =>
    unfold firstPieces groupPieces
    split
    · rw [← ih]; rfl
    · exact ih

/-- A first chunk's store of group `g`'s output, over what the group's plane of the state holds. -/
def firstOut (v : View sig .tc .vmem S8x128x512 .f32) (g : ℕ) (hg : g < 8) : View.Piece (Elt F) S1x128x4096 .bf16 :=
  ⟨Rect.unit ![0, 0, 512 * g] S1x128x512.size (inbG g hg),
    outV x0 x1 x2 x3 x4 x5 x6 g hg (v.readCov (firstPieces x1 x2 x3 x6 v g) (Rect.unit (s := S8x128x512) ![g, 0, 0] S1x128x512.size (inbS g hg)).toLoadRect)⟩

/-- The carried state a batch's first chunk leaves. -/
theorem state_first (hc0 : cond0_0 i) :
    sout0_A_0 c i arg2 harg2 arg3 harg3 arg4 harg4 arg5 harg5 arg6 harg6 arg7 harg7 arg8 harg8 arg9 harg9 arg10 harg10 hc0 x0 x1 x2 x3 x4 x5 x6 = View.canon (firstPieces x1 x2 x3 x6 arg10.view 8) := by
  unfold sout0_A_0
  rw [View.read_writes_eq_canon _ _ _ (scover0_A_0 _ _ _ _ _ _ _ _ _ _ _ _ _ _ _ _ _ _ _ _ _ _ _ _ _ _ _ _)]
  unfold kernelRun0_A
  dsimp only
  sl_unfold_words
  simp only [View.readAt_eq_ld, harg2.read_unread, harg3.read_unread, harg4.read_unread, harg5.read_unread, harg6.read_unread, harg7.read_unread, harg8.read_unread]
  rfl

/-- The output a batch's first chunk leaves. -/
theorem out_first (hc0 : cond0_0 i) :
    out0_A_7 c i arg2 harg2 arg3 harg3 arg4 harg4 arg5 harg5 arg6 harg6 arg7 harg7 arg8 harg8 arg9 harg9 arg10 harg10 hc0 x0 x1 x2 x3 x4 x5 x6 = View.canon (groupPieces (firstOut x0 x1 x2 x3 x4 x5 x6 arg10.view) [] 8) := by
  unfold out0_A_7
  rw [View.read_writes_eq_canon _ _ _ (cover0_A_7 _ _ _ _ _ _ _ _ _ _ _ _ _ _ _ _ _ _ _ _ _ _ _ _ _ _ _ _)]
  unfold kernelRun0_A
  dsimp only
  sl_unfold_words
  simp only [View.readAt_eq_ld, harg2.read_unread, harg3.read_unread, harg4.read_unread, harg5.read_unread, harg6.read_unread, harg7.read_unread, harg8.read_unread]
  rfl

/-- The plane of a group. -/
theorem planeEmb (g : ℕ) (hg : g < 8) (n : Fin 128) (p : Fin 512) :
    (Rect.unit (s := S8x128x512) ![g, 0, 0] S1x128x512.size (inbS g hg)).emb (ix3 0 n p) = ix3 ⟨g, hg⟩ n p := by
  funext a; apply Fin.ext; fin_cases a
  · show g + 1 * 0 = g; omega
  · show 0 + 1 * n.val = n.val; omega
  · show 0 + 1 * p.val = p.val; omega

/-- The lanes of a group. -/
theorem lanesEmb (g : ℕ) (hg : g < 8) (r : Fin 128) (p : Fin 512) :
    (Rect.unit (s := S1x128x4096) ![0, 0, 512 * g] S1x128x512.size (inbG g hg)).emb (ix3 0 r p)
      = ix3 0 r ⟨512 * g + p.val, by omega⟩ := by
  funext a; apply Fin.ext; fin_cases a
  · rfl
  · show 0 + 1 * r.val = r.val; omega
  · show 512 * g + 1 * p.val = 512 * g + p.val; omega

/-- Another group's plane does not hold it. -/
theorem plane_not_mem (g g' : ℕ) (hg : g < 8) (hg' : g' < 8) (h : g ≠ g') (n : Fin 128) (p : Fin 512) :
    (ix3 ⟨g, hg⟩ n p : S8x128x512.Idx) ∉ (Rect.unit (s := S8x128x512) ![g', 0, 0] S1x128x512.size (inbS g' hg')).set := by
  rw [Rect.mem_set_unit]
  intro hm
  have := hm 0
  simp at this
  omega

/-- Another group's lanes do not hold it. -/
theorem lanes_not_mem (g g' : ℕ) (hg : g < 8) (hg' : g' < 8) (h : g ≠ g') (r : Fin 128) (p : Fin 512) :
    (ix3 0 r ⟨512 * g + p.val, by omega⟩ : S1x128x4096.Idx)
      ∉ (Rect.unit (s := S1x128x4096) ![0, 0, 512 * g'] S1x128x512.size (inbG g' hg')).set := by
  rw [Rect.mem_set_unit]
  intro hm
  have := hm 2
  simp at this
  omega

/-- A group's plane of the zeros a first chunk stores. -/
theorem readCov_first (v : View sig .tc .vmem S8x128x512 .f32) (g : ℕ) (hg : g < 8) :
    v.readCov (firstPieces x1 x2 x3 x6 v g) (Rect.unit (s := S8x128x512) ![g, 0, 0] S1x128x512.size (inbS g hg)).toLoadRect
      = View.ld (k0_pay2 (F := F)) (Rect.unit (s := S8x128x512) ![g, 0, 0] S1x128x512.size (inbS g hg)) := by
  have hz : ∀ y : S8x128x512.Idx, ∃ x, (zeroPiece (F := F)).1.emb x = y := fun y => ⟨y, by
    funext a; apply Fin.ext; fin_cases a
    · show 0 + 1 * (y 0).val = (y 0).val; omega
    · show 0 + 1 * (y 1).val = (y 1).val; omega
    · show 0 + 1 * (y 2).val = (y 2).val; omega⟩
  rw [View.readCov_eq_canon]
  · funext j
    obtain ⟨n, p, rfl⟩ : ∃ n p, j = ix3 0 n p := ⟨j 1, j 2, by
      funext a; fin_cases a
      · exact Subsingleton.elim (α := Fin 1) _ _
      · rfl
      · rfl⟩
    have e := planeEmb g hg n p
    change View.canon (Val := Elt F) (e := .f32) (firstPieces x1 x2 x3 x6 v g) ((Rect.unit (s := S8x128x512) ![g, 0, 0] S1x128x512.size (inbS g hg)).emb (ix3 0 n p))
      = (k0_pay2 (F := F)) ((Rect.unit (s := S8x128x512) ![g, 0, 0] S1x128x512.size (inbS g hg)).emb (ix3 0 n p))
    rw [firstPieces_eq, e, groupPieces_below (firstSt x1 x2 x3 x6 v) [zeroPiece] (ix3 ⟨g, hg⟩ n p) g (fun g' hg' hlt => plane_not_mem g g' hg hg' (by omega) n p)]
    obtain ⟨x, hx⟩ := hz (ix3 ⟨g, hg⟩ n p)
    rw [← hx]
    exact View.canon_cons_emb (Val := Elt F) (e := .f32) (zeroPiece (F := F)).1 (zeroPiece (F := F)).2 [] x
  · intro j
    refine ⟨zeroPiece, ?_, ?_⟩
    · rw [firstPieces_eq]
      clear hz j
      have : ∀ n, (zeroPiece (F := F)) ∈ groupPieces (firstSt x1 x2 x3 x6 v) [zeroPiece] n := by
        intro n
        induction n with
        | zero => simp [groupPieces]
        | succ n ih => unfold groupPieces; split <;> simp [ih]
      exact this g
    · refine (Rect.mem_set_unit (inb := inb_S8x128x512_S8x128x512_0_0_0)).mpr fun a => ⟨?_, ?_⟩
      · fin_cases a <;> exact Nat.zero_le _
      · fin_cases a <;> exact (Nat.zero_add _).symm ▸ Fin.isLt _

/-- A later chunk's new state at an index. -/
theorem state_later_at (hc0 : ¬cond0_0 i) (xs0 : Vec F S8x128x512 .f32) (g : ℕ) (hg : g < 8) (n : Fin 128) (p : Fin 512) :
    sout0_B_0 c i arg2 harg2 arg3 harg3 arg4 harg4 arg5 harg5 arg6 harg6 arg7 harg7 arg8 harg8 arg9 harg9 arg10 harg10 hc0 x0 x1 x2 x3 x4 x5 x6 xs0 (ix3 ⟨g, hg⟩ n p)
      = stV x1 x2 x3 x6 g hg (View.ld xs0 (Rect.unit (s := S8x128x512) ![g, 0, 0] S1x128x512.size (inbS g hg))) (ix3 0 n p) := by
  rw [state_later, ← planeEmb g hg n p]
  refine groupPieces_at (stPiece x1 x2 x3 x6 xs0) [] g hg (ix3 0 n p) 8 hg fun g' hg' hlt => ?_
  show (Rect.unit (s := S8x128x512) ![g, 0, 0] S1x128x512.size (inbS g hg)).emb (ix3 0 n p) ∉ _
  rw [planeEmb g hg n p]
  exact plane_not_mem g g' hg hg' (by omega) n p

/-- A first chunk's new state at an index. -/
theorem state_first_at (hc0 : cond0_0 i) (g : ℕ) (hg : g < 8) (n : Fin 128) (p : Fin 512) :
    sout0_A_0 c i arg2 harg2 arg3 harg3 arg4 harg4 arg5 harg5 arg6 harg6 arg7 harg7 arg8 harg8 arg9 harg9 arg10 harg10 hc0 x0 x1 x2 x3 x4 x5 x6 (ix3 ⟨g, hg⟩ n p)
      = stV x1 x2 x3 x6 g hg (View.ld (k0_pay2 (F := F)) (Rect.unit (s := S8x128x512) ![g, 0, 0] S1x128x512.size (inbS g hg))) (ix3 0 n p) := by
  rw [state_first, firstPieces_eq, ← planeEmb g hg n p, ← readCov_first x1 x2 x3 x6 arg10.view g hg]
  refine groupPieces_at (firstSt x1 x2 x3 x6 arg10.view) [zeroPiece] g hg (ix3 0 n p) 8 hg fun g' hg' hlt => ?_
  show (Rect.unit (s := S8x128x512) ![g, 0, 0] S1x128x512.size (inbS g hg)).emb (ix3 0 n p) ∉ _
  rw [planeEmb g hg n p]
  exact plane_not_mem g g' hg hg' (by omega) n p

/-- A later chunk's output at an index. -/
theorem out_later_at (hc0 : ¬cond0_0 i) (xs0 : Vec F S8x128x512 .f32) (g : ℕ) (hg : g < 8) (r : Fin 128) (p : Fin 512) :
    out0_B_7 c i arg2 harg2 arg3 harg3 arg4 harg4 arg5 harg5 arg6 harg6 arg7 harg7 arg8 harg8 arg9 harg9 arg10 harg10 hc0 x0 x1 x2 x3 x4 x5 x6 xs0 (ix3 0 r ⟨512 * g + p.val, by omega⟩)
      = outV x0 x1 x2 x3 x4 x5 x6 g hg (View.ld xs0 (Rect.unit (s := S8x128x512) ![g, 0, 0] S1x128x512.size (inbS g hg))) (ix3 0 r p) := by
  rw [out_later, ← lanesEmb g hg r p]
  refine groupPieces_at (outPiece x0 x1 x2 x3 x4 x5 x6 xs0) [] g hg (ix3 0 r p) 8 hg fun g' hg' hlt => ?_
  show (Rect.unit (s := S1x128x4096) ![0, 0, 512 * g] S1x128x512.size (inbG g hg)).emb (ix3 0 r p) ∉ _
  rw [lanesEmb g hg r p]
  exact lanes_not_mem g g' hg hg' (by omega) r p

/-- A first chunk's output at an index. -/
theorem out_first_at (hc0 : cond0_0 i) (g : ℕ) (hg : g < 8) (r : Fin 128) (p : Fin 512) :
    out0_A_7 c i arg2 harg2 arg3 harg3 arg4 harg4 arg5 harg5 arg6 harg6 arg7 harg7 arg8 harg8 arg9 harg9 arg10 harg10 hc0 x0 x1 x2 x3 x4 x5 x6 (ix3 0 r ⟨512 * g + p.val, by omega⟩)
      = outV x0 x1 x2 x3 x4 x5 x6 g hg (View.ld (k0_pay2 (F := F)) (Rect.unit (s := S8x128x512) ![g, 0, 0] S1x128x512.size (inbS g hg))) (ix3 0 r p) := by
  rw [out_first, ← lanesEmb g hg r p, ← readCov_first x1 x2 x3 x6 arg10.view g hg]
  refine groupPieces_at (firstOut x0 x1 x2 x3 x4 x5 x6 arg10.view) [] g hg (ix3 0 r p) 8 hg fun g' hg' hlt => ?_
  show (Rect.unit (s := S1x128x4096) ![0, 0, 512 * g] S1x128x512.size (inbG g hg)).emb (ix3 0 r p) ∉ _
  rw [lanesEmb g hg r p]
  exact lanes_not_mem g g' hg hg' (by omega) r p

end Cert.Ssd
-- ==== Proof.Product.lean ====
module

public import Idealize.ShloMosaic.Lib.WritesUnit
public import Idealize.ShloMosaic.Lib.Pipeline.ValueKit
/-! What the projections share: a row times a column, the weights' copy stored in strips of rows, the gate's activation, finite values. -/

@[expose] public section

open Idealize Idealize.ShloMosaic

noncomputable section

namespace Cert.Product

/-- A row times a column. -/
def prod {K : ℕ} (x w : Fin K → EReal) : EReal := ∑ k, x k * w k

/-- The zero offsets. -/
theorem hz : (![0, 0] : Fin 2 → ℕ) = fun _ => 0 := by
  funext a; fin_cases a <;> rfl

/-- An array stored in strips of 256 rows: a row is the strip's that holds it. -/
theorem strips_at {Val : EltTy → Type} [∀ e, Nonempty (Val e)] {sig : RefSig} {κ : Kind} {sp : Space} {e : EltTy} {K N NT : ℕ}
    (v : View sig κ sp ⟨2, ![K, N]⟩ e) (off : Fin NT → Fin 2 → ℕ) (hoff : ∀ q, off q = ![256 * q.val, 0])
    (inb : ∀ q a, off q a + (![256, N] : Fin 2 → ℕ) a ≤ (![K, N] : Fin 2 → ℕ) a)
    (P : Fin NT → (⟨2, ![256, N]⟩ : Shape).Idx → Val e) (k : Fin K) (j : Fin N) (hk : k.val / 256 < NT) :
    View.canon (View.tilePieces (s := ⟨2, ![K, N]⟩) ![256, N] off inb P NT le_rfl) (ix2 k j)
      = P ⟨k.val / 256, hk⟩ (ix2 ⟨k.val % 256, by omega⟩ j) := by
  rw [← View.read_writes_junk_eq_canon v]
  refine View.read_tilePieces (Val := Val) (s := ⟨2, ![K, N]⟩) v _ ![256, N] off inb P _ _ (ix2 k j) ⟨k.val / 256, hk⟩ hk (ix2 ⟨k.val % 256, by omega⟩ j) ?_ 0 ?_
  · intro a
    rw [hoff]
    fin_cases a
    · show k.val = 256 * (k.val / 256) + k.val % 256; omega
    · show j.val = 0 + j.val; omega
  · intro q hq
    rw [hoff]
    show k.val < 256 * q.val ∨ 256 * q.val + 256 ≤ k.val
    have : q.val ≠ k.val / 256 := fun h => hq (Fin.ext h)
    omega

/-- A strip of 256 rows of the weights' block, at an index. -/
theorem strip_at {Val : EltTy → Type} {e : EltTy} {K N : ℕ} (x : (⟨3, ![1, K, N]⟩ : Shape).Idx → Val e) (off : Fin 3 → ℕ) (k : Fin K)
    (hoff : off = ![0, 256 * (k.val / 256), 0]) (inb : ∀ a, off a + (![1, 256, N] : Fin 3 → ℕ) a ≤ (![1, K, N] : Fin 3 → ℕ) a)
    (j : Fin N) :
    View.ld (Val := Val) (e' := e) x (Rect.unit (s := ⟨3, ![1, K, N]⟩) off ![1, 256, N] inb) (ix3 0 ⟨k.val % 256, by omega⟩ j) = x (ix3 0 k j) := by
  subst hoff
  refine congrArg x (funext fun a => Fin.ext ?_)
  fin_cases a
  · rfl
  · show 256 * (k.val / 256) + 1 * (k.val % 256) = k.val; omega
  · show 0 + 1 * j.val = j.val; omega

/-- What is set at each block's first point and kept at the others. -/
theorem carried {α : Type} {N : ℕ} (f : (n : ℕ) → n < N → α) (g : ℕ → α) (P : ℕ) (hP : 0 < P)
    (first : ∀ n hn, n % P = 0 → f n hn = g (n / P))
    (later : ∀ n (hn : n + 1 < N), ¬(n + 1) % P = 0 → f (n + 1) hn = f n (by omega)) :
    ∀ n hn, f n hn = g (n / P)
  | 0, hn => first 0 hn (Nat.zero_mod _)
  | n + 1, hn => by
    by_cases h : (n + 1) % P = 0
    · exact first _ hn h
    · rw [later n hn h, carried f g P hP first later n (by omega), Nat.succ_div_of_not_dvd fun hd => h (Nat.mod_eq_zero_of_dvd hd)]

/-- A real number's gate: half of it plus half of it times the tangent, or itself times the logistic. -/
theorem gate_real (x : ℝ) : x / 2 + x / 2 * Real.tanh (x / 2) = x * (1 + Real.exp (-x))⁻¹ := by
  rw [Real.tanh_eq_sinh_div_cosh, Real.sinh_eq, Real.cosh_eq]
  have h1 : Real.exp (-x) = Real.exp (-(x / 2)) * Real.exp (-(x / 2)) := by rw [← Real.exp_add]; ring_nf
  have h2 : Real.exp (x / 2) * Real.exp (-(x / 2)) = 1 := by rw [← Real.exp_add]; simp
  have p1 := Real.exp_pos (x / 2)
  have p2 := Real.exp_pos (-(x / 2))
  rw [h1]
  generalize Real.exp (x / 2) = a at *
  generalize Real.exp (-(x / 2)) = b at *
  have h3 : (1 + b * b) ≠ 0 := by positivity
  have h4 : (a + b) ≠ 0 := by positivity
  field_simp
  linear_combination (2 * x * b) * h2

/-- A finite value. -/
def Finite (x : EReal) : Prop := ∃ r : ℝ, x = (r : EReal)

/-- A product of finite values is finite. -/
theorem Finite.mul {x y : EReal} (hx : Finite x) (hy : Finite y) : Finite (x * y) := by
  obtain ⟨a, rfl⟩ := hx
  obtain ⟨b, rfl⟩ := hy
  exact ⟨a * b, (EReal.coe_mul a b).symm⟩

/-- A sum of two finite values is finite. -/
theorem Finite.add {x y : EReal} (hx : Finite x) (hy : Finite y) : Finite (x + y) := by
  obtain ⟨a, rfl⟩ := hx
  obtain ⟨b, rfl⟩ := hy
  exact ⟨a + b, (EReal.coe_add a b).symm⟩

/-- A finite row times a finite column is finite. -/
theorem Finite.prod {K : ℕ} {x w : Fin K → EReal} (hx : ∀ k, Finite (x k)) (hw : ∀ k, Finite (w k)) : Finite (Product.prod x w) :=
  Finset.sum_induction (p := Finite) _ (fun _ _ => Finite.add) ⟨0, rfl⟩ fun k _ => (hx k).mul (hw k)

/-- A value whose magnitude is below infinity is finite. -/
theorem finite_of_abs {x : EReal} (h : Ideal.cmp .olt (max x (-x)) ⊤ = 1#1) : Finite x := by
  induction x with
  | bot => simp [Ideal.cmp] at h
  | top => simp [Ideal.cmp] at h
  | coe r => exact ⟨r, rfl⟩

/-- Infinity as the bits of a single. -/
theorem inf32 : Ideal.ofBits .f32 0x7F800000#32 = ⊤ := by
  change Ideal.ieee 8 23 0x7F800000#32 = ⊤
  unfold Ideal.ieee
  rw [if_pos (by decide), if_pos (by decide), if_neg (by decide)]

/-- Infinity as the bits of a half-width value. -/
theorem inf16 : Ideal.ofBits .bf16 0x7F80#16 = ⊤ := by
  change Ideal.ieee 8 7 0x7F80#16 = ⊤
  unfold Ideal.ieee
  rw [if_pos (by decide), if_pos (by decide), if_neg (by decide)]

/-- One half as the bits of a single. -/
theorem half : Ideal.ofBits .f32 0x3F000000#32 = ((1 / 2 : ℝ) : EReal) := by
  change Ideal.ieee 8 23 0x3F000000#32 = _
  unfold Ideal.ieee
  rw [if_neg (by decide), if_neg (by decide)]
  refine congrArg _ ?_
  have h0 : (BitVec.extractLsb' 23 8 0x3F000000#32).toNat = 126 := by decide
  have h1 : (BitVec.extractLsb' 0 23 0x3F000000#32).toNat = 0 := by decide
  have h2 : (BitVec.extractLsb' (8 + 23) 1 0x3F000000#32 == 1#1) = false := by decide
  rw [h0, h1, h2]
  norm_num

/-- The gate's activation by the tangent. -/
def gate (x : EReal) : EReal :=
  ((1 / 2 : ℝ) : EReal) * x + ((1 / 2 : ℝ) : EReal) * x * Ideal.tanh (((1 / 2 : ℝ) : EReal) * x)

/-- The gate's activation by the logistic function. -/
def silu (x : EReal) : EReal := x * Ideal.div 1 (1 + Ideal.exp (-x))

/-- The two are one at finite values. -/
theorem gate_eq_silu {x : EReal} (hx : Finite x) : gate x = silu x := by
  obtain ⟨r, rfl⟩ := hx
  unfold gate silu
  have hp : 1 + Real.exp (-r) ≠ 0 := by positivity
  rw [← EReal.coe_neg, Ideal.exp_coe, ← EReal.coe_one, ← EReal.coe_add, Ideal.div_coe hp, ← EReal.coe_mul, Ideal.tanh_coe,
    ← EReal.coe_mul, ← EReal.coe_add, ← EReal.coe_mul, ← EReal.coe_mul]
  have := gate_real r
  rw [EReal.coe_eq_coe_iff, one_mul, one_div (1 + _), ← this]
  ring_nf

/-- The integer zero is the zero. -/
theorem sitofp_zero : (FloatOps.sitofp (F := Ideal) .f32 0#32 : EReal) = 0 := by
  show (((0#32).toInt : ℝ) : EReal) = 0
  simp

end Cert.Product

end
-- ==== Proof.KernelRun.lean ====
module

public import proofs.«01_k».proof.Proof.KernelValue
public import proofs.«01_k».proof.Proof.Open
public import proofs.«01_k».proof.Proof.Gen.KernelIdeal.Value
public import Idealize.ShloMosaic.Lib.Pipeline.ValueKit
public import proofs.«01_k».proof.Proof.Product
/-! The kernel's whole run: every grid point's blocks, the state carried from chunk to chunk, and the result array. -/

@[expose] public section

open Idealize Idealize.SL Idealize.ShloMosaic Idealize.ShloMosaic.TcCoe Cert.KernelIdeal Cert.KernelIdeal.Gen

set_option maxRecDepth 16384

noncomputable section

namespace Cert.Ssd

variable (m : (ℓ : Loc nD τ sig) → Buf (Elt Ideal) ℓ) (c : Dev nD)

/-- A batch's convolved sequence. -/
def kX (b : Fin 8) (l : Fin 4096) (k : Fin 6144) : EReal := m ((c : Thread nD τ).loc main_arg1) (ix3 b l k)

/-- A batch's step sizes before the softplus. -/
def kD (b : Fin 8) (l : Fin 4096) (h : Fin 128) : EReal := m ((c : Thread nD τ).loc main_arg2) (ix3 b l h)

/-- The log decays over the lanes, zero where there is no head. -/
def kA (h : Fin 128) : EReal := if hh : h.val < 64 then m ((c : Thread nD τ).loc main_arg3) (ix1 ⟨h.val, hh⟩) else 0

/-- The skip weights. -/
def kK (h : Fin 64) : EReal := m ((c : Thread nD τ).loc main_arg4) (ix1 h)

/-- The norm weights. -/
def kW (q : Fin 4096) : EReal := m ((c : Thread nD τ).loc main_arg5) (ix1 q)

/-- A batch's gate. -/
def kG (b : Fin 8) (l q : Fin 4096) : EReal := m ((c : Thread nD τ).loc main_arg0) (ix3 b l q)

/-- The windows' block indices at a point. -/
theorem idx_all : ∀ t : Fin cfg0.N, win0_0.index t = ![t.val / 32, t.val % 32, 0] ∧ win0_1.index t = ![t.val / 32, t.val % 32, 0]
    ∧ win0_2.index t = ![t.val / 32, t.val % 32, 0] ∧ win0_3.index t = ![0, 0] ∧ win0_4.index t = ![0, 0] ∧ win0_5.index t = ![0, 0]
    ∧ win0_6.index t = ![0, 0] := by decide +kernel

/-- A point's batch. -/
def bt (t : Fin cfg0.N) : Fin 8 := ⟨t.val / 32, by have : t.val < 256 := t.isLt; omega⟩

/-- The gate's block. -/
theorem blk0 (t : Fin cfg0.N) (r : Fin 128) (k : Fin 4096) : iblk m c 0 t (ix3 0 r k) = kG m c (bt t) (pos (t.val % 32) r) k := by
  unfold kG bt pos
  blk_ext [iblk, V, idx_all t]

/-- The convolved sequence's block. -/
theorem blk1 (t : Fin cfg0.N) (r : Fin 128) (k : Fin 6144) : iblk m c 1 t (ix3 0 r k) = kX m c (bt t) (pos (t.val % 32) r) k := by
  unfold kX bt pos
  blk_ext [iblk, V, idx_all t]

/-- The step sizes' block. -/
theorem blk2 (t : Fin cfg0.N) (r : Fin 128) (k : Fin 128) : iblk m c 2 t (ix3 0 r k) = kD m c (bt t) (pos (t.val % 32) r) k := by
  unfold kD bt pos
  blk_ext [iblk, V, idx_all t]

/-- The remainder by 128 of a lane's number, as the program computes it. -/
theorem rem_word : ∀ r : Fin 256,
    Scalar.select
      (IntOp.andi
        (IntOp.cmpi CmpIPredicate.ne
          (IntOp.cmpi CmpIPredicate.slt (IntOp.remsi ArithUnit.host (BitVec.ofNat 32 r.val)
            (Scalar.select (IntOp.cmpi CmpIPredicate.eq 128#32 0#32) 1#32 128#32)) 0#32)
          (IntOp.cmpi CmpIPredicate.slt (Scalar.select (IntOp.cmpi CmpIPredicate.eq 128#32 0#32) 1#32 128#32) 0#32))
        (IntOp.cmpi CmpIPredicate.ne (IntOp.remsi ArithUnit.host (BitVec.ofNat 32 r.val)
          (Scalar.select (IntOp.cmpi CmpIPredicate.eq 128#32 0#32) 1#32 128#32)) 0#32))
      (IntOp.addi (IntOp.remsi ArithUnit.host (BitVec.ofNat 32 r.val)
          (Scalar.select (IntOp.cmpi CmpIPredicate.eq 128#32 0#32) 1#32 128#32))
        (Scalar.select (IntOp.cmpi CmpIPredicate.eq 128#32 0#32) 1#32 128#32))
      (IntOp.remsi ArithUnit.host (BitVec.ofNat 32 r.val) (Scalar.select (IntOp.cmpi CmpIPredicate.eq 128#32 0#32) 1#32 128#32))
    = BitVec.ofNat 32 (r.val % 128) := by decide +kernel

/-- The quotient by 64 of a lane's number, as the program computes it. -/
theorem quo_word : ∀ k : Fin 4096,
    Scalar.select
      (IntOp.andi
        (IntOp.cmpi CmpIPredicate.ne
          (if BitVec.ofNat 32 k.val = 0 then 0 else if (BitVec.ofNat 32 k.val).msb = true then -1 else 1 : BitVec 32)
          (if 64#32 = 0 then 0 else if (64#32).msb = true then -1 else 1))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32)
    = BitVec.ofNat 32 (k.val / 64) := by decide +kernel

/-- Equality of two small words. -/
theorem same_word {a b : ℕ} (ha : a < 2 ^ 31) (hb : b < 2 ^ 31) :
    IntOp.cmpi .eq (BitVec.ofNat 32 a) (BitVec.ofNat 32 b) = if a = b then 1#1 else 0#1 := by
  by_cases h : a = b
  · subst h; simp [IntOp.cmpi]
  · rw [if_neg h]
    have : BitVec.ofNat 32 a ≠ BitVec.ofNat 32 b := fun e => h (by
      have := congrArg BitVec.toNat e
      simp only [BitVec.toNat_ofNat] at this
      omega)
    simp only [IntOp.cmpi, beq_eq_false_iff_ne.2 this]
    rfl

/-- The padded log decays. -/
theorem v11_at (k : Fin 128) : V m c main_v11 (ix2 0 k) = kA m c k := by
  unfold kA
  unfold V
  simp only [hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise
  split
  · rfl
  · exact Cert.Product.sitofp_zero

/-- The repeated skip weights. -/
theorem v14_at (k : Fin 4096) : V m c main_v14 (ix2 0 k) = kK m c ⟨k.val / 64, by omega⟩ := by
  unfold kK
  unfold V
  simp only [hostOps0, hostOps0_1, hostOps0_2, hostOps0_3, hostOps0_4, hostOps0_5, hostOps0_6, List.flatten_cons, List.flatten_nil, List.append_nil, List.cons_append, List.nil_append]
  entry_read
  pointwise

/-- The norm weights as a row. -/
theorem v15_at (k : Fin 4096) : V m c main_v15 (ix2 0 k) = kW m c k := by
  unfold kW
  unfold V
  simp only [hostOps0, hostOps0_1, hostOps0_2, hostOps0_3, hostOps0_4, hostOps0_5, hostOps0_6, List.flatten_cons, List.flatten_nil, List.append_nil, List.cons_append, List.nil_append]
  entry_read
  pointwise

/-- The table that hands a head's value to its lanes. -/
theorem v9_at (r : Fin 256) (k : Fin 4096) : V m c main_v9 (ix2 r k) = if r.val % 128 = k.val / 64 then (1 : EReal) else 0 := by
  unfold V
  simp only [hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise
  rw [rem_word]
  refine (congrArg (fun w => FloatOps.uitofp (F := Ideal) FTy.bf16 (IntOp.cmpi .eq (BitVec.ofNat 32 (r.val % 128)) w)) (quo_word k)).trans ?_
  rw [same_word (by omega) (by omega)]
  by_cases h : r.val % 128 = k.val / 64
  · rw [if_pos h, if_pos h]
    show (((1#1).toNat : ℝ) : EReal) = 1
    simp
  · rw [if_neg h, if_neg h]
    show (((0#1).toNat : ℝ) : EReal) = 0
    simp

/-- The log decays' block. -/
theorem blk3 (t : Fin cfg0.N) (k : Fin 128) : iblk m c 3 t (ix2 0 k) = kA m c k := by
  refine Eq.trans ?_ (v11_at m c k)
  blk_ext [iblk, idx_all t]

/-- The skip weights' block. -/
theorem blk4 (t : Fin cfg0.N) (k : Fin 4096) : iblk m c 4 t (ix2 0 k) = kK m c ⟨k.val / 64, by omega⟩ := by
  refine Eq.trans ?_ (v14_at m c k)
  blk_ext [iblk, idx_all t]

/-- The norm weights' block. -/
theorem blk5 (t : Fin cfg0.N) (k : Fin 4096) : iblk m c 5 t (ix2 0 k) = kW m c k := by
  refine Eq.trans ?_ (v15_at m c k)
  blk_ext [iblk, idx_all t]

/-- The head-to-lanes table's block. -/
theorem blk6 (t : Fin cfg0.N) (r : Fin 256) (k : Fin 4096) : iblk m c 6 t (ix2 r k) = if r.val % 128 = k.val / 64 then (1 : EReal) else 0 := by
  refine Eq.trans ?_ (v9_at m c r k)
  blk_ext [iblk, idx_all t]

/-- A batch's state after `j` chunks. -/
def kS (b : Fin 8) (j : ℕ) : Fin 8 → Fin 8 → Fin 64 → Fin 128 → EReal := stN (kX m c b) (kD m c b) (kA m c) j

/-- A chunk's result for a group. -/
def kO (b : Fin 8) (j : ℕ) (r : Fin 128) (g : Fin 8) (e : Fin 512) : EReal :=
  oC (fun r => kX m c b (pos j r)) (fun r => kD m c b (pos j r)) (kA m c) (kK m c) (kW m c) (fun r => kG m c b (pos j r)) (kS m c b j) r g e

variable (hA : ∀ h : Fin 64, m ((c : Thread nD τ).loc main_arg3) (ix1 h) ≠ (⊥ : EReal))
include hA

/-- A point's blocks hold the arguments' parts. -/
theorem blocks_at (t : Fin cfg0.N) :
    Blocks (fun r => kX m c (bt t) (pos (t.val % 32) r)) (fun r => kD m c (bt t) (pos (t.val % 32) r)) (kA m c) (kK m c) (kW m c)
      (fun r => kG m c (bt t) (pos (t.val % 32) r))
      (iblk m c 0 t) (iblk m c 1 t) (iblk m c 2 t) (iblk m c 3 t) (iblk m c 4 t) (iblk m c 5 t) (iblk m c 6 t) where
  h0 := blk0 m c t
  h1 := blk1 m c t
  h2 := blk2 m c t
  h3 := blk3 m c t
  h4 := blk4 m c t
  h5 := blk5 m c t
  h6 := blk6 m c t
  hA h := by
    unfold kA
    split
    · exact hA _
    · exact EReal.zero_ne_bot

/-- A plane of the state. -/
abbrev plane (xs : Vec Ideal S8x128x512 .f32) (g : Fin 8) : Vec Ideal S1x128x512 .f32 :=
  View.ld (Val := Elt Ideal) xs (Rect.unit (s := S8x128x512) ![g.val, 0, 0] S1x128x512.size (inbS g.val g.isLt))

omit hA in
/-- A plane of the state at a lane. -/
theorem plane_at (xs : Vec Ideal S8x128x512 .f32) (g : Fin 8) (n : Fin 128) (e : Fin 512) :
    plane xs g (ix3 0 n e) = xs (ix3 g n e) :=
  congrArg xs (planeEmb g.val g.isLt n e)

omit hA in
/-- The zeros a first chunk starts from. -/
theorem zeros_at (g : Fin 8) (n : Fin 128) (e : Fin 512) : (k0_pay2 (F := Ideal)) (ix3 g n e) = (0 : EReal) := by
  pointwise [k0_pay2]

/-- What a point starts from, by its place in its batch. -/
theorem point_at (t : Fin cfg0.N)
    (ih : ¬ t.val % 32 = 0 → ∀ g n e, (outsAt0 m c (t.val - 1) (Nat.lt_of_le_of_lt (Nat.sub_le _ _) t.isLt)).2 (ix3 g n e) = kS m c (bt t) (t.val % 32) g (lh e) (lp e) n) :
    (∀ g n e, (outsAt0 m c t.val t.isLt).2 (ix3 g n e) = kS m c (bt t) (t.val % 32 + 1) g (lh e) (lp e) n)
    ∧ ∀ (g : Fin 8) (r : Fin 128) (e : Fin 512), (outsAt0 m c t.val t.isLt).1 (ix3 0 r ⟨512 * g.val + e.val, by omega⟩) = kO m c (bt t) (t.val % 32) r g e := by
  have hb := blocks_at m c hA t
  by_cases h0 : t.val % 32 = 0
  · have hst : ∀ (g : Fin 8) n e, plane (k0_pay2 (F := Ideal)) g (ix3 0 n e) = kS m c (bt t) (t.val % 32) g (lh e) (lp e) n := fun g n e => by
      rw [plane_at, zeros_at, h0]; rfl
    rw [outsAt0_A m c t h0]
    dsimp only
    refine ⟨fun g n e => ?_, fun g r e => ?_⟩
    · rw [state_first_at c _ _ _ _ _ _ _ _ _ _ _ _ _ _ _ _ _ _ _ _ _ _ _ _ _ _ _ g.val g.isLt n e]
      exact stV_at hb g _ (hst g) n e
    · rw [out_first_at c _ _ _ _ _ _ _ _ _ _ _ _ _ _ _ _ _ _ _ _ _ _ _ _ _ _ _ g.val g.isLt r e]
      exact outV_at hb g _ (hst g) r e
  · have hst : ∀ (g : Fin 8) n e, plane (outsAt0 m c (t.val - 1) (Nat.lt_of_le_of_lt (Nat.sub_le _ _) t.isLt)).2 g (ix3 0 n e)
        = kS m c (bt t) (t.val % 32) g (lh e) (lp e) n := fun g n e => (plane_at _ g n e).trans (ih h0 g n e)
    rw [outsAt0_B m c t h0]
    dsimp only
    refine ⟨fun g n e => ?_, fun g r e => ?_⟩
    · rw [state_later_at c _ _ _ _ _ _ _ _ _ _ _ _ _ _ _ _ _ _ _ _ _ _ _ _ _ _ _ _ g.val g.isLt n e]
      exact stV_at hb g _ (hst g) n e
    · rw [out_later_at c _ _ _ _ _ _ _ _ _ _ _ _ _ _ _ _ _ _ _ _ _ _ _ _ _ _ _ _ g.val g.isLt r e]
      exact outV_at hb g _ (hst g) r e

/-- The state every point leaves. -/
theorem state_at : ∀ (n : ℕ) (hn : n < cfg0.N) (g : Fin 8) (i : Fin 128) (e : Fin 512),
    (outsAt0 m c n hn).2 (ix3 g i e) = kS m c (bt ⟨n, hn⟩) (n % 32 + 1) g (lh e) (lp e) i
  | 0, hn => (point_at m c hA ⟨0, hn⟩ fun h => absurd (Nat.zero_mod _) h).1
  | n + 1, hn => (point_at m c hA ⟨n + 1, hn⟩ fun h g i e => by
      refine (state_at n (by omega) g i e).trans ?_
      dsimp only at h ⊢
      rw [show (n + 1) % 32 = n % 32 + 1 by omega, show bt ⟨n, by omega⟩ = bt ⟨n + 1, hn⟩ from Fin.ext (by simp only [bt]; omega)]).1

/-- The result every point leaves. -/
theorem out_at (t : Fin cfg0.N) (g : Fin 8) (r : Fin 128) (e : Fin 512) :
    (outsAt0 m c t.val t.isLt).1 (ix3 0 r ⟨512 * g.val + e.val, by omega⟩) = kO m c (bt t) (t.val % 32) r g e :=
  (point_at m c hA t fun h g i e => by
    refine (state_at m c hA (t.val - 1) (Nat.lt_of_le_of_lt (Nat.sub_le _ _) t.isLt) g i e).trans ?_
    rw [show t.val % 32 = (t.val - 1) % 32 + 1 by omega,
      show bt ⟨t.val - 1, Nat.lt_of_le_of_lt (Nat.sub_le _ _) t.isLt⟩ = bt t from Fin.ext (by simp only [bt]; omega)]).2 g r e

/-- The result array. -/
theorem array_at (b : Fin 8) (l q : Fin 4096) :
    Value.G7 m c (ix3 b l q) = oN (kX m c b) (kD m c b) (kA m c) (kK m c) (kW m c) (kG m c b) l q := by
  have hN : 32 * b.val + l.val / 128 < cfg0.N := by
    show _ < 256
    omega
  have hp : Value.pt7Of (ix3 b l q) = 32 * b.val + l.val / 128 := by
    show 32 * (b.val / 1 - 0) + 1 * (l.val / 128 - 0) + 1 * (q.val / 4096 - 0) = _
    omega
  have hl : Value.loc7Of (ix3 b l q) = ix3 0 ⟨l.val % 128, by omega⟩ ⟨512 * (q.val / 512) + q.val % 512, by omega⟩ := by
    funext a
    match a with
    | ⟨0, _⟩ => exact Fin.ext (Nat.mod_one _)
    | ⟨1, _⟩ => rfl
    | ⟨2, _⟩ => exact Fin.ext (by show q.val % 4096 = 512 * (q.val / 512) + q.val % 512; omega)
  unfold Value.G7
  rw [dif_pos (by rw [hp]; exact hN), ← Value.outsAt0_sweep m c _ (by rw [hp]; exact hN), hl]
  have key := out_at m c hA ⟨32 * b.val + l.val / 128, hN⟩ ⟨q.val / 512, by omega⟩ ⟨l.val % 128, by omega⟩ ⟨q.val % 512, by omega⟩
  dsimp only at key
  have hbt : bt ⟨32 * b.val + l.val / 128, hN⟩ = b := Fin.ext (by simp only [bt]; omega)
  rw [hbt, show (32 * b.val + l.val / 128) % 32 = l.val / 128 by omega] at key
  refine Eq.trans ?_ key
  simp only [hp]

end Cert.Ssd

end
-- ==== Proof.RefTrips.lean ====
module

public import proofs.«01_k».proof.Proof.Gen.ReferenceIdeal.Run
public import proofs.«01_k».proof.Proof.Gen.ReferenceIdeal.Step

@[expose] public section

noncomputable section

namespace Cert.Ssd.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State)

variable {F : FTy → Type} [FloatOps F]

/-- The loop's state after `n` chunks, of the three arguments the loop reads. -/
def chunks (a1 : (⟨S8x4096x6144, .bf16⟩ : BufTy).Contents (Elt F)) (a2 : (⟨S8x4096x128, .f32⟩ : BufTy).Contents (Elt F))
    (a3 : (⟨S64, .f32⟩ : BufTy).Contents (Elt F)) : ℕ → State F
  | 0 => Step.init a1 a2 a3
  | n + 1 => Step.step n (chunks a1 a2 a3 n)

/-- The loop's buffers before trip `n` are the state `s`, the trip's number and the causal mask. -/
def At (V : Valuation τ sig (Elt F)) (n : ℕ) (s : State F) : Prop :=
  (V (Proc.devRef .tc main_v26_6) = constantI S_ 32 (BitVec.ofNat 32 n) ∧ V (Proc.devRef .tc main_v26_5) = Step.K_main_v23 (F := F))
  ∧ s = ⟨V (Proc.devRef .tc main_v26_7), V (Proc.devRef .tc main_v26_8), V (Proc.devRef .tc main_v26_0),
      V (Proc.devRef .tc main_v26_1), V (Proc.devRef .tc main_v26_2), V (Proc.devRef .tc main_v26_3), V (Proc.devRef .tc main_v26_4)⟩

set_option maxRecDepth 65536 in
set_option maxHeartbeats 2000000 in
/-- A trip takes a state to its step. -/
theorem At.next {V : Valuation τ sig (Elt F)} {n : ℕ} {s : State F} (h : At V n s) : At (STEP V) (n + 1) (Step.step n s) := by
  obtain ⟨⟨h6, h5⟩, rfl⟩ := h
  refine ⟨⟨?_, (STEP_main_v26_5 V).trans h5⟩, ?_⟩
  · rw [STEP_main_v26_6, step_main_v26_6, h6]
    funext i
    change BitVec.ofNat 32 n + 1#32 = _
    rw [← BitVec.ofNat_add]
    rfl
  · rw [STEP_main_v26_7, STEP_main_v26_8, STEP_main_v26_0, STEP_main_v26_1, STEP_main_v26_2, STEP_main_v26_3, STEP_main_v26_4]
    unfold step_main_v26_7 step_main_v26_8 res_main_while0b_v62 res_main_while0b_v61 res_main_while0b_v60 res_main_while0b_v59
      res_main_while0b_v57 res_main_while0b_v56
    rw [h6, h5]
    rfl

set_option maxRecDepth 65536 in
set_option maxHeartbeats 2000000 in
/-- The loop starts at the initial state. -/
theorem At.entry (m : (ℓ : Loc nD τ sig) → Buf (Elt F) ℓ) (c : Dev nD) :
    At (entryContents preI m c) 0 (chunks (m ((c.tc : Thread nD τ).loc main_arg1)) (m ((c.tc : Thread nD τ).loc main_arg2))
      (m ((c.tc : Thread nD τ).loc main_arg3)) 0) := by
  refine ⟨⟨?_, ?_⟩, ?_⟩
  · simp only [entryContents, afterL_cons, afterL_nil]; after_reads_simp; rfl
  · simp only [entryContents, afterL_cons, afterL_nil]; after_reads_simp; rfl
  · unfold chunks Step.init
    congr 1 <;>
      symm <;> (simp only [entryContents, afterL_cons, afterL_nil]; after_reads_simp) <;> rfl

/-- Before trip `n` the loop holds the state after `n` chunks. -/
theorem At.all (m : (ℓ : Loc nD τ sig) → Buf (Elt F) ℓ) (c : Dev nD) (n : ℕ) :
    At (STEP^[n] (entryContents preI m c)) n (chunks (m ((c.tc : Thread nD τ).loc main_arg1)) (m ((c.tc : Thread nD τ).loc main_arg2))
      (m ((c.tc : Thread nD τ).loc main_arg3)) n) := by
  induction n with
  | zero => exact At.entry m c
  | succ n ih => rw [Function.iterate_succ_apply']; exact ih.next

set_option maxRecDepth 65536 in
set_option maxHeartbeats 2000000 in
/-- The reference's result, of the state after all 32 chunks. -/
theorem out_eq (m : (ℓ : Loc nD τ sig) → Buf (Elt F) ℓ) (c : Dev nD) :
    out_main_v55 (STEP^[32] (entryContents preI m c))
      = Step.R_main_v55 (chunks (m ((c.tc : Thread nD τ).loc main_arg1)) (m ((c.tc : Thread nD τ).loc main_arg2))
          (m ((c.tc : Thread nD τ).loc main_arg3)) 32)
          (m ((c.tc : Thread nD τ).loc main_arg0)) (m ((c.tc : Thread nD τ).loc main_arg1))
          (m ((c.tc : Thread nD τ).loc main_arg4)) (m ((c.tc : Thread nD τ).loc main_arg5)) := by
  have hs := (At.all m c 32).2
  have h0 := iter_main_arg0 m c 32
  have h1 := iter_main_arg1 m c 32
  have h4 := iter_main_arg4 m c 32
  have h5 := iter_main_arg5 m c 32
  rw [hs]
  clear hs
  revert h0 h1 h4 h5
  generalize STEP^[32] (entryContents preI m c) = V
  intro h0 h1 h4 h5
  rw [← h0, ← h1, ← h4, ← h5]
  rfl

end Cert.Ssd.Ref

end
-- ==== Proof.RefValue.lean ====
module

public import proofs.«01_k».proof.Proof.RefTrips
public import proofs.«01_k».proof.Proof.Spec
public import Idealize.ShloMosaic.Lib.Pointwise

@[expose] public section

set_option maxRecDepth 16384

noncomputable section

namespace Cert.Ssd.Ref

open Idealize Idealize.ShloMosaic Idealize.ShloMosaic.TcCoe Idealize.SL.Sem Idealize.ShloMosaic.StableHlo
open Cert.ReferenceIdeal Cert.ReferenceIdeal.Gen
open Cert.ReferenceIdeal.Step

/-- A left fold of additions is its start plus the sum. -/
theorem fold_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The entries of a window that ends at `t` are the entries up to `t`. -/
theorem window_prefix {L : ℕ} (K : ℕ) (hK : K + 1 = L) (f : Fin L → EReal) (t : Fin L) :
    (∑ w : Fin L, if h : K ≤ t.val + w.val ∧ t.val + w.val - K < L then f ⟨t.val + w.val - K, h.2⟩ else 0)
      = ∑ k : Fin L, if k ≤ t then f k else 0 := by
  rw [← Finset.sum_filter]
  have e : ∀ w : Fin L, (if h : K ≤ t.val + w.val ∧ t.val + w.val - K < L then f ⟨t.val + w.val - K, h.2⟩ else 0)
      = if K ≤ t.val + w.val then f ⟨t.val + w.val - K, by omega⟩ else 0 := by
    intro w
    by_cases h : K ≤ t.val + w.val
    · rw [dif_pos ⟨h, by omega⟩, if_pos h]
    · rw [dif_neg (fun h' => h h'.1), if_neg h]
  rw [Finset.sum_congr rfl fun w _ => e w, ← Finset.sum_filter]
  refine Finset.sum_bij' (fun w _ => ⟨t.val + w.val - K, by omega⟩) (fun k _ => ⟨min (k.val + K - t.val) K, by omega⟩) ?_ ?_ ?_ ?_ ?_
  · intro w hw
    simp only [Finset.mem_filter, Finset.mem_univ, true_and, Fin.le_def] at hw ⊢
    omega
  · intro k hk
    simp only [Finset.mem_filter, Finset.mem_univ, true_and, Fin.le_def] at hk ⊢
    omega
  · intro w hw
    simp only [Finset.mem_filter, Finset.mem_univ, true_and] at hw
    apply Fin.ext
    simp only
    omega
  · intro k hk
    simp only [Finset.mem_filter, Finset.mem_univ, true_and, Fin.le_def] at hk
    apply Fin.ext
    simp only
    omega
  · intro w hw
    rfl

/-- The host's running sum along the second axis sums a prefix. -/
theorem runsum (x : FVec Ideal S8x128x8x8 .f32) (init : FVec Ideal S_ .f32) (hi : init (Shape.Idx.first h_S_) = 0)
    (b : Fin 8) (t : Fin 128) (g h : Fin 8) :
    Host.reduceWindowAdd ![1, 128, 1, 1] ![1, 1, 1, 1] ![0, 127, 0, 0] ![0, 0, 0, 0] x init
      reduceWindows_S8x128x8x8_S8x128x8x8_w1s1p0_0_w128s1p127_0_w1s1p0_0_w1s1p0_0 h_S_ (ix4 b t g h)
      = ∑ k : Fin 128, if k ≤ t then x (ix4 b k g h) else 0 := by
  refine Eq.trans ?_ (window_prefix 127 rfl (fun k => x (ix4 b k g h)) t)
  unfold Host.reduceWindowAdd
  rw [Ideal.hostReduceWindowAdd_def, hi]
  unfold Ideal.hostReduceWindowAdd Host.reduceWindow
  rw [fold_add, zero_add, ← List.ofFn_eq_map, List.sum_ofFn]
  refine ((Finset.sum_congr rfl fun i _ => dite_congr rfl (fun _ => rfl) (fun _ => rfl)).trans (Equiv.sum_comp (Shape.rowMajor (⟨4, ![1, 128, 1, 1]⟩ : Shape)).symm
      (fun w : (⟨4, ![1, 128, 1, 1]⟩ : Shape).Idx =>
        if hin : ∀ a : Fin S8x128x8x8.rank, (![0, 127, 0, 0] : Fin 4 → ℕ) a ≤ ((ix4 b t g h : S8x128x8x8.Idx) a).val * (![1, 1, 1, 1] : Fin 4 → ℕ) a + (w a).val
            ∧ ((ix4 b t g h : S8x128x8x8.Idx) a).val * (![1, 1, 1, 1] : Fin 4 → ℕ) a + (w a).val - (![0, 127, 0, 0] : Fin 4 → ℕ) a < S8x128x8x8.size a then
          x (fun a => ⟨((ix4 b t g h : S8x128x8x8.Idx) a).val * (![1, 1, 1, 1] : Fin 4 → ℕ) a + (w a).val - (![0, 127, 0, 0] : Fin 4 → ℕ) a, (hin a).2⟩) else (0 : EReal)))).trans ?_
  rw [sum_idx4]
  simp only [Finset.univ_unique, Finset.sum_singleton]
  refine Finset.sum_congr rfl fun w _ => ?_
  by_cases hc : 127 ≤ t.val + w.val ∧ t.val + w.val - 127 < 128
  · rw [dif_pos hc, dif_pos]
    · refine congrArg x (funext fun a => Fin.ext ?_)
      fin_cases a <;> simp
    · intro a
      fin_cases a <;> simp <;> omega
  · rw [dif_neg hc, dif_neg]
    intro hin
    exact hc (by simpa using hin 1)

/-- The start word of trip `n` read signed is `n`. -/
theorem word_start {N : ℕ} (n : ℕ) (hn : n < N) (hN : N ≤ 64 := by decide) : (BitVec.ofNat 32 n).toInt = n := by
  rw [BitVec.toInt_ofNat']
  norm_num [Int.bmod]
  omega

/-- Trip `j`'s position among the sequence's. -/
theorem pos_of {j : ℕ} (hj : j < 32) (l : Fin 128) (v : ℕ) (hv : v < 4096) (h : v = j * 128 + l.val) : (⟨v, hv⟩ : Fin 4096) = pos j l := by
  apply Fin.ext
  simp only [pos]
  omega

/-- The causal mask's entry. -/
theorem mask_at (r c : Fin 128) (x y : EReal) : Scalar.select (K_main_v23 (F := Ideal) (ix2 r c)) x y = if c ≤ r then x else y := by
  pointwise [K_main_v23, K_main_v22, K_main_call1_v0, K_main_call1_v1, K_main_call1_v2, K_main_call1_v3, K_main_call1_v4,
    K_main_call1_v5, K_main_call1_c, K_main_call1_c_0, K_main_c]
  rw [show IntOp.addi (BitVec.ofNat 32 r.val) 0#32 = BitVec.ofNat 32 r.val from BitVec.add_zero _, ge_word (by omega) (by omega),
    bit_select]
  by_cases h : c ≤ r
  · rw [if_pos h, if_pos (show c.val ≤ r.val from h)]; rfl
  · rw [if_neg h, if_neg (show ¬c.val ≤ r.val from h)]; rfl

/-- The host's minus infinity. -/
theorem minf : Ideal.ofBits FTy.f32 4286578688#32 = ⊥ := by
  change Ideal.ieee 8 23 4286578688#32 = ⊥
  unfold Ideal.ieee
  rw [if_pos (by decide), if_pos (by decide), if_pos (by decide)]

section Args

variable (a1 : (⟨S8x4096x6144, .bf16⟩ : BufTy).Contents (Elt Ideal)) (a2 : (⟨S8x4096x128, .f32⟩ : BufTy).Contents (Elt Ideal))
  (a3 : (⟨S64, .f32⟩ : BufTy).Contents (Elt Ideal))

/-- A sequence's convolved input. -/
def seqX (b : Fin 8) (l : Fin 4096) (c : Fin 6144) : EReal := a1 (ix3 b l c)

/-- A sequence's raw steps. -/
def seqD (b : Fin 8) (l : Fin 4096) (h : Fin 128) : EReal := a2 (ix3 b l h)

/-- The heads' decay logarithms, zero in the lanes past the heads. -/
def padA (h : Fin 128) : EReal := if hh : h.val < 64 then a3 (ix1 ⟨h.val, hh⟩) else 0

/-- A head's decay logarithm. -/
theorem padA_hd (g h : Fin 8) (v : ℕ) (hv : v < 64) (e : v = g.val * 8 + h.val) : a3 (ix1 ⟨v, hv⟩) = padA a3 (hd g h) := by
  subst e
  unfold padA hd
  rw [dif_pos hv]

/-- The host's step of a raw step. -/
theorem step_at (b : Fin 8) (l : Fin 4096) (h : Fin 64) :
    A_main_v5 a1 a2 a3 (ix3 b l h) = sp (seqD a2 b l ⟨h.val, by omega⟩) := by
  pointwise [A_main_v5, A_main_v4, A_main_call0_v4, A_main_call0_v3, A_main_call0_v6, A_main_call0_v11, A_main_call0_v1,
    A_main_call0_v10, A_main_call0_v9, A_main_call0_v8, A_main_call0_v7, K_main_call0_v0, K_main_call0_v2, K_main_call0_v5,
    K_main_call0_cst]
  simp
  rfl

variable (s : State Ideal) (j : ℕ) (hj : j < 32) (b : Fin 8) (l : Fin 128) (g h : Fin 8)

include hj

/-- A trip's values. -/
theorem xb_at (hs : s.main_v26_0 = A_main_v13 a1 a2 a3) (p : Fin 64) : b6 j s (ix5 b l g h p) = seqX a1 b (pos j l) (iX g h p) := by
  pointwise [b6, b5, b0, b1, b2, b3, b4]
  simp [Host.clampedStart, constantI, word_start j hj]
  rw [hs]
  pointwise [A_main_v13, A_main_v12, A_main_v11, A_main_v1, A_main_v0]
  rw [pos_of hj l _ _ (by omega)]
  rfl

/-- A trip's B columns. -/
theorem bb_at (hs : s.main_v26_3 = A_main_v19 a1 a2 a3) (n : Fin 128) : b24 j s (ix4 b l g n) = seqX a1 b (pos j l) (iB g n) := by
  pointwise [b24, b23, b22, b21, b20, b19]
  simp [Host.clampedStart, constantI, word_start j hj]
  rw [hs]
  pointwise [A_main_v19, A_main_v18, A_main_v2, A_main_v0]
  rw [pos_of hj l _ _ (by omega)]
  rfl

/-- A trip's C columns. -/
theorem cb_at (hs : s.main_v26_4 = A_main_v21 a1 a2 a3) (n : Fin 128) : b30 j s (ix4 b l g n) = seqX a1 b (pos j l) (iC g n) := by
  pointwise [b30, b29, b28, b27, b26, b25]
  simp [Host.clampedStart, constantI, word_start j hj]
  rw [hs]
  pointwise [A_main_v21, A_main_v20, A_main_v3, A_main_v0]
  rw [pos_of hj l _ _ (by omega)]
  rfl

/-- A trip's steps. -/
theorem dtb_at (hs : s.main_v26_1 = A_main_v15 a1 a2 a3) : b12 j s (ix4 b l g h) = sp (seqD a2 b (pos j l) (hd g h)) := by
  pointwise [b12, b11, b10, b9, b8, b7]
  simp [Host.clampedStart, constantI, word_start j hj]
  rw [hs]
  pointwise [A_main_v15, A_main_v14]
  rw [step_at, pos_of hj l _ _ (by omega)]
  rfl

/-- A trip's log decays. -/
theorem dab_at (hs : s.main_v26_2 = A_main_v17 a1 a2 a3) :
    b18 j s (ix4 b l g h) = da (fun t => seqD a2 b (pos j t)) (padA a3) l (hd g h) := by
  pointwise [b18, b17, b16, b15, b14, b13]
  simp [Host.clampedStart, constantI, word_start j hj]
  rw [hs]
  pointwise [A_main_v17, A_main_v16, A_main_v10, A_main_v9, A_main_v8, A_main_v7, A_main_v6]
  rw [step_at, pos_of hj l _ _ (by omega), padA_hd a3 g h _ _ rfl]
  rfl

/-- A trip's summed log decays. -/
theorem cum_at (hs : s.main_v26_2 = A_main_v17 a1 a2 a3) :
    b33 j s (ix4 b l g h) = cum (fun t => seqD a2 b (pos j t)) (padA a3) l (hd g h) := by
  unfold b33
  rw [runsum _ _ (by pointwise [b32, b31])]
  unfold cum
  refine Finset.sum_congr rfl fun k _ => ?_
  rw [dab_at a1 a2 a3 s j hj b k g h hs]

/-- What the reference's state holds before trip `j`: the five operands of the loop. -/
structure Operands (s : State Ideal) : Prop where
  h0 : s.main_v26_0 = A_main_v13 a1 a2 a3
  h1 : s.main_v26_1 = A_main_v15 a1 a2 a3
  h2 : s.main_v26_2 = A_main_v17 a1 a2 a3
  h3 : s.main_v26_3 = A_main_v19 a1 a2 a3
  h4 : s.main_v26_4 = A_main_v21 a1 a2 a3

variable {a1 a2 a3 s}
variable (ho : Operands a1 a2 a3 s)
include ho

/-- A trip's weights. -/
theorem wt_at (t : Fin 128) : b53 j s (ix5 b g h l t)
    = wt (fun t => seqX a1 b (pos j t)) (fun t => seqD a2 b (pos j t)) (padA a3) g h l t := by
  pointwise [b53, b49, b48, b47, b46, b45, b44, b43, b42, b41, b40, b39, b38, b37, b36, b35, b34, b50, b51, b52]
  rw [mask_at, minf, dtb_at a1 a2 a3 s j hj b t g h ho.h1, cum_at a1 a2 a3 s j hj b t g h ho.h2, cum_at a1 a2 a3 s j hj b l g h ho.h2]
  simp only [cb_at a1 a2 a3 s j hj b _ g ho.h4, bb_at a1 a2 a3 s j hj b _ g ho.h3]
  rfl

variable {st : Fin 8 → Fin 8 → Fin 64 → Fin 128 → EReal} (hst : ∀ g h p n, s.main_v26_7 (ix5 b g h p n) = st g h p n)
include hst

/-- A trip's output. -/
theorem y_at (p : Fin 64) : b78 j s (ix5 b l g h p)
    = yC (fun t => seqX a1 b (pos j t)) (fun t => seqD a2 b (pos j t)) (padA a3) st l g h p := by
  pointwise [b78, b55, b54, b61, b57, b56, b60, b59, b58]
  simp only [xb_at a1 a2 a3 s j hj b _ g h ho.h0, wt_at j hj b l g h ho, hst, cb_at a1 a2 a3 s j hj b _ g ho.h4,
    cum_at a1 a2 a3 s j hj b l g h ho.h2]
  rfl

/-- A trip's state. -/
theorem state_at (p : Fin 64) (n : Fin 128) : b77 j s (ix5 b g h p n)
    = sC (fun t => seqX a1 b (pos j t)) (fun t => seqD a2 b (pos j t)) (padA a3) st g h p n := by
  pointwise [b77, b76, b75, b74, b73, b72, b71, b70, b69, b68, b67, b66, b65, b64, b63, b62]
  simp only [xb_at a1 a2 a3 s j hj b _ g h ho.h0, hst, bb_at a1 a2 a3 s j hj b _ g ho.h3, dtb_at a1 a2 a3 s j hj b _ g h ho.h1,
    cum_at a1 a2 a3 s j hj b _ g h ho.h2]
  rfl

end Args

section Whole

variable (a1 : (⟨S8x4096x6144, .bf16⟩ : BufTy).Contents (Elt Ideal)) (a2 : (⟨S8x4096x128, .f32⟩ : BufTy).Contents (Elt Ideal))
  (a3 : (⟨S64, .f32⟩ : BufTy).Contents (Elt Ideal))

/-- The loop's operands stay what they are. -/
theorem operands (n : ℕ) : Operands a1 a2 a3 (chunks a1 a2 a3 n) := by
  induction n with
  | zero => exact ⟨rfl, rfl, rfl, rfl, rfl⟩
  | succ n ih => exact ⟨ih.h0, ih.h1, ih.h2, ih.h3, ih.h4⟩

/-- The reference's state after `n` chunks. -/
theorem state_n (b : Fin 8) (n : ℕ) (hn : n ≤ 32) (g h : Fin 8) (p : Fin 64) (m : Fin 128) :
    (chunks a1 a2 a3 n).main_v26_7 (ix5 b g h p m) = stN (seqX a1 b) (seqD a2 b) (padA a3) n g h p m := by
  induction n generalizing g h p m with
  | zero =>
    change K_main_v24 (F := Ideal) (ix5 b g h p m) = 0
    pointwise [K_main_v24, K_main_cst]
  | succ n ih => exact state_at n (by omega) b g h (operands a1 a2 a3 n) (fun g h p m => ih (by omega) g h p m) p m

/-- A trip writes its own chunk of the outputs and leaves the others. -/
theorem outputs_step (s : State Ideal) (n : ℕ) (hn : n < 32) (j : Fin 32) (b : Fin 8) (l : Fin 128) (g h : Fin 8) (p : Fin 64) :
    b85 n s (ix6 j b l g h p) = if j.val = n then b78 n s (ix5 b l g h p) else s.main_v26_8 (ix6 j b l g h p) := by
  pointwise [b85, b84, b83, b82, b81, b80, b79]
  simp [Host.clampedStart, constantI, word_start n hn]
  by_cases h : j.val = n
  · rw [if_pos (by omega), if_pos h]
  · rw [if_neg (by omega), if_neg h]

/-- The reference's outputs after `n` chunks. -/
theorem outputs_n (b : Fin 8) (n : ℕ) (hn : n ≤ 32) (j : Fin 32) (hj : j.val < n) (l : Fin 128) (g h : Fin 8) (p : Fin 64) :
    (chunks a1 a2 a3 n).main_v26_8 (ix6 j b l g h p) = yN (seqX a1 b) (seqD a2 b) (padA a3) j l g h p := by
  induction n with
  | zero => exact absurd hj (by omega)
  | succ n ih =>
    refine (outputs_step (chunks a1 a2 a3 n) n (by omega) j b l g h p).trans ?_
    by_cases hjn : j.val = n
    · rw [if_pos hjn, hjn]
      exact y_at n (by omega) b l g h (operands a1 a2 a3 n) (fun g h p m => state_n a1 a2 a3 b n (by omega) g h p m) p
    · rw [if_neg hjn]
      exact ih (by omega) (by omega)

/-- The reference's gated output at a position and a group's lane. -/
theorem gated_at (a0 : (⟨S8x4096x4096, .bf16⟩ : BufTy).Contents (Elt Ideal)) (a4 : (⟨S64, .f32⟩ : BufTy).Contents (Elt Ideal))
    (b : Fin 8) (s : State Ideal)
    (hs : ∀ (j : Fin 32) (l : Fin 128) (g h : Fin 8) (p : Fin 64),
      s.main_v26_8 (ix6 j b l g h p) = yN (seqX a1 b) (seqD a2 b) (padA a3) j l g h p)
    (l : Fin 4096) (g : Fin 8) (e : Fin 512) (j : Fin 32) (t : Fin 128) (g' h' : Fin 8) (p' : Fin 64) (k : Fin 64)
    (i : Fin 6144) (i' : Fin 4096) (hj : j.val = l.val / 128) (ht : t.val = l.val % 128) (hg : g'.val = g.val)
    (hh : h'.val = e.val / 64) (hp : p'.val = e.val % 64) (hk : k.val = g.val * 8 + e.val / 64) (hi : i.val = g.val * 512 + e.val)
    (hi' : i'.val = g.val * 512 + e.val) :
    (s.main_v26_8 (ix6 j b t g' h' p') + a4 (ix1 k) * a1 (ix3 b l i)) * a0 (ix3 b l i')
      = gC (fun t => seqX a1 b (pos (l.val / 128) t)) (fun t => seqD a2 b (pos (l.val / 128) t)) (padA a3) (fun h => a4 (ix1 h))
        (fun t q => a0 (ix3 b (pos (l.val / 128) t) q)) (stN (seqX a1 b) (seqD a2 b) (padA a3) (l.val / 128))
        ⟨l.val % 128, by omega⟩ g (lh e) (lp e) := by
  obtain rfl : g' = g := Fin.ext hg
  obtain rfl : h' = lh e := Fin.ext hh
  obtain rfl : p' = lp e := Fin.ext hp
  have e0 : (⟨l.val % 128, Nat.mod_lt _ (by norm_num)⟩ : Fin 128) = t := Fin.ext ht.symm
  have e1 : k = ⟨g'.val * 8 + (lh e).val, by omega⟩ := Fin.ext hk
  have e2 : i = iX g' (lh e) (lp e) := Fin.ext (by rw [hi]; simp only [iX, lh, lp]; omega)
  have e3 : i' = iG g' (lh e) (lp e) := Fin.ext (by rw [hi']; simp only [iG, lh, lp]; omega)
  have e4 : pos (l.val / 128) t = l := Fin.ext (by simp only [pos]; omega)
  rw [hs, hj, e0]
  unfold gC
  beta_reduce
  rw [e1, e2, e3, e4]
  rfl

/-- The reference's result at an index, of a state whose outputs are known. -/
theorem result_of (a0 : (⟨S8x4096x4096, .bf16⟩ : BufTy).Contents (Elt Ideal)) (a4 : (⟨S64, .f32⟩ : BufTy).Contents (Elt Ideal))
    (a5 : (⟨S4096, .f32⟩ : BufTy).Contents (Elt Ideal)) (b : Fin 8) (s : State Ideal)
    (hs : ∀ (j : Fin 32) (l : Fin 128) (g h : Fin 8) (p : Fin 64),
      s.main_v26_8 (ix6 j b l g h p) = yN (seqX a1 b) (seqD a2 b) (padA a3) j l g h p) (l q : Fin 4096) :
    R_main_v55 s a0 a1 a4 a5 (ix3 b l q)
      = oN (seqX a1 b) (seqD a2 b) (padA a3) (fun h => a4 (ix1 h)) (fun q => a5 (ix1 q)) (fun l q => a0 (ix3 b l q)) l q := by
  pointwise [R_main_v55]
  unfold oN oC
  refine congrArg₂ (· * ·) (congrArg₂ (· * ·) ?_ (congrArg Ideal.rsqrt (congrArg₂ (· + ·) (congrArg₂ Ideal.div
    (Finset.sum_congr rfl fun x _ => ?_) rfl) rfl))) ?_
  · refine gated_at a1 a2 a3 a0 a4 b s hs l _ _ _ _ _ _ _ _ _ _ ?_ ?_ ?_ ?_ ?_ ?_ ?_ ?_ <;> dsimp only <;> omega
  · have h := gated_at a1 a2 a3 a0 a4 b s hs l ⟨q.val / 512, by omega⟩ x ⟨l.val / 128, by omega⟩ ⟨l.val % 128, by omega⟩
      ⟨(q.val / 512 * 512 + x.val) / 64 / 8, by omega⟩ ⟨(q.val / 512 * 512 + x.val) / 64 % 8, by omega⟩
      ⟨(q.val / 512 * 512 + x.val) % 64, by omega⟩ ⟨(q.val / 512 * 512 + x.val) / 64, by omega⟩
      ⟨(q.val / 512 * 512 + x.val) / 64 * 64 + (q.val / 512 * 512 + x.val) % 64, by omega⟩ ⟨q.val / 512 * 512 + x.val, by omega⟩
      rfl rfl (by dsimp only; omega) (by dsimp only; omega) (by dsimp only; omega) (by dsimp only; omega) (by dsimp only; omega) rfl
    rw [h]
  · exact congrArg (fun z => a5 (ix1 z)) (Fin.ext (by dsimp only; omega))

/-- The reference's result at an index. -/
theorem result_at (a0 : (⟨S8x4096x4096, .bf16⟩ : BufTy).Contents (Elt Ideal)) (a4 : (⟨S64, .f32⟩ : BufTy).Contents (Elt Ideal))
    (a5 : (⟨S4096, .f32⟩ : BufTy).Contents (Elt Ideal)) (b : Fin 8) (l q : Fin 4096) :
    R_main_v55 (chunks a1 a2 a3 32) a0 a1 a4 a5 (ix3 b l q)
      = oN (seqX a1 b) (seqD a2 b) (padA a3) (fun h => a4 (ix1 h)) (fun q => a5 (ix1 q)) (fun l q => a0 (ix3 b l q)) l q :=
  result_of a1 a2 a3 a0 a4 a5 b _ (fun j l g h p => outputs_n a1 a2 a3 b 32 le_rfl j j.isLt l g h p) l q

end Whole

end Cert.Ssd.Ref

end
-- ==== Proof.Plain.lean ====
module

public import proofs.«01_k».proof.Proof.Gen.Kernel2Ideal.Value
public import proofs.«01_k».proof.Proof.Product
public import Idealize.ShloMosaic.Lib.WritesUnit
public import Idealize.ShloMosaic.Lib.Pipeline.ValueKit
/-! The projection without epilogue: what a grid point stores, what the carried copy of the weights holds, the result array. -/

@[expose] public section

open Idealize Idealize.SL Idealize.ShloMosaic Idealize.ShloMosaic.TcCoe Idealize.ShloMosaic.Tactic Cert.Kernel2Ideal Cert.Kernel2Ideal.Gen Cert.Product

set_option maxRecDepth 16384

noncomputable section

namespace Cert.Plain

variable {F : FTy → Type} [FloatOps F]
variable (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S2048x1024 .bf16) (harg5 : arg5.IsWhole)
  (x0 : Vec F S1024x2048 .bf16) (x1 : Vec F S1x2048x1024 .f32)

/-- The copy of the weights is stored 256 rows at a time. -/
theorem copy_pieces (hc0 : cond0_0 i) :
    pb_k0_t1 (F := F) Variants.none c none i arg2 harg2 arg3 harg3 arg4 harg4 arg5 harg5 hc0 (harg3.unread x1) k0_t1_loop.trips
      = View.tilePieces (s := S2048x1024) S256x1024.size k0_off2 (fun k => k0_off2_inb i k hc0)
          (fun k => k0_pay1 (arg3.view.readAt (Elt F) (Rect.unit (s := S1x2048x1024) (k0_off1 k) S1x256x1024.size (k0_off1_inb i k hc0)).toLoadRect (harg3.unread x1)))
          k0_t1_loop.trips le_rfl := by
  sl_kernel_rfl

/-- The pieces a column block's first point stores into the copy. -/
theorem copy_first (hc0 : cond0_0 i) :
    sout0_A_0 c i arg2 harg2 arg3 harg3 arg4 harg4 arg5 harg5 hc0 x0 x1
      = View.canon (pb_k0_t1 (F := F) Variants.none c none i arg2 harg2 arg3 harg3 arg4 harg4 arg5 harg5 hc0 (harg3.unread x1) k0_t1_loop.trips) := by
  unfold sout0_A_0
  rw [View.read_writes_junk_eq_canon]
  rfl

/-- What a column block's first point stores. -/
theorem out_first (hc0 : cond0_0 i) :
    out0_A_2 c i arg2 harg2 arg3 harg3 arg4 harg4 arg5 harg5 hc0 x0 x1
      = k0_pay2 x0 (sout0_A_0 c i arg2 harg2 arg3 harg3 arg4 harg4 arg5 harg5 hc0 x0 x1) := by
  rw [copy_first]
  unfold out0_A_2
  rw [View.read_writes_junk_eq_canon]
  unfold kernelRun0_A
  dsimp only
  sl_unfold_words
  simp only [View.readAt_eq_ld, harg2.read_unread, View.readCov_eq_canon']
  refine (View.canon_cons_unit_zero hz _ _ _).trans ?_
  rw [View.ld_unit_zero hz]
  exact congrArg (k0_pay2 x0) (View.ld_unit_zero hz _ (View.canon _))

/-- What a later point of a column block stores. -/
theorem out_later (hc0 : ¬cond0_0 i) (xs0 : Vec F S2048x1024 .bf16) :
    out0_B_2 c i arg2 harg2 arg3 harg3 arg4 harg4 arg5 harg5 hc0 x0 x1 xs0 = k0_pay2 x0 xs0 := by
  unfold out0_B_2
  rw [View.read_writes_junk_eq_canon]
  unfold kernelRun0_B
  dsimp only
  sl_unfold_words
  simp only [View.readAt_eq_ld, harg2.read_unread, harg5.read_unread]
  refine (View.canon_cons_unit_zero hz _ _ _).trans ?_
  rw [View.ld_unit_zero hz, View.ld_unit_zero hz]

/-- A strip of the copy is a strip of the weights. -/
theorem strip (v : Vec Ideal S1x256x1024 .f32) (r : Fin 256) (e : Fin 1024) : k0_pay1 v (ix2 r e) = v (ix3 0 r e) := by
  pointwise [k0_pay1]

/-- The copy holds the block of the weights. -/
theorem copy_at (x1 : Vec Ideal S1x2048x1024 .f32) (x0 : Vec Ideal S1024x2048 .bf16) (hc0 : cond0_0 i) (k : Fin 2048) (e : Fin 1024) :
    sout0_A_0 c i arg2 harg2 arg3 harg3 arg4 harg4 arg5 harg5 hc0 x0 x1 (ix2 k e) = x1 (ix3 0 k e) := by
  have ht : k.val / 256 < k0_t1_loop.trips := by
    have : k0_t1_loop.trips = 8 := by decide +kernel
    omega
  rw [copy_first, copy_pieces]
  refine (strips_at arg5.view k0_off2 k0_off2_eq _ _ k e ht).trans ?_
  rw [View.readAt_eq_ld, harg3.read_unread]
  exact (strip _ _ e).trans (strip_at x1 (k0_off1 ⟨k.val / 256, ht⟩) k (k0_off1_eq _) _ e)

/-- A stored element: a row of the activations times a column of the copy. -/
theorem pay_at (x0 : Vec Ideal S1024x2048 .bf16) (w : Vec Ideal S2048x1024 .bf16) (r e : Fin 1024) :
    k0_pay2 x0 w (ix2 r e) = prod (K := 2048) (fun k => x0 (ix2 r k)) (fun k => w (ix2 k e)) := by
  unfold prod
  pointwise [k0_pay2]

variable (m : (ℓ : Loc nD τ sig) → Buf (Elt Ideal) ℓ)

/-- The activations. -/
def aA (l : Fin 32768) (k : Fin 2048) : EReal := m ((c : Thread nD τ).loc main_arg0) (ix2 l k)

/-- The weights. -/
def wA (k : Fin 2048) (q : Fin 6152) : EReal := m ((c : Thread nD τ).loc main_arg1) (ix3 0 k q)

/-- The windows' block indices at a point. -/
theorem idx_all : ∀ t : Fin cfg0.N, win0_0.index t = ![t.val % 32, 0] ∧ win0_1.index t = ![0, 0, t.val / 32] := by decide +kernel

/-- The activations' block. -/
theorem blk0 (t : Fin cfg0.N) (r : Fin 1024) (k : Fin 2048) :
    iblk m c 0 t (ix2 r k) = aA c m ⟨1024 * (t.val % 32) + r.val, by omega⟩ k := by
  unfold aA
  blk_ext [iblk, V, idx_all t]

/-- The weights' block. -/
theorem blk1 (t : Fin cfg0.N) (k : Fin 2048) (e : Fin 1024) :
    X0_1 m c t (ix3 0 k e) = wA c m k ⟨1024 * (t.val / 32) + e.val, by have : t.val < 192 := t.isLt; omega⟩ := by
  unfold wA
  unfold X0_1
  unfold Pipeline.Window.fill
  rw [dif_pos (moved0_1 t _)]
  blk_ext [iblk, V, idx_all t]

/-- What the copy of the weights holds after a point. -/
theorem copy_holds (k : Fin 2048) (e : Fin 1024) (n : ℕ) (hn : n < cfg0.N) :
    (outsAt0 m c n hn).2 (ix2 k e) = wA c m k ⟨1024 * (n / 32 % 6) + e.val, by omega⟩ := by
  refine carried (fun n hn => (outsAt0 m c n hn).2 (ix2 k e)) (fun b => wA c m k ⟨1024 * (b % 6) + e.val, by omega⟩) 32 (by decide)
    (fun n hn h0 => ?_) (fun n hn h0 => ?_) n hn
  · have hN : n < 192 := hn
    rw [outsAt0_A m c ⟨n, hn⟩ h0]
    dsimp only
    rw [copy_at, blk1]
    exact congrArg (wA c m k) (Fin.ext (by dsimp only; omega))
  · rw [outsAt0_B m c ⟨n + 1, hn⟩ h0]
    rfl

/-- What a point stores. -/
theorem out_at (t : Fin cfg0.N) (r e : Fin 1024) :
    (outsAt0 m c t.val t.isLt).1 (ix2 r e)
      = prod (aA c m ⟨1024 * (t.val % 32) + r.val, by omega⟩)
          (fun k => wA c m k ⟨1024 * (t.val / 32) + e.val, by have : t.val < 192 := t.isLt; omega⟩) := by
  have hc : ∀ k, (outsAt0 m c t.val t.isLt).2 (ix2 k e) = wA c m k ⟨1024 * (t.val / 32) + e.val, by have : t.val < 192 := t.isLt; omega⟩ := fun k =>
    (copy_holds c m k e t.val t.isLt).trans (congrArg (wA c m k) (Fin.ext (by have : t.val < 192 := t.isLt; dsimp only; omega)))
  by_cases h0 : t.val % 32 = 0
  · rw [outsAt0_A m c t h0] at hc ⊢
    dsimp only at hc ⊢
    rw [out_first, pay_at]
    exact congrArg₂ prod (funext fun k => blk0 c m t r k) (funext fun k => hc k)
  · rw [outsAt0_B m c t h0] at hc ⊢
    dsimp only at hc ⊢
    unfold sout0_B_0 at hc
    rw [out_later, pay_at]
    exact congrArg₂ prod (funext fun k => blk0 c m t r k) (funext fun k => hc k)

/-- The result array. -/
theorem array_at (l : Fin 32768) (q : Fin 6144) :
    Value.G2 m c (ix2 l q)
      = prod (aA c m l) (fun k => wA c m k ⟨q.val, by omega⟩) := by
  have hN : l.val / 1024 + 32 * (q.val / 1024) < cfg0.N := by
    show _ < 192
    omega
  have hp : Value.pt2Of (ix2 l q) = l.val / 1024 + 32 * (q.val / 1024) := by
    show 1 * (l.val / 1024 - 0) + 32 * (q.val / 1024 - 0) = _
    omega
  have hl : Value.loc2Of (ix2 l q) = ix2 ⟨l.val % 1024, by omega⟩ ⟨q.val % 1024, by omega⟩ := by
    funext a
    match a with
    | ⟨0, _⟩ => rfl
    | ⟨1, _⟩ => rfl
  unfold Value.G2
  rw [dif_pos (by rw [hp]; exact hN), ← Value.outsAt0_sweep m c _ (by rw [hp]; exact hN), hl]
  have key := out_at c m ⟨l.val / 1024 + 32 * (q.val / 1024), hN⟩ ⟨l.val % 1024, by omega⟩ ⟨q.val % 1024, by omega⟩
  refine Eq.trans ?_ (key.trans ?_)
  · simp only [hp]
  · have h0 : (⟨1024 * ((l.val / 1024 + 32 * (q.val / 1024)) % 32) + l.val % 1024, by omega⟩ : Fin 32768) = l := Fin.ext (by dsimp only; omega)
    have h1 : (⟨1024 * ((l.val / 1024 + 32 * (q.val / 1024)) / 32) + q.val % 1024, by omega⟩ : Fin 6152) = ⟨q.val, by omega⟩ := Fin.ext (by dsimp only; omega)
    rw [h0, h1]

end Cert.Plain

end
-- ==== Proof.Gate.lean ====
module

public import proofs.«01_k».proof.Proof.Gen.Kernel3Ideal.Value
public import proofs.«01_k».proof.Proof.Product
public import Idealize.ShloMosaic.Lib.WritesUnit
public import Idealize.ShloMosaic.Lib.Pipeline.ValueKit
/-! The projection of the gate with its activation: what a grid point stores, what the carried copy of the weights holds, the result array. -/

@[expose] public section

open Idealize Idealize.SL Idealize.ShloMosaic Idealize.ShloMosaic.TcCoe Idealize.ShloMosaic.Tactic Cert.Kernel3Ideal Cert.Kernel3Ideal.Gen Cert.Product

set_option maxRecDepth 16384

noncomputable section

namespace Cert.Gate

variable {F : FTy → Type} [FloatOps F]
variable (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S2048x1024 .bf16) (harg5 : arg5.IsWhole)
  (x0 : Vec F S1024x2048 .bf16) (x1 : Vec F S1x2048x1024 .f32)

/-- The copy of the weights is stored 256 rows at a time. -/
theorem copy_pieces (hc0 : cond0_0 i) :
    pb_k0_t1 (F := F) Variants.none c none i arg2 harg2 arg3 harg3 arg4 harg4 arg5 harg5 hc0 (harg3.unread x1) k0_t1_loop.trips
      = View.tilePieces (s := S2048x1024) S256x1024.size k0_off2 (fun k => k0_off2_inb i k hc0)
          (fun k => k0_pay1 (arg3.view.readAt (Elt F) (Rect.unit (s := S1x2048x1024) (k0_off1 k) S1x256x1024.size (k0_off1_inb i k hc0)).toLoadRect (harg3.unread x1)))
          k0_t1_loop.trips le_rfl := by
  sl_kernel_rfl

/-- The pieces a column block's first point stores into the copy. -/
theorem copy_first (hc0 : cond0_0 i) :
    sout0_A_0 c i arg2 harg2 arg3 harg3 arg4 harg4 arg5 harg5 hc0 x0 x1
      = View.canon (pb_k0_t1 (F := F) Variants.none c none i arg2 harg2 arg3 harg3 arg4 harg4 arg5 harg5 hc0 (harg3.unread x1) k0_t1_loop.trips) := by
  unfold sout0_A_0
  rw [View.read_writes_junk_eq_canon]
  rfl

/-- What a column block's first point stores. -/
theorem out_first (hc0 : cond0_0 i) :
    out0_A_2 c i arg2 harg2 arg3 harg3 arg4 harg4 arg5 harg5 hc0 x0 x1
      = k0_pay2 x0 (sout0_A_0 c i arg2 harg2 arg3 harg3 arg4 harg4 arg5 harg5 hc0 x0 x1) := by
  rw [copy_first]
  unfold out0_A_2
  rw [View.read_writes_junk_eq_canon]
  unfold kernelRun0_A
  dsimp only
  sl_unfold_words
  simp only [View.readAt_eq_ld, harg2.read_unread, View.readCov_eq_canon']
  refine (View.canon_cons_unit_zero hz _ _ _).trans ?_
  rw [View.ld_unit_zero hz]
  exact congrArg (k0_pay2 x0) (View.ld_unit_zero hz _ (View.canon _))

/-- What a later point of a column block stores. -/
theorem out_later (hc0 : ¬cond0_0 i) (xs0 : Vec F S2048x1024 .bf16) :
    out0_B_2 c i arg2 harg2 arg3 harg3 arg4 harg4 arg5 harg5 hc0 x0 x1 xs0 = k0_pay2 x0 xs0 := by
  unfold out0_B_2
  rw [View.read_writes_junk_eq_canon]
  unfold kernelRun0_B
  dsimp only
  sl_unfold_words
  simp only [View.readAt_eq_ld, harg2.read_unread, harg5.read_unread]
  refine (View.canon_cons_unit_zero hz _ _ _).trans ?_
  rw [View.ld_unit_zero hz, View.ld_unit_zero hz]

/-- A strip of the copy is a strip of the weights. -/
theorem strip (v : Vec Ideal S1x256x1024 .f32) (r : Fin 256) (e : Fin 1024) : k0_pay1 v (ix2 r e) = v (ix3 0 r e) := by
  pointwise [k0_pay1]

/-- The copy holds the block of the weights. -/
theorem copy_at (x1 : Vec Ideal S1x2048x1024 .f32) (x0 : Vec Ideal S1024x2048 .bf16) (hc0 : cond0_0 i) (k : Fin 2048) (e : Fin 1024) :
    sout0_A_0 c i arg2 harg2 arg3 harg3 arg4 harg4 arg5 harg5 hc0 x0 x1 (ix2 k e) = x1 (ix3 0 k e) := by
  have ht : k.val / 256 < k0_t1_loop.trips := by
    have : k0_t1_loop.trips = 8 := by decide +kernel
    omega
  rw [copy_first, copy_pieces]
  refine (strips_at arg5.view k0_off2 k0_off2_eq _ _ k e ht).trans ?_
  rw [View.readAt_eq_ld, harg3.read_unread]
  exact (strip _ _ e).trans (strip_at x1 (k0_off1 ⟨k.val / 256, ht⟩) k (k0_off1_eq _) _ e)

/-- A stored element: the activation of a row of the activations times a column of the copy. -/
theorem pay_at (x0 : Vec Ideal S1024x2048 .bf16) (w : Vec Ideal S2048x1024 .bf16) (r e : Fin 1024) :
    k0_pay2 x0 w (ix2 r e) = gate (prod (K := 2048) (fun k => x0 (ix2 r k)) (fun k => w (ix2 k e))) := by
  unfold gate prod
  rw [← half]
  pointwise [k0_pay2]

variable (m : (ℓ : Loc nD τ sig) → Buf (Elt Ideal) ℓ)

/-- The activations. -/
def aA (l : Fin 32768) (k : Fin 2048) : EReal := m ((c : Thread nD τ).loc main_arg0) (ix2 l k)

/-- The weights. -/
def wA (k : Fin 2048) (q : Fin 10304) : EReal := m ((c : Thread nD τ).loc main_arg1) (ix3 0 k q)

/-- The windows' block indices at a point. -/
theorem idx_all : ∀ t : Fin cfg0.N, win0_0.index t = ![t.val % 32, 0] ∧ win0_1.index t = ![0, 0, t.val / 32] := by decide +kernel

/-- The activations' block. -/
theorem blk0 (t : Fin cfg0.N) (r : Fin 1024) (k : Fin 2048) :
    iblk m c 0 t (ix2 r k) = aA c m ⟨1024 * (t.val % 32) + r.val, by omega⟩ k := by
  unfold aA
  blk_ext [iblk, V, idx_all t]

/-- The weights' block. -/
theorem blk1 (t : Fin cfg0.N) (k : Fin 2048) (e : Fin 1024) :
    X0_1 m c t (ix3 0 k e) = wA c m k ⟨1024 * (t.val / 32) + e.val, by have : t.val < 128 := t.isLt; omega⟩ := by
  unfold wA
  unfold X0_1
  unfold Pipeline.Window.fill
  rw [dif_pos (moved0_1 t _)]
  blk_ext [iblk, V, idx_all t]

/-- What the copy of the weights holds after a point. -/
theorem copy_holds (k : Fin 2048) (e : Fin 1024) (n : ℕ) (hn : n < cfg0.N) :
    (outsAt0 m c n hn).2 (ix2 k e) = wA c m k ⟨1024 * (n / 32 % 4) + e.val, by omega⟩ := by
  refine carried (fun n hn => (outsAt0 m c n hn).2 (ix2 k e)) (fun b => wA c m k ⟨1024 * (b % 4) + e.val, by omega⟩) 32 (by decide)
    (fun n hn h0 => ?_) (fun n hn h0 => ?_) n hn
  · have hN : n < 128 := hn
    rw [outsAt0_A m c ⟨n, hn⟩ h0]
    dsimp only
    rw [copy_at, blk1]
    exact congrArg (wA c m k) (Fin.ext (by dsimp only; omega))
  · rw [outsAt0_B m c ⟨n + 1, hn⟩ h0]
    rfl

/-- What a point stores. -/
theorem out_at (t : Fin cfg0.N) (r e : Fin 1024) :
    (outsAt0 m c t.val t.isLt).1 (ix2 r e)
      = gate (prod (aA c m ⟨1024 * (t.val % 32) + r.val, by omega⟩)
          (fun k => wA c m k ⟨1024 * (t.val / 32) + e.val, by have : t.val < 128 := t.isLt; omega⟩)) := by
  have hc : ∀ k, (outsAt0 m c t.val t.isLt).2 (ix2 k e) = wA c m k ⟨1024 * (t.val / 32) + e.val, by have : t.val < 128 := t.isLt; omega⟩ := fun k =>
    (copy_holds c m k e t.val t.isLt).trans (congrArg (wA c m k) (Fin.ext (by have : t.val < 128 := t.isLt; dsimp only; omega)))
  by_cases h0 : t.val % 32 = 0
  · rw [outsAt0_A m c t h0] at hc ⊢
    dsimp only at hc ⊢
    rw [out_first, pay_at]
    exact congrArg gate (congrArg₂ prod (funext fun k => blk0 c m t r k) (funext fun k => hc k))
  · rw [outsAt0_B m c t h0] at hc ⊢
    dsimp only at hc ⊢
    unfold sout0_B_0 at hc
    rw [out_later, pay_at]
    exact congrArg gate (congrArg₂ prod (funext fun k => blk0 c m t r k) (funext fun k => hc k))

/-- The result array. -/
theorem array_at (l : Fin 32768) (q : Fin 4096) :
    Value.G2 m c (ix2 l q)
      = gate (prod (aA c m l) (fun k => wA c m k ⟨q.val, by omega⟩)) := by
  have hN : l.val / 1024 + 32 * (q.val / 1024) < cfg0.N := by
    show _ < 128
    omega
  have hp : Value.pt2Of (ix2 l q) = l.val / 1024 + 32 * (q.val / 1024) := by
    show 1 * (l.val / 1024 - 0) + 32 * (q.val / 1024 - 0) = _
    omega
  have hl : Value.loc2Of (ix2 l q) = ix2 ⟨l.val % 1024, by omega⟩ ⟨q.val % 1024, by omega⟩ := by
    funext a
    match a with
    | ⟨0, _⟩ => rfl
    | ⟨1, _⟩ => rfl
  unfold Value.G2
  rw [dif_pos (by rw [hp]; exact hN), ← Value.outsAt0_sweep m c _ (by rw [hp]; exact hN), hl]
  have key := out_at c m ⟨l.val / 1024 + 32 * (q.val / 1024), hN⟩ ⟨l.val % 1024, by omega⟩ ⟨q.val % 1024, by omega⟩
  refine Eq.trans ?_ (key.trans ?_)
  · simp only [hp]
  · have h0 : (⟨1024 * ((l.val / 1024 + 32 * (q.val / 1024)) % 32) + l.val % 1024, by omega⟩ : Fin 32768) = l := Fin.ext (by dsimp only; omega)
    have h1 : (⟨1024 * ((l.val / 1024 + 32 * (q.val / 1024)) / 32) + q.val % 1024, by omega⟩ : Fin 10304) = ⟨q.val, by omega⟩ := Fin.ext (by dsimp only; omega)
    rw [h0, h1]

end Cert.Gate

end
-- ==== Proof.SsdOut.lean ====
module

public import proofs.«01_k».proof.Proof.Gen.Kernel5Ideal.Value
public import proofs.«01_k».proof.Proof.Product
public import Idealize.ShloMosaic.Lib.WritesUnit
public import Idealize.ShloMosaic.Lib.Pipeline.ValueKit
/-! The output projection of the SSD layer with the residual: what a grid point stores, what the carried copy of the weights holds, the result array. -/

@[expose] public section

open Idealize Idealize.SL Idealize.ShloMosaic Idealize.ShloMosaic.TcCoe Idealize.ShloMosaic.Tactic Cert.Kernel5Ideal Cert.Kernel5Ideal.Gen Cert.Product

set_option maxRecDepth 16384

noncomputable section

namespace Cert.SsdOut

variable {F : FTy → Type} [FloatOps F]
variable (c : Dev nD) (i : grid0.Coords) (arg2 : Memref sig .tc .vmem S512x4096 .bf16) (harg2 : arg2.IsWhole) (arg3 : Memref sig .tc .vmem S1x4096x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S4096x512 .bf16) (harg6 : arg6.IsWhole)
  (x0 : Vec F S512x4096 .bf16) (x1 : Vec F S1x4096x512 .f32) (x2 : Vec F S512x512 .f32)

/-- The copy of the weights is stored 256 rows at a time. -/
theorem copy_pieces (hc0 : cond0_0 i) :
    pb_k0_t1 (F := F) Variants.none c none i arg2 harg2 arg3 harg3 arg4 harg4 arg5 harg5 arg6 harg6 hc0 (harg3.unread x1) k0_t1_loop.trips
      = View.tilePieces (s := S4096x512) S256x512.size k0_off2 (fun k => k0_off2_inb i k hc0)
          (fun k => k0_pay1 (arg3.view.readAt (Elt F) (Rect.unit (s := S1x4096x512) (k0_off1 k) S1x256x512.size (k0_off1_inb i k hc0)).toLoadRect (harg3.unread x1)))
          k0_t1_loop.trips le_rfl := by
  sl_kernel_rfl

/-- The pieces a column block's first point stores into the copy. -/
theorem copy_first (hc0 : cond0_0 i) :
    sout0_A_0 c i arg2 harg2 arg3 harg3 arg4 harg4 arg5 harg5 arg6 harg6 hc0 x0 x1 x2
      = View.canon (pb_k0_t1 (F := F) Variants.none c none i arg2 harg2 arg3 harg3 arg4 harg4 arg5 harg5 arg6 harg6 hc0 (harg3.unread x1) k0_t1_loop.trips) := by
  unfold sout0_A_0
  rw [View.read_writes_junk_eq_canon]
  rfl

/-- What a column block's first point stores. -/
theorem out_first (hc0 : cond0_0 i) :
    out0_A_3 c i arg2 harg2 arg3 harg3 arg4 harg4 arg5 harg5 arg6 harg6 hc0 x0 x1 x2
      = k0_pay2 x0 (sout0_A_0 c i arg2 harg2 arg3 harg3 arg4 harg4 arg5 harg5 arg6 harg6 hc0 x0 x1 x2) x2 := by
  rw [copy_first]
  unfold out0_A_3
  rw [View.read_writes_junk_eq_canon]
  unfold kernelRun0_A
  dsimp only
  sl_unfold_words
  simp only [View.readAt_eq_ld, harg2.read_unread, harg4.read_unread, View.readCov_eq_canon']
  refine (View.canon_cons_unit_zero hz _ _ _).trans ?_
  rw [View.ld_unit_zero hz, View.ld_unit_zero hz]
  exact congrArg (fun w => k0_pay2 x0 w x2) (View.ld_unit_zero hz _ (View.canon _))

/-- What a later point of a column block stores. -/
theorem out_later (hc0 : ¬cond0_0 i) (xs0 : Vec F S4096x512 .bf16) :
    out0_B_3 c i arg2 harg2 arg3 harg3 arg4 harg4 arg5 harg5 arg6 harg6 hc0 x0 x1 x2 xs0 = k0_pay2 x0 xs0 x2 := by
  unfold out0_B_3
  rw [View.read_writes_junk_eq_canon]
  unfold kernelRun0_B
  dsimp only
  sl_unfold_words
  simp only [View.readAt_eq_ld, harg2.read_unread, harg6.read_unread, harg4.read_unread]
  refine (View.canon_cons_unit_zero hz _ _ _).trans ?_
  rw [View.ld_unit_zero hz, View.ld_unit_zero hz, View.ld_unit_zero hz]

/-- A strip of the copy is a strip of the weights. -/
theorem strip (v : Vec Ideal S1x256x512 .f32) (r : Fin 256) (e : Fin 512) : k0_pay1 v (ix2 r e) = v (ix3 0 r e) := by
  pointwise [k0_pay1]

/-- The copy holds the block of the weights. -/
theorem copy_at (x1 : Vec Ideal S1x4096x512 .f32) (x0 : Vec Ideal S512x4096 .bf16) (x2 : Vec Ideal S512x512 .f32) (hc0 : cond0_0 i) (k : Fin 4096) (e : Fin 512) :
    sout0_A_0 c i arg2 harg2 arg3 harg3 arg4 harg4 arg5 harg5 arg6 harg6 hc0 x0 x1 x2 (ix2 k e) = x1 (ix3 0 k e) := by
  have ht : k.val / 256 < k0_t1_loop.trips := by
    have : k0_t1_loop.trips = 16 := by decide +kernel
    omega
  rw [copy_first, copy_pieces]
  refine (strips_at arg6.view k0_off2 k0_off2_eq _ _ k e ht).trans ?_
  rw [View.readAt_eq_ld, harg3.read_unread]
  exact (strip _ _ e).trans (strip_at x1 (k0_off1 ⟨k.val / 256, ht⟩) k (k0_off1_eq _) _ e)

/-- A stored element: a row of the activations times a column of the copy, and the residual. -/
theorem pay_at (x0 : Vec Ideal S512x4096 .bf16) (w : Vec Ideal S4096x512 .bf16) (x2 : Vec Ideal S512x512 .f32) (r : Fin 512) (e : Fin 512) :
    k0_pay2 x0 w x2 (ix2 r e) = prod (K := 4096) (fun k => x0 (ix2 r k)) (fun k => w (ix2 k e)) + (x2 (ix2 r e) : EReal) := by
  unfold prod
  pointwise [k0_pay2]

variable (m : (ℓ : Loc nD τ sig) → Buf (Elt Ideal) ℓ)

/-- The activations. -/
def aA (l : Fin 32768) (k : Fin 4096) : EReal := m ((c : Thread nD τ).loc main_arg0) (ix2 l k)

/-- The weights. -/
def wA (k : Fin 4096) (q : Fin 2048) : EReal := m ((c : Thread nD τ).loc main_arg1) (ix3 0 k q)

/-- The residual. -/
def hA (l : Fin 32768) (q : Fin 2048) : EReal := m ((c : Thread nD τ).loc main_arg2) (ix2 l q)

/-- The windows' block indices at a point. -/
theorem idx_all : ∀ t : Fin cfg0.N, win0_0.index t = ![t.val % 64, 0] ∧ win0_1.index t = ![0, 0, t.val / 64]
    ∧ win0_2.index t = ![t.val % 64, t.val / 64] := by decide +kernel

/-- The activations' block. -/
theorem blk0 (t : Fin cfg0.N) (r : Fin 512) (k : Fin 4096) :
    iblk m c 0 t (ix2 r k) = aA c m ⟨512 * (t.val % 64) + r.val, by omega⟩ k := by
  unfold aA
  blk_ext [iblk, V, idx_all t]

/-- The weights' block. -/
theorem blk1 (t : Fin cfg0.N) (k : Fin 4096) (e : Fin 512) :
    iblk m c 1 t (ix3 0 k e) = wA c m k ⟨512 * (t.val / 64) + e.val, by have : t.val < 256 := t.isLt; omega⟩ := by
  unfold wA
  blk_ext [iblk, V, idx_all t]

/-- The residual's block. -/
theorem blk2 (t : Fin cfg0.N) (r : Fin 512) (e : Fin 512) :
    iblk m c 2 t (ix2 r e) = hA c m ⟨512 * (t.val % 64) + r.val, by omega⟩ ⟨512 * (t.val / 64) + e.val, by have : t.val < 256 := t.isLt; omega⟩ := by
  unfold hA
  blk_ext [iblk, V, idx_all t]

/-- What the copy of the weights holds after a point. -/
theorem copy_holds (k : Fin 4096) (e : Fin 512) (n : ℕ) (hn : n < cfg0.N) :
    (outsAt0 m c n hn).2 (ix2 k e) = wA c m k ⟨512 * (n / 64 % 4) + e.val, by omega⟩ := by
  refine carried (fun n hn => (outsAt0 m c n hn).2 (ix2 k e)) (fun b => wA c m k ⟨512 * (b % 4) + e.val, by omega⟩) 64 (by decide)
    (fun n hn h0 => ?_) (fun n hn h0 => ?_) n hn
  · have hN : n < 256 := hn
    rw [outsAt0_A m c ⟨n, hn⟩ h0]
    dsimp only
    rw [copy_at, blk1]
    exact congrArg (wA c m k) (Fin.ext (by dsimp only; omega))
  · rw [outsAt0_B m c ⟨n + 1, hn⟩ h0]
    rfl

/-- What a point stores. -/
theorem out_at (t : Fin cfg0.N) (r : Fin 512) (e : Fin 512) :
    (outsAt0 m c t.val t.isLt).1 (ix2 r e)
      = prod (aA c m ⟨512 * (t.val % 64) + r.val, by omega⟩)
          (fun k => wA c m k ⟨512 * (t.val / 64) + e.val, by have : t.val < 256 := t.isLt; omega⟩)
        + hA c m ⟨512 * (t.val % 64) + r.val, by omega⟩ ⟨512 * (t.val / 64) + e.val, by have : t.val < 256 := t.isLt; omega⟩ := by
  have hc : ∀ k, (outsAt0 m c t.val t.isLt).2 (ix2 k e) = wA c m k ⟨512 * (t.val / 64) + e.val, by have : t.val < 256 := t.isLt; omega⟩ := fun k =>
    (copy_holds c m k e t.val t.isLt).trans (congrArg (wA c m k) (Fin.ext (by have : t.val < 256 := t.isLt; dsimp only; omega)))
  by_cases h0 : t.val % 64 = 0
  · rw [outsAt0_A m c t h0] at hc ⊢
    dsimp only at hc ⊢
    rw [out_first, pay_at]
    exact congrArg₂ (· + ·) (congrArg₂ prod (funext fun k => blk0 c m t r k) (funext fun k => hc k)) (blk2 c m t r e)
  · rw [outsAt0_B m c t h0] at hc ⊢
    dsimp only at hc ⊢
    unfold sout0_B_0 at hc
    rw [out_later, pay_at]
    exact congrArg₂ (· + ·) (congrArg₂ prod (funext fun k => blk0 c m t r k) (funext fun k => hc k)) (blk2 c m t r e)

/-- The result array. -/
theorem array_at (l : Fin 32768) (q : Fin 2048) :
    Value.G3 m c (ix2 l q)
      = prod (aA c m l) (fun k => wA c m k q) + hA c m l q := by
  have hN : l.val / 512 + 64 * (q.val / 512) < cfg0.N := by
    show _ < 256
    omega
  have hp : Value.pt3Of (ix2 l q) = l.val / 512 + 64 * (q.val / 512) := by
    show 1 * (l.val / 512 - 0) + 64 * (q.val / 512 - 0) = _
    omega
  have hl : Value.loc3Of (ix2 l q) = ix2 ⟨l.val % 512, by omega⟩ ⟨q.val % 512, by omega⟩ := by
    funext a
    match a with
    | ⟨0, _⟩ => rfl
    | ⟨1, _⟩ => rfl
  unfold Value.G3
  rw [dif_pos (by rw [hp]; exact hN), ← Value.outsAt0_sweep m c _ (by rw [hp]; exact hN), hl]
  have key := out_at c m ⟨l.val / 512 + 64 * (q.val / 512), hN⟩ ⟨l.val % 512, by omega⟩ ⟨q.val % 512, by omega⟩
  refine Eq.trans ?_ (key.trans ?_)
  · simp only [hp]
  · have h0 : (⟨512 * ((l.val / 512 + 64 * (q.val / 512)) % 64) + l.val % 512, by omega⟩ : Fin 32768) = l := Fin.ext (by dsimp only; omega)
    have h1 : (⟨512 * ((l.val / 512 + 64 * (q.val / 512)) / 64) + q.val % 512, by omega⟩ : Fin 2048) = q := Fin.ext (by dsimp only; omega)
    rw [h0, h1]

end Cert.SsdOut

end
-- ==== Proof.MlOut.lean ====
module

public import proofs.«01_k».proof.Proof.Gen.Kernel6Ideal.Value
public import proofs.«01_k».proof.Proof.Product
public import Idealize.ShloMosaic.Lib.WritesUnit
public import Idealize.ShloMosaic.Lib.Pipeline.ValueKit
/-! The output projection of the mLSTM layer with the residual: what a grid point stores, what the carried copy of the weights holds, the result array. -/

@[expose] public section

open Idealize Idealize.SL Idealize.ShloMosaic Idealize.ShloMosaic.TcCoe Idealize.ShloMosaic.Tactic Cert.Kernel6Ideal Cert.Kernel6Ideal.Gen Cert.Product

set_option maxRecDepth 16384

noncomputable section

namespace Cert.MlOut

variable {F : FTy → Type} [FloatOps F]
variable (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S2048x512 .bf16) (harg6 : arg6.IsWhole)
  (x0 : Vec F S1024x2048 .bf16) (x1 : Vec F S1x2048x512 .f32) (x2 : Vec F S1024x512 .f32)

/-- The copy of the weights is stored 256 rows at a time. -/
theorem copy_pieces (hc0 : cond0_0 i) :
    pb_k0_t1 (F := F) Variants.none c none i arg2 harg2 arg3 harg3 arg4 harg4 arg5 harg5 arg6 harg6 hc0 (harg3.unread x1) k0_t1_loop.trips
      = View.tilePieces (s := S2048x512) S256x512.size k0_off2 (fun k => k0_off2_inb i k hc0)
          (fun k => k0_pay1 (arg3.view.readAt (Elt F) (Rect.unit (s := S1x2048x512) (k0_off1 k) S1x256x512.size (k0_off1_inb i k hc0)).toLoadRect (harg3.unread x1)))
          k0_t1_loop.trips le_rfl := by
  sl_kernel_rfl

/-- The pieces a column block's first point stores into the copy. -/
theorem copy_first (hc0 : cond0_0 i) :
    sout0_A_0 c i arg2 harg2 arg3 harg3 arg4 harg4 arg5 harg5 arg6 harg6 hc0 x0 x1 x2
      = View.canon (pb_k0_t1 (F := F) Variants.none c none i arg2 harg2 arg3 harg3 arg4 harg4 arg5 harg5 arg6 harg6 hc0 (harg3.unread x1) k0_t1_loop.trips) := by
  unfold sout0_A_0
  rw [View.read_writes_junk_eq_canon]
  rfl

/-- What a column block's first point stores. -/
theorem out_first (hc0 : cond0_0 i) :
    out0_A_3 c i arg2 harg2 arg3 harg3 arg4 harg4 arg5 harg5 arg6 harg6 hc0 x0 x1 x2
      = k0_pay2 x0 (sout0_A_0 c i arg2 harg2 arg3 harg3 arg4 harg4 arg5 harg5 arg6 harg6 hc0 x0 x1 x2) x2 := by
  rw [copy_first]
  unfold out0_A_3
  rw [View.read_writes_junk_eq_canon]
  unfold kernelRun0_A
  dsimp only
  sl_unfold_words
  simp only [View.readAt_eq_ld, harg2.read_unread, harg4.read_unread, View.readCov_eq_canon']
  refine (View.canon_cons_unit_zero hz _ _ _).trans ?_
  rw [View.ld_unit_zero hz, View.ld_unit_zero hz]
  exact congrArg (fun w => k0_pay2 x0 w x2) (View.ld_unit_zero hz _ (View.canon _))

/-- What a later point of a column block stores. -/
theorem out_later (hc0 : ¬cond0_0 i) (xs0 : Vec F S2048x512 .bf16) :
    out0_B_3 c i arg2 harg2 arg3 harg3 arg4 harg4 arg5 harg5 arg6 harg6 hc0 x0 x1 x2 xs0 = k0_pay2 x0 xs0 x2 := by
  unfold out0_B_3
  rw [View.read_writes_junk_eq_canon]
  unfold kernelRun0_B
  dsimp only
  sl_unfold_words
  simp only [View.readAt_eq_ld, harg2.read_unread, harg6.read_unread, harg4.read_unread]
  refine (View.canon_cons_unit_zero hz _ _ _).trans ?_
  rw [View.ld_unit_zero hz, View.ld_unit_zero hz, View.ld_unit_zero hz]

/-- A strip of the copy is a strip of the weights. -/
theorem strip (v : Vec Ideal S1x256x512 .f32) (r : Fin 256) (e : Fin 512) : k0_pay1 v (ix2 r e) = v (ix3 0 r e) := by
  pointwise [k0_pay1]

/-- The copy holds the block of the weights. -/
theorem copy_at (x1 : Vec Ideal S1x2048x512 .f32) (x0 : Vec Ideal S1024x2048 .bf16) (x2 : Vec Ideal S1024x512 .f32) (hc0 : cond0_0 i) (k : Fin 2048) (e : Fin 512) :
    sout0_A_0 c i arg2 harg2 arg3 harg3 arg4 harg4 arg5 harg5 arg6 harg6 hc0 x0 x1 x2 (ix2 k e) = x1 (ix3 0 k e) := by
  have ht : k.val / 256 < k0_t1_loop.trips := by
    have : k0_t1_loop.trips = 8 := by decide +kernel
    omega
  rw [copy_first, copy_pieces]
  refine (strips_at arg6.view k0_off2 k0_off2_eq _ _ k e ht).trans ?_
  rw [View.readAt_eq_ld, harg3.read_unread]
  exact (strip _ _ e).trans (strip_at x1 (k0_off1 ⟨k.val / 256, ht⟩) k (k0_off1_eq _) _ e)

/-- A stored element: a row of the activations times a column of the copy, and the residual. -/
theorem pay_at (x0 : Vec Ideal S1024x2048 .bf16) (w : Vec Ideal S2048x512 .bf16) (x2 : Vec Ideal S1024x512 .f32) (r : Fin 1024) (e : Fin 512) :
    k0_pay2 x0 w x2 (ix2 r e) = prod (K := 2048) (fun k => x0 (ix2 r k)) (fun k => w (ix2 k e)) + (x2 (ix2 r e) : EReal) := by
  unfold prod
  pointwise [k0_pay2]

variable (m : (ℓ : Loc nD τ sig) → Buf (Elt Ideal) ℓ)

/-- The activations. -/
def aA (l : Fin 32768) (k : Fin 2048) : EReal := m ((c : Thread nD τ).loc main_arg0) (ix2 l k)

/-- The weights. -/
def wA (k : Fin 2048) (q : Fin 2048) : EReal := m ((c : Thread nD τ).loc main_arg1) (ix3 0 k q)

/-- The residual. -/
def hA (l : Fin 32768) (q : Fin 2048) : EReal := m ((c : Thread nD τ).loc main_arg2) (ix2 l q)

/-- The windows' block indices at a point. -/
theorem idx_all : ∀ t : Fin cfg0.N, win0_0.index t = ![t.val % 32, 0] ∧ win0_1.index t = ![0, 0, t.val / 32]
    ∧ win0_2.index t = ![t.val % 32, t.val / 32] := by decide +kernel

/-- The activations' block. -/
theorem blk0 (t : Fin cfg0.N) (r : Fin 1024) (k : Fin 2048) :
    iblk m c 0 t (ix2 r k) = aA c m ⟨1024 * (t.val % 32) + r.val, by omega⟩ k := by
  unfold aA
  blk_ext [iblk, V, idx_all t]

/-- The weights' block. -/
theorem blk1 (t : Fin cfg0.N) (k : Fin 2048) (e : Fin 512) :
    iblk m c 1 t (ix3 0 k e) = wA c m k ⟨512 * (t.val / 32) + e.val, by have : t.val < 128 := t.isLt; omega⟩ := by
  unfold wA
  blk_ext [iblk, V, idx_all t]

/-- The residual's block. -/
theorem blk2 (t : Fin cfg0.N) (r : Fin 1024) (e : Fin 512) :
    iblk m c 2 t (ix2 r e) = hA c m ⟨1024 * (t.val % 32) + r.val, by omega⟩ ⟨512 * (t.val / 32) + e.val, by have : t.val < 128 := t.isLt; omega⟩ := by
  unfold hA
  blk_ext [iblk, V, idx_all t]

/-- What the copy of the weights holds after a point. -/
theorem copy_holds (k : Fin 2048) (e : Fin 512) (n : ℕ) (hn : n < cfg0.N) :
    (outsAt0 m c n hn).2 (ix2 k e) = wA c m k ⟨512 * (n / 32 % 4) + e.val, by omega⟩ := by
  refine carried (fun n hn => (outsAt0 m c n hn).2 (ix2 k e)) (fun b => wA c m k ⟨512 * (b % 4) + e.val, by omega⟩) 32 (by decide)
    (fun n hn h0 => ?_) (fun n hn h0 => ?_) n hn
  · have hN : n < 128 := hn
    rw [outsAt0_A m c ⟨n, hn⟩ h0]
    dsimp only
    rw [copy_at, blk1]
    exact congrArg (wA c m k) (Fin.ext (by dsimp only; omega))
  · rw [outsAt0_B m c ⟨n + 1, hn⟩ h0]
    rfl

/-- What a point stores. -/
theorem out_at (t : Fin cfg0.N) (r : Fin 1024) (e : Fin 512) :
    (outsAt0 m c t.val t.isLt).1 (ix2 r e)
      = prod (aA c m ⟨1024 * (t.val % 32) + r.val, by omega⟩)
          (fun k => wA c m k ⟨512 * (t.val / 32) + e.val, by have : t.val < 128 := t.isLt; omega⟩)
        + hA c m ⟨1024 * (t.val % 32) + r.val, by omega⟩ ⟨512 * (t.val / 32) + e.val, by have : t.val < 128 := t.isLt; omega⟩ := by
  have hc : ∀ k, (outsAt0 m c t.val t.isLt).2 (ix2 k e) = wA c m k ⟨512 * (t.val / 32) + e.val, by have : t.val < 128 := t.isLt; omega⟩ := fun k =>
    (copy_holds c m k e t.val t.isLt).trans (congrArg (wA c m k) (Fin.ext (by have : t.val < 128 := t.isLt; dsimp only; omega)))
  by_cases h0 : t.val % 32 = 0
  · rw [outsAt0_A m c t h0] at hc ⊢
    dsimp only at hc ⊢
    rw [out_first, pay_at]
    exact congrArg₂ (· + ·) (congrArg₂ prod (funext fun k => blk0 c m t r k) (funext fun k => hc k)) (blk2 c m t r e)
  · rw [outsAt0_B m c t h0] at hc ⊢
    dsimp only at hc ⊢
    unfold sout0_B_0 at hc
    rw [out_later, pay_at]
    exact congrArg₂ (· + ·) (congrArg₂ prod (funext fun k => blk0 c m t r k) (funext fun k => hc k)) (blk2 c m t r e)

/-- The result array. -/
theorem array_at (l : Fin 32768) (q : Fin 2048) :
    Value.G3 m c (ix2 l q)
      = prod (aA c m l) (fun k => wA c m k q) + hA c m l q := by
  have hN : l.val / 1024 + 32 * (q.val / 512) < cfg0.N := by
    show _ < 128
    omega
  have hp : Value.pt3Of (ix2 l q) = l.val / 1024 + 32 * (q.val / 512) := by
    show 1 * (l.val / 1024 - 0) + 32 * (q.val / 512 - 0) = _
    omega
  have hl : Value.loc3Of (ix2 l q) = ix2 ⟨l.val % 1024, by omega⟩ ⟨q.val % 512, by omega⟩ := by
    funext a
    match a with
    | ⟨0, _⟩ => rfl
    | ⟨1, _⟩ => rfl
  unfold Value.G3
  rw [dif_pos (by rw [hp]; exact hN), ← Value.outsAt0_sweep m c _ (by rw [hp]; exact hN), hl]
  have key := out_at c m ⟨l.val / 1024 + 32 * (q.val / 512), hN⟩ ⟨l.val % 1024, by omega⟩ ⟨q.val % 512, by omega⟩
  refine Eq.trans ?_ (key.trans ?_)
  · simp only [hp]
  · have h0 : (⟨1024 * ((l.val / 1024 + 32 * (q.val / 512)) % 32) + l.val % 1024, by omega⟩ : Fin 32768) = l := Fin.ext (by dsimp only; omega)
    have h1 : (⟨512 * ((l.val / 1024 + 32 * (q.val / 512)) / 32) + q.val % 512, by omega⟩ : Fin 2048) = q := Fin.ext (by dsimp only; omega)
    rw [h0, h1]

end Cert.MlOut

end
-- ==== Proof.RefProducts.lean ====
module

public import proofs.«01_k».proof.Proof.Gen.Reference2Ideal.Run
public import proofs.«01_k».proof.Proof.Gen.Reference3Ideal.Run
public import proofs.«01_k».proof.Proof.Gen.Reference5Ideal.Run
public import proofs.«01_k».proof.Proof.Gen.Reference6Ideal.Run
public import proofs.«01_k».proof.Proof.Product
/-! The references of the projections, read at an index. -/

@[expose] public section

open Idealize Idealize.SL Idealize.ShloMosaic Idealize.ShloMosaic.TcCoe Idealize.ShloMosaic.Tactic Cert.Product

set_option maxRecDepth 16384

noncomputable section

namespace Cert.RefProducts

open Cert.Reference2Ideal Cert.Reference2Ideal.Gen in
/-- The projection without epilogue. -/
theorem plain_at (a : FVec Ideal S32768x2048 .bf16) (w : FVec Ideal S1x2048x6152 .f32) (l : Fin 32768) (q : Fin 6144) :
    (truncf .bf16 (extractStridedSlice S32768x6144 ![0, 0] (Host.dotGeneral dot_S32768x2048_S2048x6152_S32768x6152_1_0_0_1_n_n none (extf .f32 a bitsLt_bf16_f32) (shapeCast _ w shapeCasts_S1x2048x6152_S2048x6152)) slices_S32768x6152_S32768x6144_0_0) bitsLt_bf16_f32 : FVec Ideal S32768x6144 .bf16) (ix2 l q)
      = prod (K := 2048) (fun k => a (ix2 l k)) (fun k => w (ix3 0 k ⟨q.val, by omega⟩)) := by
  unfold prod
  pointwise

open Cert.Reference3Ideal Cert.Reference3Ideal.Gen in
/-- The projection of the gate. -/
def gateProduct (a : FVec Ideal S32768x2048 .bf16) (w : FVec Ideal S1x2048x10304 .f32) : FVec Ideal S32768x4096 .f32 :=
  extractStridedSlice S32768x4096 ![0, 0] (Host.dotGeneral dot_S32768x2048_S2048x10304_S32768x10304_1_0_0_1_n_n none (extf .f32 a bitsLt_bf16_f32) (shapeCast _ w shapeCasts_S1x2048x10304_S2048x10304)) slices_S32768x10304_S32768x4096_0_0

open Cert.Reference3Ideal Cert.Reference3Ideal.Gen in
/-- The gate: the logistic form of the activation of a product. -/
theorem gate_at (a : FVec Ideal S32768x2048 .bf16) (w : FVec Ideal S1x2048x10304 .f32) (l : Fin 32768) (q : Fin 4096) :
    (truncf .bf16 (mulf (gateProduct a w) (Host.divf (broadcastInDim S32768x4096 ![] bcast_S_S32768x4096 (constant S_ .f32 0x3F800000#32)) (addf (broadcastInDim S32768x4096 ![] bcast_S_S32768x4096 (constant S_ .f32 0x3F800000#32)) (Host.exp (Host.negf (gateProduct a w)))))) bitsLt_bf16_f32 : FVec Ideal S32768x4096 .bf16) (ix2 l q)
      = silu (prod (K := 2048) (fun k => a (ix2 l k)) (fun k => w (ix3 0 k ⟨q.val, by omega⟩))) := by
  have h : gateProduct a w (ix2 l q) = prod (K := 2048) (fun k => a (ix2 l k)) (fun k => w (ix3 0 k ⟨q.val, by omega⟩)) := by
    unfold prod
    pointwise [gateProduct]
  rw [← h]
  unfold silu
  rw [← Ideal.ofBits_one_f32]
  rfl

open Cert.Reference5Ideal Cert.Reference5Ideal.Gen in
/-- The output projection of the SSD layer with the residual. -/
theorem ssd_out_at (a : FVec Ideal S32768x4096 .bf16) (w : FVec Ideal S1x4096x2048 .f32) (h : FVec Ideal S32768x2048 .f32) (l : Fin 32768) (q : Fin 2048) :
    (addf h (Host.dotGeneral dot_S32768x4096_S4096x2048_S32768x2048_1_0_0_1_n_n none (extf .f32 a bitsLt_bf16_f32) (shapeCast _ w shapeCasts_S1x4096x2048_S4096x2048)) : FVec Ideal S32768x2048 .f32) (ix2 l q)
      = prod (K := 4096) (fun k => a (ix2 l k)) (fun k => w (ix3 0 k q)) + (h (ix2 l q) : EReal) := by
  rw [add_comm]
  unfold prod
  pointwise

open Cert.Reference6Ideal Cert.Reference6Ideal.Gen in
/-- The output projection of the mLSTM layer with the residual. -/
theorem ml_out_at (a : FVec Ideal S32768x2048 .bf16) (w : FVec Ideal S1x2048x2048 .f32) (h : FVec Ideal S32768x2048 .f32) (l : Fin 32768) (q : Fin 2048) :
    (addf h (Host.dotGeneral dot_S32768x2048_S2048x2048_S32768x2048_1_0_0_1_n_n none (extf .f32 a bitsLt_bf16_f32) (shapeCast _ w shapeCasts_S1x2048x2048_S2048x2048)) : FVec Ideal S32768x2048 .f32) (ix2 l q)
      = prod (K := 2048) (fun k => a (ix2 l k)) (fun k => w (ix3 0 k q)) + (h (ix2 l q) : EReal) := by
  rw [add_comm]
  unfold prod
  pointwise

end Cert.RefProducts

end
-- ==== Proof.ConvBlock.lean ====
module

public import proofs.«01_k».proof.Proof.Gen.Kernel4Ideal.Value
public import proofs.«01_k».proof.Proof.Product
public import Idealize.ShloMosaic.Lib.WritesUnit
public import Idealize.ShloMosaic.Lib.Pipeline.ValueKit
/-! The projection of x, B and C with the causal convolution: what a grid point stores. -/

@[expose] public section

open Idealize Idealize.SL Idealize.ShloMosaic Idealize.ShloMosaic.TcCoe Idealize.ShloMosaic.Tactic Cert.Kernel4Ideal Cert.Kernel4Ideal.Gen Cert.Product

set_option maxRecDepth 16384

noncomputable section

namespace Cert.Conv

variable {F : FTy → Type} [FloatOps F]

/-- One piece over a whole array is that array. -/
theorem canon_whole {Val : EltTy → Type} [∀ e, Nonempty (Val e)] {e : EltTy} {K N : ℕ}
    (inb : ∀ a, (![0, 0] : Fin 2 → ℕ) a + (![K, N] : Fin 2 → ℕ) a ≤ (![K, N] : Fin 2 → ℕ) a) (v : (⟨2, ![K, N]⟩ : Shape).Idx → Val e) :
    View.canon (Val := Val) (e := e) [⟨Rect.unit (s := ⟨2, ![K, N]⟩) ![0, 0] ![K, N] inb, v⟩] = v :=
  View.canon_cons_unit_zero hz _ _ _

/-- A load of a whole array is that array. -/
theorem ld_whole {Val : EltTy → Type} {e : EltTy} {K N : ℕ}
    (inb : ∀ a, (![0, 0] : Fin 2 → ℕ) a + (![K, N] : Fin 2 → ℕ) a ≤ (![K, N] : Fin 2 → ℕ) a) (x : (⟨2, ![K, N]⟩ : Shape).Idx → Val e) :
    View.ld (Val := Val) (e' := e) x (Rect.unit (s := ⟨2, ![K, N]⟩) ![0, 0] ![K, N] inb) = x :=
  View.ld_unit_zero hz _ _

/-- The products of a strip's rows and of the 16 rows before them. -/
def rowsProduct (x0 : Vec F S1024x2048 .bf16) (off : Fin 2 → ℕ) (inb : ∀ a, off a + S272x2048.size a ≤ S1024x2048.size a) (w : Vec F S2048x1024 .bf16) :
    FVec F S272x1024 .f32 :=
  k0_pay3 (View.ld (Val := Elt F) (e' := .bf16) x0 (Rect.unit (s := S1024x2048) off S272x2048.size inb)) w

/-- The products of the four strips; the first takes the rows before it from the history. -/
def products (i : grid0.Coords) (x0 : Vec F S1024x2048 .bf16) (x1 : Vec F S16x2048 .bf16) (w : Vec F S2048x1024 .bf16) : Fin 4 → FVec F S272x1024 .f32
  | 0 => k0_pay2 i x1 (View.ld (Val := Elt F) (e' := .bf16) x0 (Rect.unit (s := S1024x2048) ![0, 0] S256x2048.size inb_S1024x2048_S256x2048_0_0)) w
  | 1 => rowsProduct x0 ![240, 0] inb_S1024x2048_S272x2048_240_0 w
  | 2 => rowsProduct x0 ![496, 0] inb_S1024x2048_S272x2048_496_0 w
  | 3 => rowsProduct x0 ![752, 0] inb_S1024x2048_S272x2048_752_0 w

/-- The four taps over a strip's products, the bias and the activation. -/
def taps (x3 : Vec F S4x1024 .f32) (x4 : Vec F S1x1024 .f32) (a : FVec F S272x1024 .f32) : FVec F S256x1024 .bf16 :=
  k0_pay4 x4 (View.ld (Val := Elt F) (e' := .f32) x3 (Rect.unit (s := S4x1024) ![3, 0] S1x1024.size inb_S4x1024_S1x1024_3_0))
    (View.ld (Val := Elt F) (e' := .f32) a (Rect.unit (s := S272x1024) ![16, 0] S256x1024.size inb_S272x1024_S256x1024_16_0))
    (View.ld (Val := Elt F) (e' := .f32) x3 (Rect.unit (s := S4x1024) ![0, 0] S1x1024.size inb_S4x1024_S1x1024_0_0))
    (View.ld (Val := Elt F) (e' := .f32) a (Rect.unit (s := S272x1024) ![13, 0] S256x1024.size inb_S272x1024_S256x1024_13_0))
    (View.ld (Val := Elt F) (e' := .f32) x3 (Rect.unit (s := S4x1024) ![1, 0] S1x1024.size inb_S4x1024_S1x1024_1_0))
    (View.ld (Val := Elt F) (e' := .f32) a (Rect.unit (s := S272x1024) ![14, 0] S256x1024.size inb_S272x1024_S256x1024_14_0))
    (View.ld (Val := Elt F) (e' := .f32) x3 (Rect.unit (s := S4x1024) ![2, 0] S1x1024.size inb_S4x1024_S1x1024_2_0))
    (View.ld (Val := Elt F) (e' := .f32) a (Rect.unit (s := S272x1024) ![15, 0] S256x1024.size inb_S272x1024_S256x1024_15_0))

/-- A strip's first row. -/
def stripOff (q : Fin 4) : Fin 2 → ℕ := ![256 * q.val, 0]

/-- A strip lies in the block. -/
theorem stripInb (q : Fin 4) (a : Fin 2) : stripOff q a + S256x1024.size a ≤ S1024x1024.size a := by
  revert a; revert q; decide

/-- The block stored: four strips. -/
def block (i : grid0.Coords) (x0 : Vec F S1024x2048 .bf16) (x1 : Vec F S16x2048 .bf16) (x3 : Vec F S4x1024 .f32) (x4 : Vec F S1x1024 .f32) (w : Vec F S2048x1024 .bf16) :
    Vec F S1024x1024 .bf16 :=
  View.canon (View.tilePieces (Val := Elt F) (s := S1024x1024) S256x1024.size stripOff stripInb (fun q => taps x3 x4 (products i x0 x1 w q)) 4 le_rfl)

variable (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x1024 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S2048x1024 .bf16) (harg8 : arg8.IsWhole) (arg9 : Memref sig .tc .vmem S272x1024 .f32) (harg9 : arg9.IsWhole) (arg10 : Memref sig .tc .vmem S272x1024 .f32) (harg10 : arg10.IsWhole) (arg11 : Memref sig .tc .vmem S272x1024 .f32) (harg11 : arg11.IsWhole) (arg12 : Memref sig .tc .vmem S272x1024 .f32) (harg12 : arg12.IsWhole)
  (x0 : Vec F S1024x2048 .bf16) (x1 : Vec F S16x2048 .bf16) (x2 : Vec F S1x2048x1024 .f32) (x3 : Vec F S4x1024 .f32) (x4 : Vec F S1x1024 .f32)

/-- The copy of the weights is stored 256 rows at a time. -/
theorem copy_pieces (hc0 : cond0_0 i) :
    pb_k0_t1 (F := F) Variants.none c none i arg2 harg2 arg3 harg3 arg4 harg4 arg5 harg5 arg6 harg6 arg7 harg7 arg8 harg8 arg9 harg9 arg10 harg10 arg11 harg11 arg12 harg12 hc0 (harg4.unread x2) k0_t1_loop.trips
      = View.tilePieces (s := S2048x1024) S256x1024.size k0_off2 (fun k => k0_off2_inb i k hc0)
          (fun k => k0_pay1 (arg4.view.readAt (Elt F) (Rect.unit (s := S1x2048x1024) (k0_off1 k) S1x256x1024.size (k0_off1_inb i k hc0)).toLoadRect (harg4.unread x2)))
          k0_t1_loop.trips le_rfl := by
  sl_kernel_rfl

/-- The pieces a column block's first point stores into the copy. -/
theorem copy_first (hc0 : cond0_0 i) :
    sout0_A_0 c i arg2 harg2 arg3 harg3 arg4 harg4 arg5 harg5 arg6 harg6 arg7 harg7 arg8 harg8 arg9 harg9 arg10 harg10 arg11 harg11 arg12 harg12 hc0 x0 x1 x2 x3 x4
      = View.canon (pb_k0_t1 (F := F) Variants.none c none i arg2 harg2 arg3 harg3 arg4 harg4 arg5 harg5 arg6 harg6 arg7 harg7 arg8 harg8 arg9 harg9 arg10 harg10 arg11 harg11 arg12 harg12 hc0 (harg4.unread x2) k0_t1_loop.trips) := by
  unfold sout0_A_0
  rw [View.read_writes_junk_eq_canon]
  rfl

/-- What a column block's first point stores. -/
theorem out_first (hc0 : cond0_0 i) :
    out0_A_5 c i arg2 harg2 arg3 harg3 arg4 harg4 arg5 harg5 arg6 harg6 arg7 harg7 arg8 harg8 arg9 harg9 arg10 harg10 arg11 harg11 arg12 harg12 hc0 x0 x1 x2 x3 x4
      = block i x0 x1 x3 x4 (sout0_A_0 c i arg2 harg2 arg3 harg3 arg4 harg4 arg5 harg5 arg6 harg6 arg7 harg7 arg8 harg8 arg9 harg9 arg10 harg10 arg11 harg11 arg12 harg12 hc0 x0 x1 x2 x3 x4) := by
  rw [copy_first]
  unfold out0_A_5
  rw [View.read_writes_junk_eq_canon]
  unfold kernelRun0_A
  dsimp only
  sl_unfold_words
  simp only [View.readAt_eq_ld, harg2.read_unread, harg3.read_unread, harg5.read_unread, harg6.read_unread, View.readCov_eq_canon']
  generalize hw : View.canon (pb_k0_t1 (F := F) Variants.none c none i arg2 harg2 arg3 harg3 arg4 harg4 arg5 harg5 arg6 harg6 arg7 harg7 arg8 harg8 arg9 harg9 arg10 harg10 arg11 harg11 arg12 harg12 hc0 (harg4.unread x2) k0_t1_loop.trips) = w
  have hw' : (fun j => w ((Rect.unit (s := S2048x1024) ![0, 0] S2048x1024.size inb_S2048x1024_S2048x1024_0_0).idx j)) = w := ld_whole (Val := Elt F) (e := .bf16) inb_S2048x1024_S2048x1024_0_0 w
  simp only [canon_whole, ld_whole, hw']
  rfl

/-- What a later point of a column block stores. -/
theorem out_later (hc0 : ¬cond0_0 i) (xs0 : Vec F S2048x1024 .bf16) :
    out0_B_5 c i arg2 harg2 arg3 harg3 arg4 harg4 arg5 harg5 arg6 harg6 arg7 harg7 arg8 harg8 arg9 harg9 arg10 harg10 arg11 harg11 arg12 harg12 hc0 x0 x1 x2 x3 x4 xs0 = block i x0 x1 x3 x4 xs0 := by
  unfold out0_B_5
  rw [View.read_writes_junk_eq_canon]
  unfold kernelRun0_B
  dsimp only
  sl_unfold_words
  simp only [View.readAt_eq_ld, harg2.read_unread, harg3.read_unread, harg5.read_unread, harg6.read_unread, harg8.read_unread, View.readCov_eq_canon']
  simp only [canon_whole, ld_whole]
  rfl

end Cert.Conv

end
-- ==== Proof.Conv.lean ====
module

public import proofs.«01_k».proof.Proof.ConvBlock
/-! The projection of x, B and C with the causal convolution, over the extended reals: the result array. -/

@[expose] public section

open Idealize Idealize.SL Idealize.ShloMosaic Idealize.ShloMosaic.TcCoe Idealize.ShloMosaic.Tactic Cert.Kernel4Ideal Cert.Kernel4Ideal.Gen Cert.Product

set_option maxRecDepth 16384

noncomputable section

namespace Cert.Conv

/-- The convolution's four taps, from the newest row to the oldest, and the bias. -/
def tapped (b : EReal) (w u : Fin 4 → EReal) : EReal := b + w 3 * u 0 + w 0 * u 3 + w 1 * u 2 + w 2 * u 1

/-- A strip's products, at an index. -/
theorem product_at (a : Vec Ideal S272x2048 .bf16) (w : Vec Ideal S2048x1024 .bf16) (p : Fin 272) (e : Fin 1024) :
    k0_pay3 a w (ix2 p e) = prod (K := 2048) (fun k => a (ix2 p k)) (fun k => w (ix2 k e)) := by
  unfold prod
  pointwise [k0_pay3]

/-- The taps over a strip's products, at an index. -/
theorem taps_at (x3 : Vec Ideal S4x1024 .f32) (x4 : Vec Ideal S1x1024 .f32) (a : FVec Ideal S272x1024 .f32) (r : Fin 256) (e : Fin 1024) :
    taps x3 x4 a (ix2 r e)
      = gate (tapped (x4 (ix2 0 e)) (fun s => x3 (ix2 s e)) (fun s => a (ix2 ⟨16 - s.val + r.val, by omega⟩ e))) := by
  unfold gate tapped
  rw [← half]
  pointwise [taps, k0_pay4, View.ld]

/-- Whether a point is a sequence's first. -/
def start (i : grid0.Coords) : BitVec 1 :=
  let v6 : BitVec 32 := Scalar.remsi (BitVec.ofNat 32 (i 1).val) (Scalar.select (Scalar.cmpi .eq 4#32 0#32) 1#32 4#32)
  Scalar.cmpi .eq (Scalar.select (Scalar.andi (Scalar.xori (Scalar.cmpi .slt v6 0#32) (Scalar.cmpi .slt (Scalar.select (Scalar.cmpi .eq 4#32 0#32) 1#32 4#32) 0#32)) (Scalar.cmpi .ne v6 0#32)) (Scalar.addi v6 (Scalar.select (Scalar.cmpi .eq 4#32 0#32) 1#32 4#32)) v6) 0#32

/-- A sequence is four points long. -/
theorem start_eq : ∀ t : Fin cfg0.N, start (grid0.coords t) = if t.val % 4 = 0 then 1#1 else 0#1 := by decide +kernel

/-- The first strip's rows with the history before them. -/
def withHistory (i : grid0.Coords) (x1 : Vec Ideal S16x2048 .bf16) (v : Vec Ideal S256x2048 .bf16) : Vec Ideal S272x2048 .bf16 :=
  concatenate S272x2048 0 [⟨S16x2048, Scalar.select (start i) (broadcast S16x2048 (Scalar.ofBits (F := Ideal) .bf16 0x0000#16)) x1⟩, ⟨S256x2048, v⟩] concatenates_S16x2048_S256x2048_S272x2048_d0

/-- The first strip's products are those of the rows with the history before them. -/
theorem first_product (i : grid0.Coords) (x1 : Vec Ideal S16x2048 .bf16) (v : Vec Ideal S256x2048 .bf16) (w : Vec Ideal S2048x1024 .bf16) :
    k0_pay2 i x1 v w = k0_pay3 (withHistory i x1 v) w := rfl

/-- The rows with the history before them, at an index. -/
theorem withHistory_at (i : grid0.Coords) (x1 : Vec Ideal S16x2048 .bf16) (v : Vec Ideal S256x2048 .bf16) (p : Fin 272) (k : Fin 2048) :
    withHistory i x1 v (ix2 p k)
      = if h : p.val < 16 then (if start i = 1#1 then (0 : EReal) else x1 (ix2 ⟨p.val, h⟩ k)) else v (ix2 ⟨p.val - 16, by omega⟩ k) := by
  unfold withHistory
  pointwise [Scalar.select, Scalar.ofBits]
  by_cases h : start i = 1#1
  · have h' : start i = 1 := h
    simp only [if_pos h, if_pos h']
    rfl
  · have h' : ¬start i = 1 := h
    simp only [if_neg h, if_neg h']

/-- The row a tap reads at row r of a point's block: s rows above it, of the history when that lies above the block. -/
def above (i : grid0.Coords) (x0 : Vec Ideal S1024x2048 .bf16) (x1 : Vec Ideal S16x2048 .bf16) (r : Fin 1024) (s : Fin 4) (k : Fin 2048) : EReal :=
  if h : r.val < s.val then (if start i = 1#1 then (0 : EReal) else x1 (ix2 ⟨16 + r.val - s.val, by omega⟩ k)) else x0 (ix2 ⟨r.val - s.val, by omega⟩ k)

/-- A later strip's products, at an index. -/
theorem rowsProduct_at (x0 : Vec Ideal S1024x2048 .bf16) (o : ℕ) (inb : ∀ a, (![o, 0] : Fin 2 → ℕ) a + S272x2048.size a ≤ S1024x2048.size a)
    (w : Vec Ideal S2048x1024 .bf16) (p : Fin 272) (e : Fin 1024) (b : Fin 1024) (hb : b.val = o + p.val) :
    rowsProduct x0 ![o, 0] inb w (ix2 p e) = prod (K := 2048) (fun k => x0 (ix2 b k)) (fun k => w (ix2 k e)) := by
  have h : (fun k : Fin 2048 => (View.ld (Val := Elt Ideal) (e' := .bf16) x0 (Rect.unit (s := S1024x2048) ![o, 0] S272x2048.size inb) (ix2 p k) : EReal)) = fun k => x0 (ix2 b k) := by
    funext k
    have hi : (Rect.unit (s := S1024x2048) ![o, 0] S272x2048.size inb).idx (ix2 p k) = ix2 b k := by
      funext a
      refine Fin.ext ?_
      fin_cases a
      · show o + 1 * p.val = b.val; omega
      · show 0 + 1 * k.val = k.val; omega
    exact congrArg x0 hi
  rw [← h]
  exact product_at _ w p e

/-- A later strip's products, at the rows the taps read. -/
theorem later_at (i : grid0.Coords) (x0 : Vec Ideal S1024x2048 .bf16) (x1 : Vec Ideal S16x2048 .bf16) (w : Vec Ideal S2048x1024 .bf16)
    (r : Fin 1024) (s : Fin 4) (e : Fin 1024) (o : ℕ) (inb : ∀ a, (![o, 0] : Fin 2 → ℕ) a + S272x2048.size a ≤ S1024x2048.size a)
    (h0 : 0 < r.val / 256) (ho : o + 16 = 256 * (r.val / 256)) :
    rowsProduct x0 ![o, 0] inb w (ix2 ⟨16 - s.val + r.val % 256, by omega⟩ e) = prod (K := 2048) (above i x0 x1 r s) (fun k => w (ix2 k e)) := by
  rw [rowsProduct_at x0 o inb w _ e ⟨r.val - s.val, by omega⟩ (by dsimp only; omega)]
  have h : (fun k : Fin 2048 => (x0 (ix2 ⟨r.val - s.val, by omega⟩ k) : EReal)) = above i x0 x1 r s := by
    funext k
    unfold above
    rw [dif_neg (by omega)]
  rw [h]

/-- The first strip's products, at the rows the taps read. -/
theorem first_at (i : grid0.Coords) (x0 : Vec Ideal S1024x2048 .bf16) (x1 : Vec Ideal S16x2048 .bf16) (w : Vec Ideal S2048x1024 .bf16)
    (r : Fin 1024) (s : Fin 4) (e : Fin 1024) (h0 : r.val / 256 = 0) :
    products i x0 x1 w 0 (ix2 ⟨16 - s.val + r.val % 256, by omega⟩ e) = prod (K := 2048) (above i x0 x1 r s) (fun k => w (ix2 k e)) := by
  have h1 : products i x0 x1 w 0 = k0_pay3 (withHistory i x1 (View.ld (Val := Elt Ideal) (e' := .bf16) x0 (Rect.unit (s := S1024x2048) ![0, 0] S256x2048.size inb_S1024x2048_S256x2048_0_0))) w := rfl
  rw [h1, product_at]
  have h2 : (fun k : Fin 2048 => (withHistory i x1 (View.ld (Val := Elt Ideal) (e' := .bf16) x0 (Rect.unit (s := S1024x2048) ![0, 0] S256x2048.size inb_S1024x2048_S256x2048_0_0)) (ix2 ⟨16 - s.val + r.val % 256, by omega⟩ k) : EReal)) = above i x0 x1 r s := by
    funext k
    rw [withHistory_at]
    unfold above
    by_cases h : r.val < s.val
    · rw [dif_pos (show 16 - s.val + r.val % 256 < 16 by omega), dif_pos h]
      have h3 : (⟨16 - s.val + r.val % 256, by omega⟩ : Fin 16) = ⟨16 + r.val - s.val, by omega⟩ := Fin.ext (by dsimp only; omega)
      rw [h3]
    · rw [dif_neg (show ¬16 - s.val + r.val % 256 < 16 by omega), dif_neg h]
      have h3 : (Rect.unit (s := S1024x2048) ![0, 0] S256x2048.size inb_S1024x2048_S256x2048_0_0).idx (ix2 ⟨16 - s.val + r.val % 256 - 16, by omega⟩ k) = ix2 ⟨r.val - s.val, by omega⟩ k := by
        funext a
        refine Fin.ext ?_
        fin_cases a
        · show 0 + 1 * (16 - s.val + r.val % 256 - 16) = r.val - s.val; omega
        · show 0 + 1 * k.val = k.val; omega
      exact congrArg x0 h3
  rw [h2]

/-- The strips' products, at the rows the taps read. -/
theorem products_at (i : grid0.Coords) (x0 : Vec Ideal S1024x2048 .bf16) (x1 : Vec Ideal S16x2048 .bf16) (w : Vec Ideal S2048x1024 .bf16)
    (r : Fin 1024) (s : Fin 4) (e : Fin 1024) (j : Fin 4) (hj : j.val = r.val / 256) :
    products i x0 x1 w j (ix2 ⟨16 - s.val + r.val % 256, by omega⟩ e) = prod (K := 2048) (above i x0 x1 r s) (fun k => w (ix2 k e)) := by
  fin_cases j
  · exact first_at i x0 x1 w r s e hj.symm
  · exact later_at i x0 x1 w r s e 240 _ (by rw [← hj]; decide) (by rw [← hj]; rfl)
  · exact later_at i x0 x1 w r s e 496 _ (by rw [← hj]; decide) (by rw [← hj]; rfl)
  · exact later_at i x0 x1 w r s e 752 _ (by rw [← hj]; decide) (by rw [← hj]; rfl)

variable (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S1x2048x1024 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S2048x1024 .bf16) (harg8 : arg8.IsWhole) (arg9 : Memref sig .tc .vmem S272x1024 .f32) (harg9 : arg9.IsWhole) (arg10 : Memref sig .tc .vmem S272x1024 .f32) (harg10 : arg10.IsWhole) (arg11 : Memref sig .tc .vmem S272x1024 .f32) (harg11 : arg11.IsWhole) (arg12 : Memref sig .tc .vmem S272x1024 .f32) (harg12 : arg12.IsWhole)

/-- The block stored, at an index. -/
theorem block_at (x0 : Vec Ideal S1024x2048 .bf16) (x1 : Vec Ideal S16x2048 .bf16) (x3 : Vec Ideal S4x1024 .f32) (x4 : Vec Ideal S1x1024 .f32)
    (w : Vec Ideal S2048x1024 .bf16) (v : View sig .tc .vmem S1024x1024 .bf16) (r e : Fin 1024) :
    block i x0 x1 x3 x4 w (ix2 r e)
      = gate (tapped (x4 (ix2 0 e)) (fun s => x3 (ix2 s e)) (fun s => prod (K := 2048) (above i x0 x1 r s) (fun k => w (ix2 k e)))) := by
  have hr : r.val / 256 < 4 := by omega
  have h1 : block i x0 x1 x3 x4 w (ix2 r e) = taps x3 x4 (products i x0 x1 w ⟨r.val / 256, hr⟩) (ix2 ⟨r.val % 256, by omega⟩ e) :=
    strips_at (Val := Elt Ideal) (K := 1024) (N := 1024) v stripOff (fun _ => rfl) stripInb (fun q => taps x3 x4 (products i x0 x1 w q)) r e hr
  have h2 : (fun s : Fin 4 => (products i x0 x1 w ⟨r.val / 256, hr⟩ (ix2 ⟨16 - s.val + r.val % 256, by omega⟩ e) : EReal))
      = fun s => prod (K := 2048) (above i x0 x1 r s) (fun k => w (ix2 k e)) := by
    funext s
    exact products_at i x0 x1 w r s e ⟨r.val / 256, hr⟩ rfl
  rw [h1, taps_at, ← h2]

/-- A strip of the copy is a strip of the weights. -/
theorem strip (v : Vec Ideal S1x256x1024 .f32) (r : Fin 256) (e : Fin 1024) : k0_pay1 v (ix2 r e) = v (ix3 0 r e) := by
  pointwise [k0_pay1]

/-- The copy holds the block of the weights. -/
theorem copy_at (x0 : Vec Ideal S1024x2048 .bf16) (x1 : Vec Ideal S16x2048 .bf16) (x2 : Vec Ideal S1x2048x1024 .f32) (x3 : Vec Ideal S4x1024 .f32) (x4 : Vec Ideal S1x1024 .f32)
    (hc0 : cond0_0 i) (k : Fin 2048) (e : Fin 1024) :
    sout0_A_0 c i arg2 harg2 arg3 harg3 arg4 harg4 arg5 harg5 arg6 harg6 arg7 harg7 arg8 harg8 arg9 harg9 arg10 harg10 arg11 harg11 arg12 harg12 hc0 x0 x1 x2 x3 x4 (ix2 k e) = x2 (ix3 0 k e) := by
  have ht : k.val / 256 < k0_t1_loop.trips := by
    have : k0_t1_loop.trips = 8 := by decide +kernel
    omega
  rw [copy_first, copy_pieces]
  refine (strips_at arg8.view k0_off2 k0_off2_eq _ _ k e ht).trans ?_
  rw [View.readAt_eq_ld, harg4.read_unread]
  exact (strip _ _ e).trans (strip_at x2 (k0_off1 ⟨k.val / 256, ht⟩) k (k0_off1_eq _) _ e)

variable (m : (ℓ : Loc nD τ sig) → Buf (Elt Ideal) ℓ)

/-- The activations. -/
def aA (l : Fin 32768) (k : Fin 2048) : EReal := m ((c : Thread nD τ).loc main_arg0) (ix2 l k)

/-- The weights. -/
def wA (k : Fin 2048) (q : Fin 10304) : EReal := m ((c : Thread nD τ).loc main_arg1) (ix3 0 k q)

/-- The convolution's taps. -/
def cA (s : Fin 4) (q : Fin 6144) : EReal := m ((c : Thread nD τ).loc main_arg2) (ix2 s q)

/-- The convolution's bias. -/
def bA (q : Fin 6144) : EReal := m ((c : Thread nD τ).loc main_arg3) (ix1 q)

/-- The windows' block indices at a point. -/
theorem idx_all : ∀ t : Fin cfg0.N, win0_0.index t = ![t.val % 32, 0] ∧ win0_1.index t = ![64 * (t.val % 32) - 1, 0]
    ∧ win0_2.index t = ![0, 0, 4 + t.val / 32] ∧ win0_3.index t = ![0, t.val / 32] ∧ win0_4.index t = ![0, t.val / 32] := by decide +kernel

/-- The activations' block. -/
theorem blk0 (t : Fin cfg0.N) (r : Fin 1024) (k : Fin 2048) :
    iblk m c 0 t (ix2 r k) = aA c m ⟨1024 * (t.val % 32) + r.val, by omega⟩ k := by
  unfold aA
  blk_ext [iblk, V, idx_all t]

/-- The history's block. -/
theorem blk1 (t : Fin cfg0.N) (p : Fin 16) (k : Fin 2048) :
    iblk m c 1 t (ix2 p k) = aA c m ⟨16 * (64 * (t.val % 32) - 1) + p.val, by omega⟩ k := by
  unfold aA
  blk_ext [iblk, V, idx_all t]

/-- The weights' block. -/
theorem blk2 (t : Fin cfg0.N) (k : Fin 2048) (e : Fin 1024) :
    X0_2 m c t (ix3 0 k e) = wA c m k ⟨1024 * (4 + t.val / 32) + e.val, by have : t.val < 192 := t.isLt; omega⟩ := by
  unfold wA
  unfold X0_2
  unfold Pipeline.Window.fill
  rw [dif_pos (moved0_2 t _)]
  blk_ext [iblk, V, idx_all t]

/-- The taps' block. -/
theorem blk3 (t : Fin cfg0.N) (s : Fin 4) (e : Fin 1024) :
    iblk m c 3 t (ix2 s e) = cA c m s ⟨1024 * (t.val / 32) + e.val, by have : t.val < 192 := t.isLt; omega⟩ := by
  unfold cA
  blk_ext [iblk, V, idx_all t]

/-- The bias row, at an index. -/
theorem bias_row (q : Fin 6144) : V m c main_v0 (ix2 0 q) = bA c m q := by
  unfold bA V
  simp only [hostOps0, List.flatten_cons, List.flatten_nil, List.append_nil, List.cons_append, List.nil_append]
  entry_read
  pointwise

/-- The bias row's block. -/
theorem blk4 (t : Fin cfg0.N) (e : Fin 1024) :
    iblk m c 4 t (ix2 0 e) = bA c m ⟨1024 * (t.val / 32) + e.val, by have : t.val < 192 := t.isLt; omega⟩ := by
  rw [← bias_row]
  blk_ext [iblk, idx_all t]

/-- What the copy of the weights holds after a point. -/
theorem copy_holds (k : Fin 2048) (e : Fin 1024) (n : ℕ) (hn : n < cfg0.N) :
    (outsAt0 m c n hn).2 (ix2 k e) = wA c m k ⟨1024 * (4 + n / 32 % 6) + e.val, by omega⟩ := by
  refine carried (fun n hn => (outsAt0 m c n hn).2 (ix2 k e)) (fun b => wA c m k ⟨1024 * (4 + b % 6) + e.val, by omega⟩) 32 (by decide)
    (fun n hn h0 => ?_) (fun n hn h0 => ?_) n hn
  · have hN : n < 192 := hn
    rw [outsAt0_A m c ⟨n, hn⟩ h0]
    dsimp only
    rw [copy_at, blk2]
    exact congrArg (wA c m k) (Fin.ext (by dsimp only; omega))
  · rw [outsAt0_B m c ⟨n + 1, hn⟩ h0]
    rfl

/-- A row of the projection, s rows above a row of its sequence; zero above the sequence's first. -/
def uA (l : Fin 32768) (s : Fin 4) (q : Fin 6144) : EReal :=
  if l.val % 4096 < s.val then 0 else prod (aA c m ⟨l.val - s.val, by omega⟩) (fun k => wA c m k ⟨4096 + q.val, by omega⟩)

/-- The products the taps read at a point. -/
theorem above_at (t : Fin cfg0.N) (r : Fin 1024) (s : Fin 4) (l : Fin 32768) (hl : l.val = 1024 * (t.val % 32) + r.val) (q : Fin 6144) :
    prod (K := 2048) (above (grid0.coords t) (iblk m c 0 t) (iblk m c 1 t) r s) (fun k => wA c m k ⟨4096 + q.val, by omega⟩) = uA c m l s q := by
  unfold uA
  by_cases h : l.val % 4096 < s.val
  · rw [if_pos h]
    refine Finset.sum_eq_zero fun k _ => ?_
    unfold above
    rw [dif_pos (by omega), if_pos (by rw [start_eq, if_pos (by omega)]), zero_mul]
  · rw [if_neg h]
    refine congrArg (fun x => prod x fun k => wA c m k ⟨4096 + q.val, by omega⟩) (funext fun k => ?_)
    unfold above
    by_cases hr : r.val < s.val
    · rw [dif_pos hr, if_neg (by rw [start_eq, if_neg (by omega)]; decide), blk1]
      exact congrArg (fun x => aA c m x k) (Fin.ext (by dsimp only; omega))
    · rw [dif_neg hr, blk0]
      exact congrArg (fun x => aA c m x k) (Fin.ext (by dsimp only; omega))

/-- What a point stores. -/
theorem out_at (t : Fin cfg0.N) (r e : Fin 1024) (l : Fin 32768) (hl : l.val = 1024 * (t.val % 32) + r.val) (q : Fin 6144) (hq : q.val = 1024 * (t.val / 32) + e.val) :
    (outsAt0 m c t.val t.isLt).1 (ix2 r e) = gate (tapped (bA c m q) (fun s => cA c m s q) (fun s => uA c m l s q)) := by
  have hc : ∀ k, (outsAt0 m c t.val t.isLt).2 (ix2 k e) = wA c m k ⟨4096 + q.val, by omega⟩ := fun k =>
    (copy_holds c m k e t.val t.isLt).trans (congrArg (wA c m k) (Fin.ext (by have : t.val < 192 := t.isLt; dsimp only; omega)))
  have hb : iblk m c 4 t (ix2 0 e) = bA c m q := (blk4 c m t e).trans (congrArg (bA c m) (Fin.ext hq.symm))
  have ht : ∀ s, iblk m c 3 t (ix2 s e) = cA c m s q := fun s => (blk3 c m t s e).trans (congrArg (cA c m s) (Fin.ext hq.symm))
  have hblock : ∀ (w : Vec Ideal S2048x1024 .bf16) (v : View sig .tc .vmem S1024x1024 .bf16), (∀ k, w (ix2 k e) = wA c m k ⟨4096 + q.val, by omega⟩) →
      block (grid0.coords t) (iblk m c 0 t) (iblk m c 1 t) (iblk m c 3 t) (iblk m c 4 t) w (ix2 r e)
        = gate (tapped (bA c m q) (fun s => cA c m s q) (fun s => uA c m l s q)) := by
    intro w v hw
    rw [block_at _ _ _ _ _ w v]
    simp only [hb, ht, hw, above_at c m t r _ l hl q]
  by_cases h0 : t.val % 32 = 0
  · rw [outsAt0_A m c t h0] at hc ⊢
    dsimp only at hc ⊢
    rw [out_first]
    exact hblock _ (ms0_5 t).view hc
  · rw [outsAt0_B m c t h0] at hc ⊢
    dsimp only at hc ⊢
    unfold sout0_B_0 at hc
    rw [out_later]
    exact hblock _ (ms0_5 t).view hc

/-- The result array. -/
theorem array_at (l : Fin 32768) (q : Fin 6144) :
    Value.G5 m c (ix2 l q) = gate (tapped (bA c m q) (fun s => cA c m s q) (fun s => uA c m l s q)) := by
  have hN : l.val / 1024 + 32 * (q.val / 1024) < cfg0.N := by
    show _ < 192
    omega
  have hp : Value.pt5Of (ix2 l q) = l.val / 1024 + 32 * (q.val / 1024) := by
    show 1 * (l.val / 1024 - 0) + 32 * (q.val / 1024 - 0) = _
    omega
  have hl : Value.loc5Of (ix2 l q) = ix2 ⟨l.val % 1024, by omega⟩ ⟨q.val % 1024, by omega⟩ := by
    funext a
    match a with
    | ⟨0, _⟩ => rfl
    | ⟨1, _⟩ => rfl
  unfold Value.G5
  rw [dif_pos (by rw [hp]; exact hN), ← Value.outsAt0_sweep m c _ (by rw [hp]; exact hN), hl]
  have key := out_at c m ⟨l.val / 1024 + 32 * (q.val / 1024), hN⟩ ⟨l.val % 1024, by omega⟩ ⟨q.val % 1024, by omega⟩ l (by dsimp only; omega) q (by dsimp only; omega)
  refine Eq.trans ?_ key
  simp only [hp]

end Cert.Conv

end
-- ==== Proof.RefConv.lean ====
module

public import proofs.«01_k».proof.Proof.Gen.Reference4Ideal.Run
public import proofs.«01_k».proof.Proof.Product
/-! The reference of the projection with the causal convolution, read at an index. -/

@[expose] public section

open Idealize Idealize.SL Idealize.ShloMosaic Idealize.ShloMosaic.TcCoe Idealize.ShloMosaic.Tactic Cert.Product Cert.Reference4Ideal Cert.Reference4Ideal.Gen

set_option maxRecDepth 16384

noncomputable section

namespace Cert.RefConv

variable (a : FVec Ideal S32768x2048 .bf16) (w : FVec Ideal S1x2048x10304 .f32) (cw : FVec Ideal S4x6144 .f32) (cb : FVec Ideal S6144 .f32)

/-- The projection with three zero rows before each sequence. -/
def padded : FVec Ideal S8x4099x6144 .f32 :=
  pad S8x4099x6144 ![0, 3, 0] ![0, 0, 0] ![0, 0, 0] (extractStridedSlice S8x4096x6144 ![0, 0, 4096] (Host.dotGeneral dot_S8x4096x2048_S2048x10304_S8x4096x10304_2_0_01_1_n_n none (shapeCast _ (extf .f32 a bitsLt_bf16_f32) shapeCasts_S32768x2048_S8x4096x2048) (shapeCast _ w shapeCasts_S1x2048x10304_S2048x10304)) slices_S8x4096x10304_S8x4096x6144_0_0_4096) (sitofp .f32 (constantI S_ 32 0#32)) pads_S8x4096x6144_S8x4099x6144_000_300_000 h_S_

/-- The padded projection at an index. -/
theorem padded_at (b : Fin 8) (p : Fin 4099) (q : Fin 6144) :
    padded a w (ix3 b p q)
      = if h : p.val < 3 then (0 : EReal)
        else prod (K := 2048) (fun k => a (ix2 ⟨4096 * b.val + (p.val - 3), by omega⟩ k)) (fun k => w (ix3 0 k ⟨4096 + q.val, by omega⟩)) := by
  unfold prod
  pointwise [padded]
  by_cases h : p.val < 3
  · rw [dif_neg (by omega), dif_pos h]
    exact sitofp_zero
  · rw [dif_pos ⟨by omega, by omega⟩, dif_neg h]
    refine Finset.sum_congr rfl fun k _ => ?_
    congr 4
    omega

/-- The convolution's four taps and the bias. -/
def mixed : FVec Ideal S8x4096x6144 .f32 :=
  addf (addf (addf (addf (mulf (broadcastInDim S8x4096x6144 ![0, 1, 2] bcast_S1x1x6144_S8x4096x6144_0_1_2 (broadcastInDim S1x1x6144 ![2] bcast_S6144_S1x1x6144_2 (shapeCast _ (extractStridedSlice S1x6144 ![0, 0] cw slices_S4x6144_S1x6144_0_0) shapeCasts_S1x6144_S6144))) (extractStridedSlice S8x4096x6144 ![0, 0, 0] (padded a w) slices_S8x4099x6144_S8x4096x6144_0_0_0)) (mulf (broadcastInDim S8x4096x6144 ![0, 1, 2] bcast_S1x1x6144_S8x4096x6144_0_1_2 (broadcastInDim S1x1x6144 ![2] bcast_S6144_S1x1x6144_2 (shapeCast _ (extractStridedSlice S1x6144 ![1, 0] cw slices_S4x6144_S1x6144_1_0) shapeCasts_S1x6144_S6144))) (extractStridedSlice S8x4096x6144 ![0, 1, 0] (padded a w) slices_S8x4099x6144_S8x4096x6144_0_1_0))) (mulf (broadcastInDim S8x4096x6144 ![0, 1, 2] bcast_S1x1x6144_S8x4096x6144_0_1_2 (broadcastInDim S1x1x6144 ![2] bcast_S6144_S1x1x6144_2 (shapeCast _ (extractStridedSlice S1x6144 ![2, 0] cw slices_S4x6144_S1x6144_2_0) shapeCasts_S1x6144_S6144))) (extractStridedSlice S8x4096x6144 ![0, 2, 0] (padded a w) slices_S8x4099x6144_S8x4096x6144_0_2_0))) (mulf (broadcastInDim S8x4096x6144 ![0, 1, 2] bcast_S1x1x6144_S8x4096x6144_0_1_2 (broadcastInDim S1x1x6144 ![2] bcast_S6144_S1x1x6144_2 (shapeCast _ (extractStridedSlice S1x6144 ![3, 0] cw slices_S4x6144_S1x6144_3_0) shapeCasts_S1x6144_S6144))) (extractStridedSlice S8x4096x6144 ![0, 3, 0] (padded a w) slices_S8x4099x6144_S8x4096x6144_0_3_0))) (broadcastInDim S8x4096x6144 ![0, 1, 2] bcast_S1x1x6144_S8x4096x6144_0_1_2 (broadcastInDim S1x1x6144 ![2] bcast_S6144_S1x1x6144_2 cb))

/-- A row of the projection, s rows above a row of its sequence; zero above the sequence's first. -/
def rowsAbove (l : Fin 32768) (s : Fin 4) (q : Fin 6144) : EReal :=
  if l.val % 4096 < s.val then 0 else prod (K := 2048) (fun k => a (ix2 ⟨l.val - s.val, by omega⟩ k)) (fun k => w (ix3 0 k ⟨4096 + q.val, by omega⟩))

/-- The padded projection, at the rows the taps read. -/
theorem padded_above (l : Fin 32768) (s : Fin 4) (q : Fin 6144) (p : Fin 4099) (hp : p.val + s.val = l.val % 4096 + 3) :
    padded a w (ix3 ⟨l.val / 4096, by omega⟩ p q) = rowsAbove a w l s q := by
  rw [padded_at]
  unfold rowsAbove
  by_cases h : l.val % 4096 < s.val
  · rw [dif_pos (by omega), if_pos h]
  · rw [dif_neg (by omega), if_neg h]
    have hl : (⟨4096 * (l.val / 4096) + (p.val - 3), by omega⟩ : Fin 32768) = ⟨l.val - s.val, by omega⟩ := Fin.ext (by dsimp only; omega)
    rw [hl]

/-- The taps and the bias at an index. -/
theorem mixed_at (l : Fin 32768) (q : Fin 6144) :
    mixed a w cw cb (ix3 ⟨l.val / 4096, by omega⟩ ⟨l.val % 4096, by omega⟩ q)
      = cw (ix2 0 q) * rowsAbove a w l 3 q + cw (ix2 1 q) * rowsAbove a w l 2 q + cw (ix2 2 q) * rowsAbove a w l 1 q
        + cw (ix2 3 q) * rowsAbove a w l 0 q + (cb (ix1 q) : EReal) := by
  rw [← padded_above a w l 3 q ⟨l.val % 4096, by omega⟩ rfl, ← padded_above a w l 2 q ⟨1 + l.val % 4096, by omega⟩ (by simp only [Fin.val_two]; omega),
    ← padded_above a w l 1 q ⟨2 + l.val % 4096, by omega⟩ (by simp only [Fin.val_one]; omega), ← padded_above a w l 0 q ⟨3 + l.val % 4096, by omega⟩ (by simp only [Fin.val_zero]; omega)]
  pointwise [mixed]

/-- The reference at an index. -/
theorem conv_at (l : Fin 32768) (q : Fin 6144) :
    (truncf .bf16 (shapeCast _ (mulf (mixed a w cw cb) (Host.divf (broadcastInDim S8x4096x6144 ![] bcast_S_S8x4096x6144 (constant S_ .f32 0x3F800000#32)) (addf (broadcastInDim S8x4096x6144 ![] bcast_S_S8x4096x6144 (constant S_ .f32 0x3F800000#32)) (Host.exp (Host.negf (mixed a w cw cb)))))) shapeCasts_S8x4096x6144_S32768x6144) bitsLt_bf16_f32 : FVec Ideal S32768x6144 .bf16) (ix2 l q)
      = silu (cw (ix2 0 q) * rowsAbove a w l 3 q + cw (ix2 1 q) * rowsAbove a w l 2 q + cw (ix2 2 q) * rowsAbove a w l 1 q
        + cw (ix2 3 q) * rowsAbove a w l 0 q + (cb (ix1 q) : EReal)) := by
  rw [← mixed_at]
  unfold silu
  rw [← Ideal.ofBits_one_f32]
  pointwise

end Cert.RefConv

end
-- ==== Proof.FiniteArgs.lean ====
module

public import proofs.«01_k».proof.Proof.Product
public import proofs.«01_k».proof.Pre_finite3
public import proofs.«01_k».proof.Pre_finite4
public import proofs.«01_k».proof.Pre_finite7
public import Idealize.ShloMosaic.Lib.ReduceAll
public import Idealize.ShloMosaic.Lib.Affine
/-! What the preconditions of the two activated projections and of the mLSTM mixer say of an argument's element. -/

@[expose] public section

open Idealize Idealize.ShloMosaic Cert.Product

noncomputable section

namespace Cert.FiniteArgs

/-- The side conditions of the gate's precondition. -/
theorem facts3 : Cert.Pre_finite3.Facts := ⟨by decide, by decide, by decide, by decide, by decide⟩

open Cert.Pre_finite3 in
/-- The activations and the weights of the gate's projection are finite. -/
theorem finite3 [hf : Cert.Pre_finite3.Facts] (a : FVec Ideal S32768x2048 .bf16) (w : FVec Ideal S1x2048x10304 .f32)
    (h : fn (F := Ideal) a w = fun _ => 1#1) : (∀ l k, Finite (a (ix2 l k))) ∧ ∀ k q, Finite (w (ix3 0 k q)) := by
  have h1 := congrFun h ix0
  dsimp only [fn] at h1
  obtain ⟨h2, h3⟩ := IntOp.andi_eq_one.mp h1
  refine ⟨fun l k => finite_of_abs ?_, fun k q => finite_of_abs ?_⟩
  · have h4 := Host.reduce_andi_all _ _ _ _ _ h2 (ix2 l k)
    rw [← inf16]
    exact h4
  · have h4 := Host.reduce_andi_all _ _ _ _ _ h3 (ix3 0 k q)
    rw [← inf32]
    exact h4

/-- The side conditions of the convolved projection's precondition. -/
theorem facts4 : Cert.Pre_finite4.Facts := ⟨by decide, by decide, by decide, by decide, by decide, by decide, by decide, by decide, by decide⟩

open Cert.Pre_finite4 in
/-- The activations, the weights, the taps and the bias of the convolved projection are finite. -/
theorem finite4 [hf : Cert.Pre_finite4.Facts] (a : FVec Ideal S32768x2048 .bf16) (w : FVec Ideal S1x2048x10304 .f32)
    (cw : FVec Ideal S4x6144 .f32) (cb : FVec Ideal S6144 .f32) (h : fn (F := Ideal) a w cw cb = fun _ => 1#1) :
    (∀ l k, Finite (a (ix2 l k))) ∧ (∀ k q, Finite (w (ix3 0 k q))) ∧ (∀ s q, Finite (cw (ix2 s q))) ∧ ∀ q, Finite (cb (ix1 q)) := by
  have h1 := congrFun h ix0
  dsimp only [fn, fn_part1] at h1
  obtain ⟨h2, h5⟩ := IntOp.andi_eq_one.mp h1
  obtain ⟨h2, h4⟩ := IntOp.andi_eq_one.mp h2
  obtain ⟨h2, h3⟩ := IntOp.andi_eq_one.mp h2
  refine ⟨fun l k => finite_of_abs ?_, fun k q => finite_of_abs ?_, fun s q => finite_of_abs ?_, fun q => finite_of_abs ?_⟩
  · have e := Host.reduce_andi_all _ _ _ _ _ h2 (ix2 l k)
    rw [← inf16]
    exact e
  · have e := Host.reduce_andi_all _ _ _ _ _ h3 (ix3 0 k q)
    rw [← inf32]
    exact e
  · have e := Host.reduce_andi_all _ _ _ _ _ h4 (ix2 s q)
    rw [← inf32]
    exact e
  · have e := Host.reduce_andi_all _ _ _ _ _ h5 (ix1 q)
    rw [← inf32]
    exact e

/-- The side conditions of the mLSTM mixer's precondition. -/
theorem facts7 : Cert.Pre_finite7.Facts := ⟨by decide, by decide, by decide, by decide, by decide⟩

open Cert.Pre_finite7 in
/-- The projections and the gates of the mLSTM mixer are finite. -/
theorem finite7 [hf : Cert.Pre_finite7.Facts] (a : FVec Ideal S8x4096x6144 .bf16) (g : FVec Ideal S8x4096x128 .f32) (w : FVec Ideal S2048 .f32)
    (h : fn (F := Ideal) a g w = fun _ => 1#1) : (∀ b l k, Finite (a (ix3 b l k))) ∧ ∀ b l k, Finite (g (ix3 b l k)) := by
  have h1 := congrFun h ix0
  dsimp only [fn] at h1
  obtain ⟨h2, h3⟩ := IntOp.andi_eq_one.mp h1
  refine ⟨fun b l k => finite_of_abs ?_, fun b l k => finite_of_abs ?_⟩
  · have h4 := Host.reduce_andi_all _ _ _ _ _ h2 (ix3 b l k)
    rw [← inf16]
    exact h4
  · have h4 := Host.reduce_andi_all _ _ _ _ _ h3 (ix3 b l k)
    rw [← inf32]
    exact h4

end Cert.FiniteArgs

end
-- ==== Proof.MlHead.lean ====
module

public import proofs.«01_k».proof.Proof.Gen.Kernel7Ideal.Value
public import proofs.«01_k».proof.Proof.Pieces
public import Idealize.ShloMosaic.Lib.Pointwise
/-! One head of the mLSTM kernel's chunk, as a function of the head's number, and what a grid point leaves in its result
and its three carried buffers, head by head. The printed body writes the four heads out one after the other; each is an
instance of these functions. -/

@[expose] public section

open Idealize Idealize.SL Idealize.ShloMosaic Idealize.ShloMosaic.TcCoe Cert.Kernel7Ideal Cert.Kernel7Ideal.Gen

set_option maxRecDepth 16384

noncomputable section

namespace Cert.Ml

open Cert.Ssd (groupPieces groupPieces_at ground readStores readStores_eq readCov_ground)

variable {F : FTy → Type} [FloatOps F]

/-- A column of the chunk's gates exists. -/
theorem slCol (h : ℕ) (hh : h < 128) : S256x128.Slices ![0, h] S256x1 :=
  ⟨rfl, by intro a; fin_cases a <;> simp <;> omega⟩

/-- A row of the chunk's transposed gates exists. -/
theorem slRow (h : ℕ) (hh : h < 128) : S128x256.Slices ![h, 0] S1x256 :=
  ⟨rfl, by intro a; fin_cases a <;> simp <;> omega⟩

/-- A head's query or key lanes of the projection's block. -/
theorem inbQ (o : ℕ) (ho : o + 256 ≤ 6144) : ∀ a, (![0, 0, o] : Fin 3 → ℕ) a + S1x256x256.size a ≤ S1x256x6144.size a := by
  intro a; fin_cases a <;> simp <;> omega

/-- A head's value or gate lanes of the projection's block. -/
theorem inbV (o : ℕ) (ho : o + 512 ≤ 6144) : ∀ a, (![0, 0, o] : Fin 3 → ℕ) a + S1x256x512.size a ≤ S1x256x6144.size a := by
  intro a; fin_cases a <;> simp <;> omega

/-- A head's lanes of the result's block. -/
theorem inbO (h : ℕ) (hh : h < 4) : ∀ a, (![0, 0, 512 * h] : Fin 3 → ℕ) a + S1x256x512.size a ≤ S1x256x2048.size a := by
  intro a; fin_cases a <;> simp <;> omega

/-- A head's lanes of the norm weights. -/
theorem inbW (h : ℕ) (hh : h < 4) : ∀ a, (![0, 512 * h] : Fin 2 → ℕ) a + S1x512.size a ≤ S1x2048.size a := by
  intro a; fin_cases a <;> simp <;> omega

/-- A head's plane of the matrix state. -/
theorem inbC (h : ℕ) (hh : h < 4) : ∀ a, (![h, 0, 0] : Fin 3 → ℕ) a + S1x256x512.size a ≤ S4x256x512.size a := by
  intro a; fin_cases a <;> simp <;> omega

/-- A head's plane of the normaliser state. -/
theorem inbN (h : ℕ) (hh : h < 4) : ∀ a, (![h, 0, 0] : Fin 3 → ℕ) a + S1x1x256.size a ≤ S4x1x256.size a := by
  intro a; fin_cases a <;> simp <;> omega

/-- A head's plane of the stabiliser. -/
theorem inbM (h : ℕ) (hh : h < 4) : ∀ a, (![h, 0, 0] : Fin 3 → ℕ) a + S1x8x128.size a ≤ S4x8x128.size a := by
  intro a; fin_cases a <;> simp <;> omega

/-- A head's stabiliser in its plane. -/
theorem inbM1 (h : ℕ) (hh : h < 4) : ∀ a, (![h, 0, 0] : Fin 3 → ℕ) a + S1x1x1.size a ≤ S4x8x128.size a := by
  intro a; fin_cases a <;> simp <;> omega

/-- The chunk's gates. -/
abbrev gts (x1 : Vec F S1x256x128 .f32) : Vec F S1x256x128 .f32 :=
  View.ld x1 (Rect.unit ![0, 0, 0] ![1, 256, 128] inb_S1x256x128_S1x256x128_0_0_0)

/-- A head's input gates, down the chunk. -/
def icol (x1 : Vec F S1x256x128 .f32) (h : ℕ) (hh : h < 4) : FVec F S256x1 .f32 :=
  extractStridedSlice S256x1 ![0, h] (k0_pay7 (gts x1)) (slCol h (by omega))

/-- A head's summed log forget gates, down the chunk. -/
def bcol (x1 : Vec F S1x256x128 .f32) (h : ℕ) (hh : h < 4) : FVec F S256x1 .f32 :=
  extractStridedSlice S256x1 ![0, 4 + h] (k0_pay8 (gts x1)) (slCol (4 + h) (by omega))

/-- A head's input gates, along the chunk. -/
def irow (x1 : Vec F S1x256x128 .f32) (h : ℕ) (hh : h < 4) : FVec F S1x256 .f32 :=
  extractStridedSlice S1x256 ![h, 0] (k0_pay9 (gts x1)) (slRow h (by omega))

/-- A head's summed log forget gates, along the chunk. -/
def brow (x1 : Vec F S1x256x128 .f32) (h : ℕ) (hh : h < 4) : FVec F S1x256 .f32 :=
  extractStridedSlice S1x256 ![4 + h, 0] (k0_pay10 (gts x1)) (slRow (4 + h) (by omega))

/-- A head's queries. -/
def qh (x0 : Vec F S1x256x6144 .bf16) (h : ℕ) (hh : h < 4) : FVec F S256x256 .bf16 :=
  k0_pay11 (View.ld x0 (Rect.unit ![0, 0, 256 * h] S1x256x256.size (inbQ _ (by omega))))

/-- A head's keys. -/
def kh (x0 : Vec F S1x256x6144 .bf16) (h : ℕ) (hh : h < 4) : FVec F S256x256 .bf16 :=
  k0_pay12 (View.ld x0 (Rect.unit ![0, 0, 1024 + 256 * h] S1x256x256.size (inbQ _ (by omega))))

/-- A head's values. -/
def vh (x0 : Vec F S1x256x6144 .bf16) (h : ℕ) (hh : h < 4) : FVec F S256x512 .bf16 :=
  k0_pay13 (View.ld x0 (Rect.unit ![0, 0, 2048 + 512 * h] S1x256x512.size (inbV _ (by omega))))

/-- A head's output gates. -/
def oh (x0 : Vec F S1x256x6144 .bf16) (h : ℕ) (hh : h < 4) : FVec F S256x512 .bf16 :=
  k0_pay14 (View.ld x0 (Rect.unit ![0, 0, 4096 + 512 * h] S1x256x512.size (inbV _ (by omega))))

/-- A head's stabiliser after the chunk. -/
def mN (x1 : Vec F S1x256x128 .f32) (h : ℕ) (hh : h < 4) (m0 : Vec F S1x1x1 .f32) : FVec F S1x1 .f32 :=
  k0_pay33 (icol x1 h hh) (bcol x1 h hh) (k0_pay19 m0)

/-- A head's stabiliser after the chunk, over its plane. -/
def mV (x1 : Vec F S1x256x128 .f32) (h : ℕ) (hh : h < 4) (m0 : Vec F S1x1x1 .f32) : FVec F S1x8x128 .f32 :=
  k0_pay40 (mN x1 h hh m0)

/-- A head's normaliser after the chunk. -/
def nV (x0 : Vec F S1x256x6144 .bf16) (x1 : Vec F S1x256x128 .f32) (h : ℕ) (hh : h < 4) (m0 : Vec F S1x1x1 .f32) (n0 : Vec F S1x1x256 .f32) :
    FVec F S1x1x256 .f32 :=
  k0_pay39 (k0_pay19 m0) (k0_pay21 n0) (k0_pay31 (bcol x1 h hh)) (k0_pay32 (icol x1 h hh) (bcol x1 h hh)) (mN x1 h hh m0)
    (k0_pay34 (kh x0 h hh)) (k0_pay35 (icol x1 h hh) (bcol x1 h hh) (k0_pay19 m0))

/-- A head's matrix state after the chunk. -/
def cV (x0 : Vec F S1x256x6144 .bf16) (x1 : Vec F S1x256x128 .f32) (h : ℕ) (hh : h < 4) (m0 : Vec F S1x1x1 .f32) (c0 : Vec F S1x256x512 .f32) :
    FVec F S1x256x512 .f32 :=
  k0_pay38 (vh x0 h hh) (k0_pay19 m0) (k0_pay20 c0) (k0_pay31 (bcol x1 h hh)) (k0_pay32 (icol x1 h hh) (bcol x1 h hh)) (mN x1 h hh m0)
    (k0_pay34 (kh x0 h hh)) (k0_pay35 (icol x1 h hh) (bcol x1 h hh) (k0_pay19 m0))

/-- A head's result. -/
def oV (x0 : Vec F S1x256x6144 .bf16) (x1 : Vec F S1x256x128 .f32) (x2 : Vec F S1x2048 .f32) (h : ℕ) (hh : h < 4) (m0 : Vec F S1x1x1 .f32)
    (n0 : Vec F S1x1x256 .f32) (c0 : Vec F S1x256x512 .f32) : FVec F S1x256x512 .bf16 :=
  k0_pay30 (oh x0 h hh) (k0_pay24 k0_pay6 (bcol x1 h hh) (irow x1 h hh) (brow x1 h hh) m0)
    (k0_pay26 k0_pay6 (bcol x1 h hh) (irow x1 h hh) (brow x1 h hh) m0)
    (k0_pay27 k0_pay6 (qh x0 h hh) (kh x0 h hh) (vh x0 h hh) (bcol x1 h hh) (irow x1 h hh) (brow x1 h hh) m0 c0)
    (k0_pay28 (qh x0 h hh) n0)
    (k0_pay29 k0_pay6 (qh x0 h hh) (kh x0 h hh) (bcol x1 h hh) (irow x1 h hh) (brow x1 h hh) m0)
    (View.ld x2 (Rect.unit ![0, 512 * h] S1x512.size (inbW h hh)))

/-- A head's plane of the matrix state. -/
abbrev rC (h : ℕ) (hh : h < 4) : Rect S4x256x512 := Rect.unit ![h, 0, 0] S1x256x512.size (inbC h hh)

/-- A head's plane of the normaliser state. -/
abbrev rN (h : ℕ) (hh : h < 4) : Rect S4x1x256 := Rect.unit ![h, 0, 0] S1x1x256.size (inbN h hh)

/-- A head's plane of the stabiliser. -/
abbrev rM (h : ℕ) (hh : h < 4) : Rect S4x8x128 := Rect.unit ![h, 0, 0] S1x8x128.size (inbM h hh)

/-- A head's stabiliser in its plane. -/
abbrev rM1 (h : ℕ) (hh : h < 4) : Rect S4x8x128 := Rect.unit ![h, 0, 0] S1x1x1.size (inbM1 h hh)

/-- A head's lanes of the result. -/
abbrev rO (h : ℕ) (hh : h < 4) : Rect S1x256x2048 := Rect.unit ![0, 0, 512 * h] S1x256x512.size (inbO h hh)

variable (x0 : Vec F S1x256x6144 .bf16) (x1 : Vec F S1x256x128 .f32) (x2 : Vec F S1x2048 .f32)

/-- The store of a head's stabiliser. -/
def mPiece (h : ℕ) (hh : h < 4) (m0 : Vec F S1x1x1 .f32) : View.Piece (Elt F) S4x8x128 .f32 := ⟨rM h hh, mV x1 h hh m0⟩

/-- The store of a head's normaliser. -/
def nPiece (h : ℕ) (hh : h < 4) (m0 : Vec F S1x1x1 .f32) (n0 : Vec F S1x1x256 .f32) : View.Piece (Elt F) S4x1x256 .f32 :=
  ⟨rN h hh, nV x0 x1 h hh m0 n0⟩

/-- The store of a head's matrix state. -/
def cPiece (h : ℕ) (hh : h < 4) (m0 : Vec F S1x1x1 .f32) (c0 : Vec F S1x256x512 .f32) : View.Piece (Elt F) S4x256x512 .f32 :=
  ⟨rC h hh, cV x0 x1 h hh m0 c0⟩

/-- The store of a head's result. -/
def oPiece (h : ℕ) (hh : h < 4) (m0 : Vec F S1x1x1 .f32) (n0 : Vec F S1x1x256 .f32) (c0 : Vec F S1x256x512 .f32) :
    View.Piece (Elt F) S1x256x2048 .bf16 :=
  ⟨rO h hh, oV x0 x1 x2 h hh m0 n0 c0⟩

/-- A first chunk's stores of the stabiliser: each head's is read back after the zeros and the heads before. -/
def fM (v : View sig .tc .vmem S4x8x128 .f32) : ℕ → List (View.Piece (Elt F) S4x8x128 .f32) :=
  readStores v (ground ![0, 0, 0] inb_S4x8x128_S4x8x128_0_0_0 k0_pay5) rM1 (mPiece x1)

/-- What a first chunk's head reads of the stabiliser. -/
def fM0 (v : View sig .tc .vmem S4x8x128 .f32) (h : ℕ) (hh : h < 4) : Vec F S1x1x1 .f32 :=
  v.readCov (fM x1 v h) (rM1 h hh).toLoadRect

/-- A first chunk's stores of the normaliser. -/
def fN (vm : View sig .tc .vmem S4x8x128 .f32) (v : View sig .tc .vmem S4x1x256 .f32) : ℕ → List (View.Piece (Elt F) S4x1x256 .f32) :=
  readStores v (ground ![0, 0, 0] inb_S4x1x256_S4x1x256_0_0_0 k0_pay4) rN fun h hh => nPiece x0 x1 h hh (fM0 x1 vm h hh)

/-- A first chunk's stores of the matrix state. -/
def fC (vm : View sig .tc .vmem S4x8x128 .f32) (v : View sig .tc .vmem S4x256x512 .f32) : ℕ → List (View.Piece (Elt F) S4x256x512 .f32) :=
  readStores v (ground ![0, 0, 0] inb_S4x256x512_S4x256x512_0_0_0 k0_pay3) rC fun h hh => cPiece x0 x1 h hh (fM0 x1 vm h hh)

/-- A first chunk's stores of the result. -/
def fO (vm : View sig .tc .vmem S4x8x128 .f32) (vn : View sig .tc .vmem S4x1x256 .f32) (vc : View sig .tc .vmem S4x256x512 .f32)
    (h : ℕ) (hh : h < 4) : View.Piece (Elt F) S1x256x2048 .bf16 :=
  oPiece x0 x1 x2 h hh (fM0 x1 vm h hh) (vn.readCov (fN x0 x1 vm vn h) (rN h hh).toLoadRect) (vc.readCov (fC x0 x1 vm vc h) (rC h hh).toLoadRect)

section Opened

variable (c : Dev nD) (i : grid0.Coords) (arg2 : Memref sig .tc .vmem S1x256x6144 .bf16) (harg2 : arg2.IsWhole) (arg3 : Memref sig .tc .vmem S1x256x128 .f32) (harg3 : arg3.IsWhole) (arg4 : Memref sig .tc .vmem S1x2048 .f32) (harg4 : arg4.IsWhole) (arg5 : Memref sig .tc .vmem S1x256x2048 .bf16) (harg5 : arg5.IsWhole) (arg6 : Memref sig .tc .vmem S4x256x512 .f32) (harg6 : arg6.IsWhole) (arg7 : Memref sig .tc .vmem S4x1x256 .f32) (harg7 : arg7.IsWhole) (arg8 : Memref sig .tc .vmem S4x8x128 .f32) (harg8 : arg8.IsWhole)

/-- The stabiliser a first chunk leaves. -/
theorem m_first (hc0 : cond0_0 i) :
    sout0_A_2 c i arg2 harg2 arg3 harg3 arg4 harg4 arg5 harg5 arg6 harg6 arg7 harg7 arg8 harg8 hc0 x0 x1 x2 = View.canon (fM x1 arg8.view 4) := by
  unfold sout0_A_2
  rw [View.read_writes_eq_canon _ _ _ (scover0_A_2 _ _ _ _ _ _ _ _ _ _ _ _ _ _ _ _ _ _ _ _)]
  unfold kernelRun0_A
  dsimp only
  sl_unfold_words
  simp only [View.readAt_eq_ld, harg2.read_unread, harg3.read_unread, harg4.read_unread]
  rfl

/-- The normaliser a first chunk leaves. -/
theorem n_first (hc0 : cond0_0 i) :
    sout0_A_1 c i arg2 harg2 arg3 harg3 arg4 harg4 arg5 harg5 arg6 harg6 arg7 harg7 arg8 harg8 hc0 x0 x1 x2 = View.canon (fN x0 x1 arg8.view arg7.view 4) := by
  unfold sout0_A_1
  rw [View.read_writes_eq_canon _ _ _ (scover0_A_1 _ _ _ _ _ _ _ _ _ _ _ _ _ _ _ _ _ _ _ _)]
  unfold kernelRun0_A
  dsimp only
  sl_unfold_words
  simp only [View.readAt_eq_ld, harg2.read_unread, harg3.read_unread, harg4.read_unread]
  rfl

/-- The matrix state a first chunk leaves. -/
theorem c_first (hc0 : cond0_0 i) :
    sout0_A_0 c i arg2 harg2 arg3 harg3 arg4 harg4 arg5 harg5 arg6 harg6 arg7 harg7 arg8 harg8 hc0 x0 x1 x2 = View.canon (fC x0 x1 arg8.view arg6.view 4) := by
  unfold sout0_A_0
  rw [View.read_writes_eq_canon _ _ _ (scover0_A_0 _ _ _ _ _ _ _ _ _ _ _ _ _ _ _ _ _ _ _ _)]
  unfold kernelRun0_A
  dsimp only
  sl_unfold_words
  simp only [View.readAt_eq_ld, harg2.read_unread, harg3.read_unread, harg4.read_unread]
  rfl

/-- The result a first chunk leaves. -/
theorem o_first (hc0 : cond0_0 i) :
    out0_A_3 c i arg2 harg2 arg3 harg3 arg4 harg4 arg5 harg5 arg6 harg6 arg7 harg7 arg8 harg8 hc0 x0 x1 x2
      = View.canon (groupPieces (fO x0 x1 x2 arg8.view arg7.view arg6.view) [] 4) := by
  unfold out0_A_3
  rw [View.read_writes_eq_canon _ _ _ (cover0_A_3 _ _ _ _ _ _ _ _ _ _ _ _ _ _ _ _ _ _ _ _)]
  unfold kernelRun0_A
  dsimp only
  sl_unfold_words
  simp only [View.readAt_eq_ld, harg2.read_unread, harg3.read_unread, harg4.read_unread]
  rfl

variable (xs0 : Vec F S4x256x512 .f32) (xs1 : Vec F S4x1x256 .f32) (xs2 : Vec F S4x8x128 .f32)

/-- The stabiliser a later chunk leaves. -/
theorem m_later (hc0 : ¬cond0_0 i) :
    sout0_B_2 c i arg2 harg2 arg3 harg3 arg4 harg4 arg5 harg5 arg6 harg6 arg7 harg7 arg8 harg8 hc0 x0 x1 x2 xs0 xs1 xs2
      = View.canon (groupPieces (fun h hh => mPiece x1 h hh (View.ld xs2 (rM1 h hh))) [] 4) := by
  unfold sout0_B_2
  rw [View.read_writes_eq_canon _ _ _ (scover0_B_2 _ _ _ _ _ _ _ _ _ _ _ _ _ _ _ _ _ _ _ _ _ _ _)]
  unfold kernelRun0_B
  dsimp only
  sl_unfold_words
  simp only [View.readAt_eq_ld, harg2.read_unread, harg3.read_unread, harg4.read_unread, harg6.read_unread, harg7.read_unread, harg8.read_unread]
  rfl

/-- The normaliser a later chunk leaves. -/
theorem n_later (hc0 : ¬cond0_0 i) :
    sout0_B_1 c i arg2 harg2 arg3 harg3 arg4 harg4 arg5 harg5 arg6 harg6 arg7 harg7 arg8 harg8 hc0 x0 x1 x2 xs0 xs1 xs2
      = View.canon (groupPieces (fun h hh => nPiece x0 x1 h hh (View.ld xs2 (rM1 h hh)) (View.ld xs1 (rN h hh))) [] 4) := by
  unfold sout0_B_1
  rw [View.read_writes_eq_canon _ _ _ (scover0_B_1 _ _ _ _ _ _ _ _ _ _ _ _ _ _ _ _ _ _ _ _ _ _ _)]
  unfold kernelRun0_B
  dsimp only
  sl_unfold_words
  simp only [View.readAt_eq_ld, harg2.read_unread, harg3.read_unread, harg4.read_unread, harg6.read_unread, harg7.read_unread, harg8.read_unread]
  rfl

/-- The matrix state a later chunk leaves. -/
theorem c_later (hc0 : ¬cond0_0 i) :
    sout0_B_0 c i arg2 harg2 arg3 harg3 arg4 harg4 arg5 harg5 arg6 harg6 arg7 harg7 arg8 harg8 hc0 x0 x1 x2 xs0 xs1 xs2
      = View.canon (groupPieces (fun h hh => cPiece x0 x1 h hh (View.ld xs2 (rM1 h hh)) (View.ld xs0 (rC h hh))) [] 4) := by
  unfold sout0_B_0
  rw [View.read_writes_eq_canon _ _ _ (scover0_B_0 _ _ _ _ _ _ _ _ _ _ _ _ _ _ _ _ _ _ _ _ _ _ _)]
  unfold kernelRun0_B
  dsimp only
  sl_unfold_words
  simp only [View.readAt_eq_ld, harg2.read_unread, harg3.read_unread, harg4.read_unread, harg6.read_unread, harg7.read_unread, harg8.read_unread]
  rfl

/-- The result a later chunk leaves. -/
theorem o_later (hc0 : ¬cond0_0 i) :
    out0_B_3 c i arg2 harg2 arg3 harg3 arg4 harg4 arg5 harg5 arg6 harg6 arg7 harg7 arg8 harg8 hc0 x0 x1 x2 xs0 xs1 xs2
      = View.canon (groupPieces (fun h hh => oPiece x0 x1 x2 h hh (View.ld xs2 (rM1 h hh)) (View.ld xs1 (rN h hh)) (View.ld xs0 (rC h hh))) [] 4) := by
  unfold out0_B_3
  rw [View.read_writes_eq_canon _ _ _ (cover0_B_3 _ _ _ _ _ _ _ _ _ _ _ _ _ _ _ _ _ _ _ _ _ _ _)]
  unfold kernelRun0_B
  dsimp only
  sl_unfold_words
  simp only [View.readAt_eq_ld, harg2.read_unread, harg3.read_unread, harg4.read_unread, harg6.read_unread, harg7.read_unread, harg8.read_unread]
  rfl

end Opened

/-- A plane of the matrix state. -/
theorem rC_emb (h : ℕ) (hh : h < 4) (d : Fin 256) (e : Fin 512) : (rC h hh).emb (ix3 0 d e) = ix3 ⟨h, hh⟩ d e := by
  funext a; apply Fin.ext; fin_cases a
  · show h + 1 * 0 = h; omega
  · show 0 + 1 * d.val = d.val; omega
  · show 0 + 1 * e.val = e.val; omega

/-- A plane of the normaliser state. -/
theorem rN_emb (h : ℕ) (hh : h < 4) (d : Fin 256) : (rN h hh).emb (ix3 0 0 d) = ix3 ⟨h, hh⟩ 0 d := by
  funext a; apply Fin.ext; fin_cases a
  · show h + 1 * 0 = h; omega
  · rfl
  · show 0 + 1 * d.val = d.val; omega

/-- A plane of the stabiliser. -/
theorem rM_emb (h : ℕ) (hh : h < 4) : (rM h hh).emb (ix3 0 0 0) = ix3 ⟨h, hh⟩ 0 0 := by
  funext a; apply Fin.ext; fin_cases a
  · show h + 1 * 0 = h; omega
  · rfl
  · rfl

/-- A head's stabiliser. -/
theorem rM1_emb (h : ℕ) (hh : h < 4) : (rM1 h hh).emb (ix3 0 0 0) = ix3 ⟨h, hh⟩ 0 0 := by
  funext a; apply Fin.ext; fin_cases a
  · show h + 1 * 0 = h; omega
  · rfl
  · rfl

/-- A head's lanes of the result. -/
theorem rO_emb (h : ℕ) (hh : h < 4) (r : Fin 256) (e : Fin 512) : (rO h hh).emb (ix3 0 r e) = ix3 0 r ⟨512 * h + e.val, by omega⟩ := by
  funext a; apply Fin.ext; fin_cases a
  · rfl
  · show 0 + 1 * r.val = r.val; omega
  · show 512 * h + 1 * e.val = 512 * h + e.val; omega

/-- Another head's plane of the matrix state does not hold an index. -/
theorem rC_not (h : ℕ) (hh : h < 4) (y : S4x256x512.Idx) (hy : (y 0).val ≠ h) : y ∉ (rC h hh).set := by
  rw [Rect.mem_set_unit]
  intro hm
  have := hm 0
  simp at this
  omega

/-- Another head's plane of the normaliser state does not hold an index. -/
theorem rN_not (h : ℕ) (hh : h < 4) (y : S4x1x256.Idx) (hy : (y 0).val ≠ h) : y ∉ (rN h hh).set := by
  rw [Rect.mem_set_unit]
  intro hm
  have := hm 0
  simp at this
  omega

/-- Another head's plane of the stabiliser does not hold an index. -/
theorem rM_not (h : ℕ) (hh : h < 4) (y : S4x8x128.Idx) (hy : (y 0).val ≠ h) : y ∉ (rM h hh).set := by
  rw [Rect.mem_set_unit]
  intro hm
  have := hm 0
  simp at this
  omega

/-- Another head's lanes of the result do not hold an index. -/
theorem rO_not (h h' : ℕ) (hh : h < 4) (hh' : h' < 4) (hne : h ≠ h') (r : Fin 256) (e : Fin 512) :
    (ix3 0 r ⟨512 * h + e.val, by omega⟩ : S1x256x2048.Idx) ∉ (rO h' hh').set := by
  rw [Rect.mem_set_unit]
  intro hm
  have := hm 2
  simp at this
  omega

/-- The head of an index of a head's plane. -/
theorem plane_zero {s : Shape} (o sz : Fin s.rank → ℕ) (inb : ∀ a, o a + sz a ≤ s.size a) (j : (Rect.unit o sz inb).shape.Idx) (a : Fin s.rank) (ha : sz a = 1) :
    ((Rect.unit o sz inb).emb j a).val = o a := by
  show o a + 1 * (j a).val = o a
  have : (j a).val < sz a := (j a).isLt
  omega

/-- A first chunk's stabiliser stores are those over the zeros. -/
theorem fM_eq (v : View sig .tc .vmem S4x8x128 .f32) (n : ℕ) :
    fM x1 v n = groupPieces (fun h hh => mPiece x1 h hh (View.ld k0_pay5 (rM1 h hh))) [ground ![0, 0, 0] inb_S4x8x128_S4x8x128_0_0_0 k0_pay5] n :=
  readStores_eq v _ _ _ rM1 (mPiece x1) (fun h hh h' hh' hlt j x => rM_not h' hh' _ (by
    have : (((rM1 h hh).emb j) 0).val = h := plane_zero _ _ _ j 0 rfl
    omega)) n

/-- A first chunk's head reads the zeros for its stabiliser. -/
theorem fM0_eq (v : View sig .tc .vmem S4x8x128 .f32) (h : ℕ) (hh : h < 4) : fM0 x1 v h hh = View.ld k0_pay5 (rM1 h hh) := by
  unfold fM0
  rw [fM_eq]
  exact readCov_ground v _ _ _ _ h (rM1 h hh) fun h' hh' hlt j => rM_not h' hh' _ (by
    have : (((rM1 h hh).emb j) 0).val = h := plane_zero _ _ _ j 0 rfl
    omega)

/-- A first chunk's normaliser stores are those over the zeros. -/
theorem fN_eq (vm : View sig .tc .vmem S4x8x128 .f32) (v : View sig .tc .vmem S4x1x256 .f32) (n : ℕ) :
    fN x0 x1 vm v n = groupPieces (fun h hh => nPiece x0 x1 h hh (View.ld k0_pay5 (rM1 h hh)) (View.ld k0_pay4 (rN h hh)))
      [ground ![0, 0, 0] inb_S4x1x256_S4x1x256_0_0_0 k0_pay4] n := by
  unfold fN
  simp only [fM0_eq]
  exact readStores_eq v _ _ _ rN (fun h hh => nPiece x0 x1 h hh (View.ld k0_pay5 (rM1 h hh))) (fun h hh h' hh' hlt j x => rN_not h' hh' _ (by
    have : (((rN h hh).emb j) 0).val = h := plane_zero _ _ _ j 0 rfl
    omega)) n

/-- A first chunk's matrix state stores are those over the zeros. -/
theorem fC_eq (vm : View sig .tc .vmem S4x8x128 .f32) (v : View sig .tc .vmem S4x256x512 .f32) (n : ℕ) :
    fC x0 x1 vm v n = groupPieces (fun h hh => cPiece x0 x1 h hh (View.ld k0_pay5 (rM1 h hh)) (View.ld k0_pay3 (rC h hh)))
      [ground ![0, 0, 0] inb_S4x256x512_S4x256x512_0_0_0 k0_pay3] n := by
  unfold fC
  simp only [fM0_eq]
  exact readStores_eq v _ _ _ rC (fun h hh => cPiece x0 x1 h hh (View.ld k0_pay5 (rM1 h hh))) (fun h hh h' hh' hlt j x => rC_not h' hh' _ (by
    have : (((rC h hh).emb j) 0).val = h := plane_zero _ _ _ j 0 rfl
    omega)) n

/-- A first chunk's result stores are those over the zeros. -/
theorem fO_eq (vm : View sig .tc .vmem S4x8x128 .f32) (vn : View sig .tc .vmem S4x1x256 .f32) (vc : View sig .tc .vmem S4x256x512 .f32) :
    fO x0 x1 x2 vm vn vc = fun h hh => oPiece x0 x1 x2 h hh (View.ld k0_pay5 (rM1 h hh)) (View.ld k0_pay4 (rN h hh)) (View.ld k0_pay3 (rC h hh)) := by
  funext h hh
  unfold fO
  rw [fM0_eq, fN_eq, fC_eq]
  congr 1
  · exact readCov_ground vn _ _ _ _ h (rN h hh) fun h' hh' hlt j => rN_not h' hh' _ (by
      have : (((rN h hh).emb j) 0).val = h := plane_zero _ _ _ j 0 rfl
      omega)
  · exact readCov_ground vc _ _ _ _ h (rC h hh) fun h' hh' hlt j => rC_not h' hh' _ (by
      have : (((rC h hh).emb j) 0).val = h := plane_zero _ _ _ j 0 rfl
      omega)

section At

variable (xs0 : Vec F S4x256x512 .f32) (xs1 : Vec F S4x1x256 .f32) (xs2 : Vec F S4x8x128 .f32)

/-- The stabiliser stores at a head. -/
theorem m_at (L0 : List (View.Piece (Elt F) S4x8x128 .f32)) (h : ℕ) (hh : h < 4) :
    View.canon (groupPieces (fun h hh => mPiece x1 h hh (View.ld xs2 (rM1 h hh))) L0 4) (ix3 ⟨h, hh⟩ 0 0)
      = mV x1 h hh (View.ld xs2 (rM1 h hh)) (ix3 0 0 0) := by
  rw [← rM_emb h hh]
  refine groupPieces_at (fun h hh => mPiece x1 h hh (View.ld xs2 (rM1 h hh))) L0 h hh (ix3 0 0 0) 4 hh fun h' hh' hlt => ?_
  show (rM h hh).emb (ix3 0 0 0) ∉ (rM h' hh').set
  rw [rM_emb h hh]
  exact rM_not h' hh' _ (by show h ≠ h'; omega)

/-- The normaliser stores at a head. -/
theorem n_at (L0 : List (View.Piece (Elt F) S4x1x256 .f32)) (h : ℕ) (hh : h < 4) (d : Fin 256) :
    View.canon (groupPieces (fun h hh => nPiece x0 x1 h hh (View.ld xs2 (rM1 h hh)) (View.ld xs1 (rN h hh))) L0 4) (ix3 ⟨h, hh⟩ 0 d)
      = nV x0 x1 h hh (View.ld xs2 (rM1 h hh)) (View.ld xs1 (rN h hh)) (ix3 0 0 d) := by
  rw [← rN_emb h hh]
  refine groupPieces_at (fun h hh => nPiece x0 x1 h hh (View.ld xs2 (rM1 h hh)) (View.ld xs1 (rN h hh))) L0 h hh (ix3 0 0 d) 4 hh fun h' hh' hlt => ?_
  show (rN h hh).emb (ix3 0 0 d) ∉ (rN h' hh').set
  rw [rN_emb h hh]
  exact rN_not h' hh' _ (by show h ≠ h'; omega)

/-- The matrix state stores at a head. -/
theorem c_at (L0 : List (View.Piece (Elt F) S4x256x512 .f32)) (h : ℕ) (hh : h < 4) (d : Fin 256) (e : Fin 512) :
    View.canon (groupPieces (fun h hh => cPiece x0 x1 h hh (View.ld xs2 (rM1 h hh)) (View.ld xs0 (rC h hh))) L0 4) (ix3 ⟨h, hh⟩ d e)
      = cV x0 x1 h hh (View.ld xs2 (rM1 h hh)) (View.ld xs0 (rC h hh)) (ix3 0 d e) := by
  rw [← rC_emb h hh]
  refine groupPieces_at (fun h hh => cPiece x0 x1 h hh (View.ld xs2 (rM1 h hh)) (View.ld xs0 (rC h hh))) L0 h hh (ix3 0 d e) 4 hh fun h' hh' hlt => ?_
  show (rC h hh).emb (ix3 0 d e) ∉ (rC h' hh').set
  rw [rC_emb h hh]
  exact rC_not h' hh' _ (by show h ≠ h'; omega)

/-- The result stores at a head. -/
theorem o_at (L0 : List (View.Piece (Elt F) S1x256x2048 .bf16)) (h : ℕ) (hh : h < 4) (r : Fin 256) (e : Fin 512) :
    View.canon (groupPieces (fun h hh => oPiece x0 x1 x2 h hh (View.ld xs2 (rM1 h hh)) (View.ld xs1 (rN h hh)) (View.ld xs0 (rC h hh))) L0 4)
        (ix3 0 r ⟨512 * h + e.val, by omega⟩)
      = oV x0 x1 x2 h hh (View.ld xs2 (rM1 h hh)) (View.ld xs1 (rN h hh)) (View.ld xs0 (rC h hh)) (ix3 0 r e) := by
  rw [← rO_emb h hh]
  refine groupPieces_at (fun h hh => oPiece x0 x1 x2 h hh (View.ld xs2 (rM1 h hh)) (View.ld xs1 (rN h hh)) (View.ld xs0 (rC h hh))) L0 h hh (ix3 0 r e) 4 hh fun h' hh' hlt => ?_
  show (rO h hh).emb (ix3 0 r e) ∉ (rO h' hh').set
  rw [rO_emb h hh]
  exact rO_not h h' hh hh' (by omega) r e

end At

end Cert.Ml
-- ==== Proof.MlSpec.lean ====
module

public import Idealize.ShloMosaic.PureOps.Ideal
public import Mathlib.Algebra.BigOperators.Fin
/-! The mLSTM recurrence of one head over the reals, position by position, and the facts that read any chunk of it off the
state at the chunk's start. -/

@[expose] public section

open Idealize Idealize.ShloMosaic

noncomputable section

namespace Cert.Ml

/-- A sum of reals among the extended reals. -/
theorem coe_sum {ι : Type} (s : Finset ι) (g : ι → ℝ) : ((∑ x ∈ s, g x : ℝ) : EReal) = ∑ x ∈ s, (g x : EReal) := by
  classical
  induction s using Finset.induction_on with
  | empty => simp
  | insert a s ha ih => rw [Finset.sum_insert ha, Finset.sum_insert ha, EReal.coe_add, ih]

/-- The logarithm of a real's logistic. -/
def lsg (x : ℝ) : ℝ := -Real.log (1 + Real.exp (-x))

/-- The logarithm of one plus a real's exponential. -/
theorem log1p_exp (y : ℝ) : Ideal.log1p (Ideal.exp (y : EReal)) = (Real.log (1 + Real.exp y) : ℝ) := by
  have h := Real.exp_pos y
  rw [Ideal.exp_coe, Ideal.log1p, ← EReal.coe_one, ← EReal.coe_add, Ideal.log_coe, if_neg (by linarith)]

/-- The reference's log logistic. -/
theorem lsg_host (x : ℝ) : -Ideal.log1p (Ideal.exp (-(x : EReal))) = lsg x := by
  rw [← EReal.coe_neg, log1p_exp, ← EReal.coe_neg]
  rfl

/-- The kernel's log logistic, whose exponential never exceeds one. -/
theorem lsg_kernel (x : ℝ) : min (x : EReal) 0 - Ideal.log1p (Ideal.exp (-max (x : EReal) (-(x : EReal)))) = lsg x := by
  unfold lsg
  rcases le_total 0 x with h | h
  · have h0 : (0 : EReal) ≤ x := EReal.coe_nonneg.2 h
    have h1 : -(x : EReal) ≤ x := by rw [← EReal.coe_neg]; exact EReal.coe_le_coe_iff.2 (by linarith)
    rw [min_eq_right h0, max_eq_left h1, ← EReal.coe_neg, log1p_exp, zero_sub, ← EReal.coe_neg]
  · have h0 : (x : EReal) ≤ 0 := EReal.coe_nonpos.2 h
    have h1 : (x : EReal) ≤ -x := by rw [← EReal.coe_neg]; exact EReal.coe_le_coe_iff.2 (by linarith)
    rw [min_eq_left h0, max_eq_right h1, neg_neg, log1p_exp, ← EReal.coe_sub]
    congr 1
    have e : 1 + Real.exp (-x) = Real.exp (-x) * (1 + Real.exp x) := by
      rw [mul_add, mul_one, ← Real.exp_add, neg_add_cancel, Real.exp_zero, add_comm]
    rw [e, Real.log_mul (Real.exp_pos _).ne' (by have := Real.exp_pos x; linarith), Real.log_exp]
    ring

section Seq

variable (f i : ℕ → ℝ)

/-- The log forget gates summed up to a position. -/
def fs (n : ℕ) : ℝ := ∑ s ∈ Finset.range n, f s

/-- The running stabiliser. -/
def mx : ℕ → ℝ
  | 0 => 0
  | n + 1 => max (f n + mx n) (i n)

/-- The weight position `s` keeps after `n` positions. -/
def wt (n s : ℕ) : ℝ := Real.exp (fs f n - fs f (s + 1) + i s - mx f i n)

/-- The part of the state after `a` positions that is kept after `n`. -/
def dec (a n : ℕ) : ℝ := Real.exp (fs f n - fs f a + mx f i a - mx f i n)

/-- A weighted sum over the first `n` positions. -/
def wsum (n : ℕ) (u : ℕ → ℝ) : ℝ := ∑ s ∈ Finset.range n, wt f i n s * u s

/-- One more summed gate. -/
theorem fs_succ (n : ℕ) : fs f (n + 1) = fs f n + f n := Finset.sum_range_succ f n

/-- The stabiliser is at least the carried one. -/
theorem mx_carry (a J : ℕ) : fs f (a + J) - fs f a + mx f i a ≤ mx f i (a + J) := by
  induction J with
  | zero => simp
  | succ J ih =>
    rw [← add_assoc, fs_succ]
    refine le_trans ?_ (le_max_left _ _)
    linarith

/-- The stabiliser is at least each position's. -/
theorem mx_entry (a J s : ℕ) (h : s < J) : fs f (a + J) - fs f (a + s + 1) + i (a + s) ≤ mx f i (a + J) := by
  induction J with
  | zero => omega
  | succ J ih =>
    rw [← add_assoc]
    rcases Nat.lt_succ_iff_lt_or_eq.1 h with h | rfl
    · refine le_trans ?_ (le_max_left _ _)
      rw [fs_succ f (a + J)]
      linarith [ih h]
    · refine le_trans ?_ (le_max_right _ _)
      linarith

/-- The stabiliser is the carried one or some position's. -/
theorem mx_attained (a J : ℕ) : mx f i (a + J) = fs f (a + J) - fs f a + mx f i a
    ∨ ∃ s, s < J ∧ mx f i (a + J) = fs f (a + J) - fs f (a + s + 1) + i (a + s) := by
  induction J with
  | zero => left; simp
  | succ J ih =>
    rw [← add_assoc]
    rcases max_choice (f (a + J) + mx f i (a + J)) (i (a + J)) with h | h
    · have h' : mx f i (a + J + 1) = f (a + J) + mx f i (a + J) := h
      rcases ih with e | ⟨s, hs, e⟩
      · left
        rw [h', e, fs_succ]
        ring
      · refine .inr ⟨s, by omega, ?_⟩
        rw [h', e, fs_succ f (a + J)]
        ring
    · refine .inr ⟨J, by omega, ?_⟩
      rw [show mx f i (a + J + 1) = i (a + J) from h]
      ring

/-- The largest of the carried stabiliser and a chunk's first `J` positions is the running stabiliser. -/
theorem max_upto {L : ℕ} (a J : ℕ) (hJ : J ≤ L) (D : Fin L → EReal)
    (hD : ∀ s : Fin L, s.val < J → D s = ((fs f (a + J) - fs f (a + s.val + 1) + i (a + s.val) : ℝ) : EReal))
    (hD' : ∀ s : Fin L, ¬s.val < J → D s = ⊥) :
    max ((fs f (a + J) - fs f a + mx f i a : ℝ) : EReal) (Finset.univ.fold max ⊥ D) = (mx f i (a + J) : EReal) := by
  refine le_antisymm (max_le (EReal.coe_le_coe_iff.2 (mx_carry f i a J)) (Finset.fold_max_le _ |>.2 ⟨bot_le, fun s _ => ?_⟩)) ?_
  · by_cases h : s.val < J
    · rw [hD s h]
      exact EReal.coe_le_coe_iff.2 (mx_entry f i a J s.val h)
    · rw [hD' s h]
      exact bot_le
  · rcases mx_attained f i a J with e | ⟨s, hs, e⟩
    · rw [e]
      exact le_max_left _ _
    · refine le_trans ?_ (le_max_right _ _)
      refine (Finset.le_fold_max _).2 (.inr ⟨⟨s, by omega⟩, Finset.mem_univ _, ?_⟩)
      rw [hD ⟨s, by omega⟩ hs, e]

/-- A kept state's weight is the weight. -/
theorem dec_wt (a n s : ℕ) : dec f i a n * wt f i a s = wt f i n s := by
  unfold dec wt
  rw [← Real.exp_add]
  congr 1
  ring

/-- A weighted sum, split at a chunk's start. -/
theorem wsum_split (a J : ℕ) (u : ℕ → ℝ) : wsum f i (a + J) u
    = dec f i a (a + J) * wsum f i a u + ∑ s ∈ Finset.range J, wt f i (a + J) (a + s) * u (a + s) := by
  unfold wsum
  rw [Finset.sum_range_add, Finset.mul_sum]
  congr 1
  refine Finset.sum_congr rfl fun s _ => ?_
  rw [← mul_assoc, dec_wt]

/-- The first positions of a chunk. -/
theorem sum_upto {L : ℕ} (J : ℕ) (hJ : J ≤ L) (g : ℕ → ℝ) :
    ∑ s ∈ Finset.range J, g s = ∑ s : Fin L, if s.val < J then g s.val else 0 := by
  rw [Fin.sum_univ_eq_sum_range (fun s => if s < J then g s else 0) L, ← Finset.sum_filter]
  refine Finset.sum_congr (Finset.ext fun s => ?_) fun _ _ => rfl
  simp only [Finset.mem_range, Finset.mem_filter]
  omega

/-- A weighted sum up to a chunk's position. -/
theorem wsum_row {L : ℕ} (a : ℕ) (t : Fin L) (u : ℕ → ℝ) : wsum f i (a + t.val + 1) u
    = (∑ s : Fin L, (if s ≤ t then wt f i (a + t.val + 1) (a + s.val) else 0) * u (a + s.val)) + dec f i a (a + t.val + 1) * wsum f i a u := by
  rw [add_assoc, wsum_split, add_comm, sum_upto (L := L) (t.val + 1) t.isLt]
  congr 1
  refine Finset.sum_congr rfl fun s _ => ?_
  by_cases h : s ≤ t
  · rw [if_pos (Nat.lt_succ_of_le h), if_pos h]
  · rw [if_neg (fun h' => h (Nat.le_of_lt_succ h')), if_neg h, zero_mul]

/-- A weighted sum up to a chunk's end. -/
theorem wsum_chunk {L : ℕ} (a : ℕ) (u : ℕ → ℝ) : wsum f i (a + L) u
    = dec f i a (a + L) * wsum f i a u + ∑ s : Fin L, wt f i (a + L) (a + s.val) * u (a + s.val) := by
  rw [wsum_split, Fin.sum_univ_eq_sum_range (fun s => wt f i (a + L) (a + s) * u (a + s)) L]

/-- A product with a weighted sum's columns is the weighted sum of the products. -/
theorem wsum_dot {K : ℕ} (n : ℕ) (x : Fin K → ℝ) (y : ℕ → Fin K → ℝ) (z : ℕ → ℝ) :
    ∑ d, x d * wsum f i n (fun s => y s d * z s) = wsum f i n fun s => (∑ d, x d * y s d) * z s := by
  unfold wsum
  simp only [Finset.mul_sum, Finset.sum_mul]
  rw [Finset.sum_comm]
  refine Finset.sum_congr rfl fun s _ => Finset.sum_congr rfl fun d _ => ?_
  ring

/-- What a chunk of a head's sequence holds: its summed log forget gates from its start and its input gates. -/
structure Gates {L : ℕ} (a : ℕ) (b g : Fin L → EReal) : Prop where
  hb : ∀ t, b t = ((fs f (a + t.val + 1) - fs f a : ℝ) : EReal)
  hg : ∀ t, g t = (i (a + t.val) : EReal)

variable {f i} {L : ℕ} {a : ℕ} {b g : Fin L → EReal} (hbg : Gates f i a b g)
include hbg

/-- A chunk's carried stabiliser at a position. -/
theorem inter_at (t : Fin L) : b t + (mx f i a : EReal) = ((fs f (a + t.val + 1) - fs f a + mx f i a : ℝ) : EReal) := by
  rw [hbg.hb, ← EReal.coe_add]

/-- A chunk's log weight between two positions. -/
theorem logd_at (t s : Fin L) : b t - b s + g s
    = ((fs f (a + t.val + 1) - fs f (a + s.val + 1) + i (a + s.val) : ℝ) : EReal) := by
  rw [hbg.hb, hbg.hb, hbg.hg, ← EReal.coe_sub, ← EReal.coe_add]
  congr 1
  ring

/-- A chunk's row stabiliser. -/
theorem row_max (t : Fin L) :
    max (b t + (mx f i a : EReal)) (Finset.univ.fold max ⊥ fun s => if s ≤ t then b t - b s + g s else ⊥) = (mx f i (a + t.val + 1) : EReal) := by
  rw [inter_at hbg]
  refine max_upto f i a (t.val + 1) t.isLt _ (fun s hs => ?_) fun s hs => ?_
  · rw [if_pos (show s ≤ t from Nat.le_of_lt_succ hs), logd_at hbg]
    rfl
  · rw [if_neg (show ¬s ≤ t from fun h => hs (Nat.lt_succ_of_le h))]

/-- A chunk's weight between two positions. -/
theorem row_wt (t s : Fin L) : Ideal.exp ((if s ≤ t then b t - b s + g s else ⊥) - (mx f i (a + t.val + 1) : EReal))
    = ((if s ≤ t then wt f i (a + t.val + 1) (a + s.val) else 0 : ℝ) : EReal) := by
  by_cases h : s ≤ t
  · rw [if_pos h, if_pos h, logd_at hbg, ← EReal.coe_sub, Ideal.exp_coe]
    rfl
  · rw [if_neg h, if_neg h, sub_eq_add_neg, EReal.bot_add]
    rfl

/-- What a chunk's position keeps of the carried state. -/
theorem row_dec (t : Fin L) : Ideal.exp (b t + (mx f i a : EReal) - (mx f i (a + t.val + 1) : EReal)) = (dec f i a (a + t.val + 1) : EReal) := by
  rw [inter_at hbg, ← EReal.coe_sub, Ideal.exp_coe]
  rfl

/-- A chunk's last summed gate. -/
theorem last_at (l : Fin L) (hl : l.val + 1 = L) : b l = ((fs f (a + L) - fs f a : ℝ) : EReal) := by
  rw [hbg.hb, add_assoc, hl]

/-- A chunk's log weight to its end. -/
theorem glast_at (l : Fin L) (hl : l.val + 1 = L) (s : Fin L) : b l - b s + g s
    = ((fs f (a + L) - fs f (a + s.val + 1) + i (a + s.val) : ℝ) : EReal) := by
  rw [logd_at hbg, add_assoc a l.val, hl]

/-- A chunk's last stabiliser. -/
theorem last_max (l : Fin L) (hl : l.val + 1 = L) :
    max (b l + (mx f i a : EReal)) (Finset.univ.fold max ⊥ fun s => b l - b s + g s) = (mx f i (a + L) : EReal) := by
  rw [show b l + (mx f i a : EReal) = ((fs f (a + L) - fs f a + mx f i a : ℝ) : EReal) by rw [last_at hbg l hl, ← EReal.coe_add]]
  exact max_upto f i a L le_rfl _ (fun s _ => glast_at hbg l hl s) fun s hs => absurd s.isLt hs

/-- A chunk's weight to its end. -/
theorem last_wt (l : Fin L) (hl : l.val + 1 = L) (s : Fin L) :
    Ideal.exp (b l - b s + g s - (mx f i (a + L) : EReal)) = (wt f i (a + L) (a + s.val) : EReal) := by
  rw [glast_at hbg l hl, ← EReal.coe_sub, Ideal.exp_coe]
  rfl

/-- What a chunk's end keeps of the carried state. -/
theorem last_dec (l : Fin L) (hl : l.val + 1 = L) :
    Ideal.exp (b l + (mx f i a : EReal) - (mx f i (a + L) : EReal)) = (dec f i a (a + L) : EReal) := by
  rw [last_at hbg l hl, ← EReal.coe_add, ← EReal.coe_sub, Ideal.exp_coe]
  rfl

end Seq

/-- The sum of a chunk's gates up to a position. -/
theorem fs_prefix (f : ℕ → ℝ) {L : ℕ} (a : ℕ) (t : Fin L) :
    ∑ k : Fin L, (if k ≤ t then (f (a + k.val) : EReal) else 0) = ((fs f (a + t.val + 1) - fs f a : ℝ) : EReal) := by
  have e : ∀ k : Fin L, (if k ≤ t then (f (a + k.val) : EReal) else 0) = ((if k.val < t.val + 1 then f (a + k.val) else 0 : ℝ) : EReal) := by
    intro k
    by_cases h : k ≤ t
    · rw [if_pos h, if_pos (Nat.lt_succ_of_le h)]
    · rw [if_neg h, if_neg (fun h' => h (Nat.le_of_lt_succ h'))]
      rfl
  rw [Finset.sum_congr rfl fun k _ => e k, ← coe_sum, ← sum_upto (t.val + 1) t.isLt (fun s => f (a + s))]
  congr 1
  unfold fs
  rw [add_assoc, Finset.sum_range_add f a (t.val + 1), add_sub_cancel_left]

/-- One head's sequences: log forget gates, input gates, queries, keys, values. -/
structure Hd where
  f : ℕ → ℝ
  i : ℕ → ℝ
  q : ℕ → Fin 256 → ℝ
  k : ℕ → Fin 256 → ℝ
  v : ℕ → Fin 512 → ℝ

namespace Hd

variable (H : Hd)

/-- The stabiliser after `n` positions. -/
def m (n : ℕ) : ℝ := mx H.f H.i n

/-- The scaled product of a query and a key. -/
def sk (p s : ℕ) : ℝ := (∑ d, H.q p d * H.k s d) * (1 / 16)

/-- The matrix state after `n` positions. -/
def c (n : ℕ) (d : Fin 256) (e : Fin 512) : ℝ := wsum H.f H.i n fun s => H.k s d * H.v s e

/-- The normaliser state after `n` positions. -/
def n (n : ℕ) (d : Fin 256) : ℝ := wsum H.f H.i n fun s => H.k s d

/-- A position's weighted sum of the values. -/
def num (p : ℕ) (e : Fin 512) : ℝ := wsum H.f H.i (p + 1) fun s => H.sk p s * H.v s e

/-- A position's sum of the weights. -/
def den (p : ℕ) : ℝ := wsum H.f H.i (p + 1) fun s => H.sk p s

/-- A position's output before the norm. -/
def ho (p : ℕ) (e : Fin 512) : EReal :=
  Ideal.div (H.num p e) (max (max (H.den p : EReal) (-(H.den p : EReal))) (Ideal.exp (-(H.m (p + 1) : EReal))))

/-- A position's output, normed, weighted and gated. -/
def out (W : Fin 512 → EReal) (o : EReal) (p : ℕ) (e : Fin 512) : EReal :=
  H.ho p e * Ideal.rsqrt (Ideal.div (∑ x, H.ho p x * H.ho p x) (Ideal.ofBits .f32 0x44000000#32) + Ideal.ofBits .f32 0x358637BD#32)
    * W e * Ideal.div 1 (1 + Ideal.exp (-o))

/-- The scale of the queries. -/
theorem scale : Ideal.ofBits .f32 0x3D800000#32 = ((1 / 16 : ℝ) : EReal) := by
  change Ideal.ieee 8 23 0x3D800000#32 = _
  unfold Ideal.ieee
  rw [if_neg (by decide), if_neg (by decide)]
  refine congrArg _ ?_
  have h0 : (BitVec.extractLsb' 23 8 0x3D800000#32).toNat = 123 := by decide
  have h1 : (BitVec.extractLsb' 0 23 0x3D800000#32).toNat = 0 := by decide
  have h2 : (BitVec.extractLsb' (8 + 23) 1 0x3D800000#32 == 1#1) = false := by decide
  rw [h0, h1, h2]
  norm_num

/-- A query against a key, scaled after the product. -/
theorem sk_eq (p s : ℕ) : (∑ d, (H.q p d : EReal) * (H.k s d : EReal)) * ((1 / 16 : ℝ) : EReal) = (H.sk p s : EReal) := by
  simp only [← EReal.coe_mul, ← coe_sum]
  rfl

/-- A scale inside a product of reals. -/
theorem scale_out {K : ℕ} (x y : Fin K → ℝ) (z : ℝ) :
    ∑ d, (x d : EReal) * (z : EReal) * (y d : EReal) = (∑ d, (x d : EReal) * (y d : EReal)) * (z : EReal) := by
  simp only [← EReal.coe_mul, ← coe_sum]
  rw [Finset.sum_mul]
  exact congrArg _ (Finset.sum_congr rfl fun d _ => by ring)

variable {L : ℕ} (a : ℕ)

/-- A position's weighted sum of the values, from its chunk and the state at the chunk's start. -/
theorem num_eq (t : Fin L) (e : Fin 512) :
    (∑ s : Fin L, (H.sk (a + t.val) (a + s.val) : EReal) * ((if s ≤ t then wt H.f H.i (a + t.val + 1) (a + s.val) else 0 : ℝ) : EReal) * (H.v (a + s.val) e : EReal))
      + (dec H.f H.i a (a + t.val + 1) : EReal) * ((∑ d, (H.q (a + t.val) d : EReal) * (H.c a d e : EReal)) * ((1 / 16 : ℝ) : EReal))
      = (H.num (a + t.val) e : EReal) := by
  simp only [← EReal.coe_mul, ← coe_sum, ← EReal.coe_add]
  congr 1
  unfold num c
  rw [wsum_row, wsum_dot]
  refine congrArg₂ (· + ·) (Finset.sum_congr rfl fun s _ => by ring) (congrArg _ ?_)
  unfold wsum sk
  rw [Finset.sum_mul]
  exact Finset.sum_congr rfl fun s _ => by ring

/-- A position's sum of the weights, from its chunk and the state at the chunk's start. -/
theorem den_eq (t : Fin L) :
    (∑ s : Fin L, (H.sk (a + t.val) (a + s.val) : EReal) * ((if s ≤ t then wt H.f H.i (a + t.val + 1) (a + s.val) else 0 : ℝ) : EReal))
      + (dec H.f H.i a (a + t.val + 1) : EReal) * ((∑ d, (H.q (a + t.val) d : EReal) * (H.n a d : EReal)) * ((1 / 16 : ℝ) : EReal))
      = (H.den (a + t.val) : EReal) := by
  simp only [← EReal.coe_mul, ← coe_sum, ← EReal.coe_add]
  congr 1
  have h := wsum_dot H.f H.i a (H.q (a + t.val)) H.k fun _ => 1
  simp only [mul_one] at h
  unfold den n
  rw [wsum_row, h]
  refine congrArg₂ (· + ·) (Finset.sum_congr rfl fun s _ => by ring) (congrArg _ ?_)
  unfold wsum sk
  rw [Finset.sum_mul]
  exact Finset.sum_congr rfl fun s _ => by ring

/-- The matrix state after a chunk. -/
theorem c_chunk (d : Fin 256) (e : Fin 512) :
    (dec H.f H.i a (a + L) : EReal) * (H.c a d e : EReal)
      + ∑ s : Fin L, (H.k (a + s.val) d : EReal) * (wt H.f H.i (a + L) (a + s.val) : EReal) * (H.v (a + s.val) e : EReal) = (H.c (a + L) d e : EReal) := by
  simp only [← EReal.coe_mul, ← coe_sum, ← EReal.coe_add]
  congr 1
  unfold c
  rw [wsum_chunk]
  exact congrArg _ (Finset.sum_congr rfl fun s _ => by ring)

/-- The normaliser state after a chunk. -/
theorem n_chunk (d : Fin 256) :
    (dec H.f H.i a (a + L) : EReal) * (H.n a d : EReal)
      + ∑ s : Fin L, (H.k (a + s.val) d : EReal) * (wt H.f H.i (a + L) (a + s.val) : EReal) = (H.n (a + L) d : EReal) := by
  simp only [← EReal.coe_mul, ← coe_sum, ← EReal.coe_add]
  congr 1
  unfold n
  rw [wsum_chunk]
  exact congrArg _ (Finset.sum_congr rfl fun s _ => by ring)

end Hd

/-- Minus infinity as the bits of a single. -/
theorem minf : Ideal.ofBits FTy.f32 0xFF800000#32 = ⊥ := by
  change Ideal.ieee 8 23 0xFF800000#32 = ⊥
  unfold Ideal.ieee
  rw [if_pos (by decide), if_pos (by decide), if_pos (by decide)]

/-- A position of the sequence. -/
def pos (p : ℕ) : Fin 4096 := ⟨p % 4096, Nat.mod_lt _ (by omega)⟩

/-- A head's sequences, of a batch's projections and gates. -/
def hd (P : Fin 4096 → Fin 6144 → EReal) (G : Fin 4096 → Fin 128 → EReal) (h : Fin 4) : Hd where
  f p := lsg (G (pos p) ⟨4 + h.val, by omega⟩).toReal
  i p := (G (pos p) ⟨h.val, by omega⟩).toReal
  q p d := (P (pos p) ⟨256 * h.val + d.val, by omega⟩).toReal
  k p d := (P (pos p) ⟨1024 + 256 * h.val + d.val, by omega⟩).toReal
  v p e := (P (pos p) ⟨2048 + 512 * h.val + e.val, by omega⟩).toReal

/-- A head's result at a position. -/
def res (P : Fin 4096 → Fin 6144 → EReal) (G : Fin 4096 → Fin 128 → EReal) (W : Fin 2048 → EReal) (h : Fin 4) (p : ℕ) (e : Fin 512) : EReal :=
  (hd P G h).out (fun x => W ⟨512 * h.val + x.val, by omega⟩) (P (pos p) ⟨4096 + 512 * h.val + e.val, by omega⟩) p e

end Cert.Ml

end
-- ==== Proof.MlValue.lean ====
module

public import proofs.«01_k».proof.Proof.MlHead
public import proofs.«01_k».proof.Proof.MlSpec
public import proofs.«01_k».proof.Proof.Spec
public import Idealize.ShloMosaic.Lib.Pointwise
/-! The mLSTM kernel's head functions at an index over the extended reals: they are the recurrence read off a chunk. -/

@[expose] public section

set_option maxRecDepth 16384

noncomputable section

namespace Cert.Ml

open Idealize Idealize.SL Idealize.ShloMosaic Idealize.ShloMosaic.TcCoe Cert.Kernel7Ideal Cert.Kernel7Ideal.Gen
open Cert.Ssd (ge_word bit_real bit_select)

/-- What a point's blocks hold: the positions from `a` of a batch's projections and gates, and the norm weights, all finite but the last. -/
structure Blocks (P : Fin 4096 → Fin 6144 → EReal) (G : Fin 4096 → Fin 128 → EReal) (W : Fin 2048 → EReal) (a : ℕ)
    (x0 : Vec Ideal S1x256x6144 .bf16) (x1 : Vec Ideal S1x256x128 .f32) (x2 : Vec Ideal S1x2048 .f32) : Prop where
  h0 : ∀ (t : Fin 256) c, x0 (ix3 0 t c) = P (pos (a + t.val)) c
  h1 : ∀ (t : Fin 256) c, x1 (ix3 0 t c) = G (pos (a + t.val)) c
  h2 : ∀ c, x2 (ix2 0 c) = W c
  hP : ∀ p c, P p c = ((P p c).toReal : EReal)
  hG : ∀ p c, G p c = ((G p c).toReal : EReal)

variable {P : Fin 4096 → Fin 6144 → EReal} {G : Fin 4096 → Fin 128 → EReal} {W : Fin 2048 → EReal} {a : ℕ}
  {x0 : Vec Ideal S1x256x6144 .bf16} {x1 : Vec Ideal S1x256x128 .f32} {x2 : Vec Ideal S1x2048 .f32}
  (hb : Blocks P G W a x0 x1 x2) (h : Fin 4)

/-- The kernel's magnitude. -/
theorem absf_max (x : EReal) : FloatOps.absf (F := Ideal) (φ := .f32) x = max x (-x) := rfl

include hb

/-- A head's queries. -/
theorem qh_at (t d : Fin 256) : qh x0 h.val h.isLt (ix2 t d) = ((hd P G h).q (a + t.val) d : EReal) := by
  pointwise [qh, k0_pay11]
  rw [hb.h0, hb.hP]
  rfl

/-- A head's keys. -/
theorem kh_at (t d : Fin 256) : kh x0 h.val h.isLt (ix2 t d) = ((hd P G h).k (a + t.val) d : EReal) := by
  pointwise [kh, k0_pay12]
  rw [hb.h0, hb.hP]
  rfl

/-- A head's values. -/
theorem vh_at (t : Fin 256) (e : Fin 512) : vh x0 h.val h.isLt (ix2 t e) = ((hd P G h).v (a + t.val) e : EReal) := by
  pointwise [vh, k0_pay13]
  rw [hb.h0, hb.hP]
  rfl

/-- A head's input gates down the chunk. -/
theorem icol_at (t : Fin 256) : icol x1 h.val h.isLt (ix2 t 0) = ((hd P G h).i (a + t.val) : EReal) := by
  pointwise [icol, k0_pay7]
  unfold gts
  pointwise
  rw [hb.h1, hb.hG]
  rfl

/-- A head's input gates along the chunk. -/
theorem irow_at (t : Fin 256) : irow x1 h.val h.isLt (ix2 0 t) = ((hd P G h).i (a + t.val) : EReal) := by
  pointwise [irow, k0_pay9, k0_pay7]
  unfold gts
  pointwise
  rw [hb.h1, hb.hG]
  rfl

/-- The summed log forget gates of a head's lane. -/
theorem gate_sum (t : Fin 256) (hl : 4 + h.val < 128) :
    ∑ x : Fin 256, (FloatOps.sitofp (F := Ideal) FTy.f32 (BitVec.setWidth 32 (IntOp.cmpi CmpIPredicate.sge (BitVec.ofNat 32 t.val) (BitVec.ofNat 32 x.val))) : EReal)
        * (min (gts x1 (ix3 0 x ⟨4 + h.val, hl⟩)) 0 - Ideal.log1p (Ideal.exp (0 - FloatOps.absf (F := Ideal) (φ := .f32) (gts x1 (ix3 0 x ⟨4 + h.val, hl⟩)))))
      = ((fs (hd P G h).f (a + t.val + 1) - fs (hd P G h).f a : ℝ) : EReal) := by
  rw [← fs_prefix]
  refine Finset.sum_congr rfl fun x _ => ?_
  have e : gts x1 (ix3 0 x ⟨4 + h.val, hl⟩) = ((G (pos (a + x.val)) ⟨4 + h.val, hl⟩).toReal : EReal) := by
    unfold gts
    pointwise
    rw [hb.h1]
    exact hb.hG _ _
  rw [e, ge_word (by omega) (by omega), bit_real, absf_max, zero_sub, lsg_kernel]
  by_cases hk : x ≤ t
  · rw [if_pos hk, if_pos (show x.val ≤ t.val from hk), one_mul]; rfl
  · rw [if_neg hk, if_neg (show ¬x.val ≤ t.val from hk), zero_mul]

/-- A head's summed log forget gates down the chunk. -/
theorem bcol_at (t : Fin 256) : bcol x1 h.val h.isLt (ix2 t 0) = ((fs (hd P G h).f (a + t.val + 1) - fs (hd P G h).f a : ℝ) : EReal) := by
  pointwise [bcol, k0_pay8, k0_pay7, k0_pay6]
  exact gate_sum hb h t _

/-- A head's summed log forget gates along the chunk. -/
theorem brow_at (t : Fin 256) : brow x1 h.val h.isLt (ix2 0 t) = ((fs (hd P G h).f (a + t.val + 1) - fs (hd P G h).f a : ℝ) : EReal) := by
  pointwise [brow, k0_pay10, k0_pay8, k0_pay7, k0_pay6]
  exact gate_sum hb h t _

/-- A chunk's gates. -/
theorem gates : Gates (L := 256) (hd P G h).f (hd P G h).i a (fun t => bcol x1 h.val h.isLt (ix2 t 0)) (fun t => icol x1 h.val h.isLt (ix2 t 0)) where
  hb := bcol_at hb h
  hg := icol_at hb h

variable {m0 : Vec Ideal S1x1x1 .f32} {n0 : Vec Ideal S1x1x256 .f32} {c0 : Vec Ideal S1x256x512 .f32}
  (hm : m0 (ix3 0 0 0) = ((hd P G h).m a : EReal))

include hm

/-- A masked log weight. -/
theorem logd (t s : Fin 256) : k0_pay22 (F := Ideal) k0_pay6 (bcol x1 h.val h.isLt) (irow x1 h.val h.isLt) (brow x1 h.val h.isLt) (ix2 t s)
    = if s ≤ t then bcol x1 h.val h.isLt (ix2 t 0) - bcol x1 h.val h.isLt (ix2 s 0) + icol x1 h.val h.isLt (ix2 s 0) else ⊥ := by
  pointwise [k0_pay22, k0_pay6]
  rw [ge_word (by omega) (by omega), bit_select, minf, irow_at hb, brow_at hb, icol_at hb, bcol_at hb h s]
  exact if_congr Iff.rfl rfl rfl

/-- A position's stabiliser. -/
theorem pay24_at (t : Fin 256) : k0_pay24 (F := Ideal) k0_pay6 (bcol x1 h.val h.isLt) (irow x1 h.val h.isLt) (brow x1 h.val h.isLt) m0 (ix2 t 0)
    = ((hd P G h).m (a + t.val + 1) : EReal) := by
  pointwise [k0_pay24, k0_pay23, k0_pay19]
  rw [hm, minf]
  simp only [logd hb h hm]
  exact row_max (gates hb h) t

/-- A weighted, scaled product of a query and a key. -/
theorem pay25_at (t s : Fin 256) :
    k0_pay25 (F := Ideal) k0_pay6 (qh x0 h.val h.isLt) (kh x0 h.val h.isLt) (bcol x1 h.val h.isLt) (irow x1 h.val h.isLt) (brow x1 h.val h.isLt) m0 (ix2 t s)
    = ((hd P G h).sk (a + t.val) (a + s.val) : EReal)
      * ((if s ≤ t then wt (hd P G h).f (hd P G h).i (a + t.val + 1) (a + s.val) else 0 : ℝ) : EReal) := by
  pointwise [k0_pay25]
  simp only [qh_at hb, kh_at hb]
  rw [Hd.scale, Hd.sk_eq, logd hb h hm, pay24_at hb h hm]
  exact congrArg _ (row_wt (gates hb h) t s)

/-- What a position keeps of the carried state. -/
theorem pay26_at (t : Fin 256) : k0_pay26 (F := Ideal) k0_pay6 (bcol x1 h.val h.isLt) (irow x1 h.val h.isLt) (brow x1 h.val h.isLt) m0 (ix2 t 0)
    = (dec (hd P G h).f (hd P G h).i a (a + t.val + 1) : EReal) := by
  pointwise [k0_pay26, k0_pay23, k0_pay19]
  rw [pay24_at hb h hm, hm]
  exact row_dec (gates hb h) t

/-- A position's weighted sum of the values. -/
theorem pay27_at (hc : ∀ d e, c0 (ix3 0 d e) = ((hd P G h).c a d e : EReal)) (t : Fin 256) (e : Fin 512) :
    k0_pay27 (F := Ideal) k0_pay6 (qh x0 h.val h.isLt) (kh x0 h.val h.isLt) (vh x0 h.val h.isLt) (bcol x1 h.val h.isLt) (irow x1 h.val h.isLt) (brow x1 h.val h.isLt) m0 c0 (ix2 t e)
    = ((hd P G h).num (a + t.val) e : EReal) := by
  pointwise [k0_pay27, k0_pay20]
  simp only [pay25_at hb h hm, pay26_at hb h hm, qh_at hb, vh_at hb, hc, Hd.scale]
  exact Hd.num_eq (hd P G h) a t e

/-- A position's sum of the weights. -/
theorem den_at (hn : ∀ d, n0 (ix3 0 0 d) = ((hd P G h).n a d : EReal)) (t : Fin 256) :
    k0_pay29 (F := Ideal) k0_pay6 (qh x0 h.val h.isLt) (kh x0 h.val h.isLt) (bcol x1 h.val h.isLt) (irow x1 h.val h.isLt) (brow x1 h.val h.isLt) m0 (ix2 t 0)
      + k0_pay26 (F := Ideal) k0_pay6 (bcol x1 h.val h.isLt) (irow x1 h.val h.isLt) (brow x1 h.val h.isLt) m0 (ix2 t 0)
        * k0_pay28 (F := Ideal) (qh x0 h.val h.isLt) n0 (ix2 t 0)
    = ((hd P G h).den (a + t.val) : EReal) := by
  rw [pay26_at hb h hm]
  pointwise [k0_pay29, k0_pay28, k0_pay21]
  simp only [pay25_at hb h hm, qh_at hb, hn, Hd.scale]
  exact Hd.den_eq (hd P G h) a t

/-- A head's result. -/
theorem oV_at (hn : ∀ d, n0 (ix3 0 0 d) = ((hd P G h).n a d : EReal)) (hc : ∀ d e, c0 (ix3 0 d e) = ((hd P G h).c a d e : EReal))
    (t : Fin 256) (e : Fin 512) : oV x0 x1 x2 h.val h.isLt m0 n0 c0 (ix3 0 t e) = res P G W h (a + t.val) e := by
  have ho : oh x0 h.val h.isLt (ix2 t e) = P (pos (a + t.val)) ⟨4096 + 512 * h.val + e.val, by omega⟩ := by
    pointwise [oh, k0_pay14]
    rw [hb.h0]
  pointwise [oV, k0_pay30]
  simp only [den_at hb h hm hn, pay27_at hb h hm hc, pay24_at hb h hm, ho, absf_max, zero_sub, hb.h2]
  rfl

/-- A head's stabiliser after the chunk. -/
theorem mN_at : mN x1 h.val h.isLt m0 (ix2 0 0) = ((hd P G h).m (a + 256) : EReal) := by
  pointwise [mN, k0_pay33, k0_pay32, k0_pay31, k0_pay19]
  rw [hm, minf]
  exact last_max (gates hb h) 255 rfl

/-- A head's new stabiliser. -/
theorem mV_at : mV x1 h.val h.isLt m0 (ix3 0 0 0) = ((hd P G h).m (a + 256) : EReal) := by
  pointwise [mV, k0_pay40]
  exact mN_at hb h hm

/-- A position's weight at the chunk's end. -/
theorem wk_at (s : Fin 256) : Ideal.exp (k0_pay32 (F := Ideal) (icol x1 h.val h.isLt) (bcol x1 h.val h.isLt) (ix2 s 0)
      - k0_pay35 (F := Ideal) (icol x1 h.val h.isLt) (bcol x1 h.val h.isLt) (k0_pay19 m0) (ix2 s 0))
    = (wt (hd P G h).f (hd P G h).i (a + 256) (a + s.val) : EReal) := by
  have e : k0_pay35 (F := Ideal) (icol x1 h.val h.isLt) (bcol x1 h.val h.isLt) (k0_pay19 m0) (ix2 s 0) = ((hd P G h).m (a + 256) : EReal) := by
    pointwise [k0_pay35]
    exact mN_at hb h hm
  rw [e]
  pointwise [k0_pay32, k0_pay31]
  exact last_wt (gates hb h) 255 rfl s

/-- What the chunk's end keeps of the carried state. -/
theorem dk_at : Ideal.exp (k0_pay31 (F := Ideal) (bcol x1 h.val h.isLt) (ix2 0 0) + k0_pay19 m0 (ix2 0 0) - mN x1 h.val h.isLt m0 (ix2 0 0))
    = (dec (hd P G h).f (hd P G h).i a (a + 256) : EReal) := by
  rw [mN_at hb h hm]
  pointwise [k0_pay31, k0_pay19]
  rw [hm]
  exact last_dec (gates hb h) 255 rfl

/-- A head's new normaliser. -/
theorem nV_at (hn : ∀ d, n0 (ix3 0 0 d) = ((hd P G h).n a d : EReal)) (d : Fin 256) :
    nV x0 x1 h.val h.isLt m0 n0 (ix3 0 0 d) = ((hd P G h).n (a + 256) d : EReal) := by
  pointwise [nV, k0_pay39, k0_pay36, k0_pay37, k0_pay34, k0_pay21]
  simp only [wk_at hb h hm, dk_at hb h hm, kh_at hb, hn]
  exact Hd.n_chunk (hd P G h) a d

/-- A head's new matrix state. -/
theorem cV_at (hc : ∀ d e, c0 (ix3 0 d e) = ((hd P G h).c a d e : EReal)) (d : Fin 256) (e : Fin 512) :
    cV x0 x1 h.val h.isLt m0 c0 (ix3 0 d e) = ((hd P G h).c (a + 256) d e : EReal) := by
  pointwise [cV, k0_pay38, k0_pay36, k0_pay37, k0_pay34, k0_pay20]
  simp only [wk_at hb h hm, dk_at hb h hm, kh_at hb, vh_at hb, hc]
  exact Hd.c_chunk (hd P G h) a d e

end Cert.Ml

end
-- ==== Proof.MlRun.lean ====
module

public import proofs.«01_k».proof.Proof.MlValue
public import proofs.«01_k».proof.Proof.Gen.Kernel7Ideal.Value
public import Idealize.ShloMosaic.Lib.Pipeline.ValueKit
/-! The mLSTM kernel's whole run: every grid point's blocks, the states carried from chunk to chunk, and the result array. -/

@[expose] public section

open Idealize Idealize.SL Idealize.ShloMosaic Idealize.ShloMosaic.TcCoe Cert.Kernel7Ideal Cert.Kernel7Ideal.Gen

set_option maxRecDepth 16384

noncomputable section

namespace Cert.Ml

variable (m : (ℓ : Loc nD τ sig) → Buf (Elt Ideal) ℓ) (c : Dev nD)

/-- A batch's projections. -/
def kP (b : Fin 8) (l : Fin 4096) (k : Fin 6144) : EReal := m ((c : Thread nD τ).loc main_arg0) (ix3 b l k)

/-- A batch's gates. -/
def kG (b : Fin 8) (l : Fin 4096) (h : Fin 128) : EReal := m ((c : Thread nD τ).loc main_arg1) (ix3 b l h)

/-- The norm weights. -/
def kW (q : Fin 2048) : EReal := m ((c : Thread nD τ).loc main_arg2) (ix1 q)

/-- The windows' block indices at a point. -/
theorem idx_all : ∀ t : Fin cfg0.N, win0_0.index t = ![t.val / 16, t.val % 16, 0] ∧ win0_1.index t = ![t.val / 16, t.val % 16, 0]
    ∧ win0_2.index t = ![0, 0] := by decide +kernel

/-- A point's batch. -/
def bt (t : Fin cfg0.N) : Fin 8 := ⟨t.val / 16, by have : t.val < 128 := t.isLt; omega⟩

/-- A point's first position. -/
def at0 (t : Fin cfg0.N) : ℕ := 256 * (t.val % 16)

/-- The projections' block. -/
theorem blk0 (t : Fin cfg0.N) (r : Fin 256) (k : Fin 6144) : iblk m c 0 t (ix3 0 r k) = kP m c (bt t) (pos (at0 t + r.val)) k := by
  have e : pos (at0 t + r.val) = ⟨256 * (t.val % 16) + r.val, by omega⟩ := Fin.ext (by simp only [pos, at0]; omega)
  rw [e]
  unfold kP bt
  blk_ext [iblk, V, idx_all t]

/-- The gates' block. -/
theorem blk1 (t : Fin cfg0.N) (r : Fin 256) (k : Fin 128) : iblk m c 1 t (ix3 0 r k) = kG m c (bt t) (pos (at0 t + r.val)) k := by
  have e : pos (at0 t + r.val) = ⟨256 * (t.val % 16) + r.val, by omega⟩ := Fin.ext (by simp only [pos, at0]; omega)
  rw [e]
  unfold kG bt
  blk_ext [iblk, V, idx_all t]

/-- The norm weights as a row. -/
theorem row_at (k : Fin 2048) : V m c main_v0 (ix2 0 k) = kW m c k := by
  unfold kW
  unfold V
  simp only [hostOps0, List.flatten_cons, List.flatten_nil, List.append_nil, List.cons_append, List.nil_append]
  entry_read
  pointwise

/-- The norm weights' block. -/
theorem blk2 (t : Fin cfg0.N) (k : Fin 2048) : iblk m c 2 t (ix2 0 k) = kW m c k := by
  refine Eq.trans ?_ (row_at m c k)
  blk_ext [iblk, idx_all t]

/-- A batch's head. -/
def kH (b : Fin 8) (h : Fin 4) : Hd := hd (kP m c b) (kG m c b) h

/-- The three carried buffers hold the heads' states after `n` positions. -/
structure Holds (H : Fin 4 → Hd) (n : ℕ) (xc : Vec Ideal S4x256x512 .f32) (xn : Vec Ideal S4x1x256 .f32) (xm : Vec Ideal S4x8x128 .f32) : Prop where
  hc : ∀ h d e, xc (ix3 h d e) = ((H h).c n d e : EReal)
  hn : ∀ h d, xn (ix3 h 0 d) = ((H h).n n d : EReal)
  hm : ∀ h, xm (ix3 h 0 0) = ((H h).m n : EReal)

/-- The zeros a first chunk stores hold the states before any position. -/
theorem holds_zero (H : Fin 4 → Hd) : Holds H 0 (k0_pay3 (F := Ideal)) (k0_pay4 (F := Ideal)) (k0_pay5 (F := Ideal)) where
  hc h d e := by
    pointwise [k0_pay3]
    unfold Hd.c wsum
    simp
  hn h d := by
    pointwise [k0_pay4]
    unfold Hd.n wsum
    simp
  hm h := by
    pointwise [k0_pay5]
    rfl

section Planes

variable {H : Fin 4 → Hd} {n : ℕ} {xc : Vec Ideal S4x256x512 .f32} {xn : Vec Ideal S4x1x256 .f32} {xm : Vec Ideal S4x8x128 .f32}
  (hH : Holds H n xc xn xm) (h : Fin 4)
include hH

/-- A head's stabiliser, read from its buffer. -/
theorem Holds.m1 : View.ld (Val := Elt Ideal) xm (rM1 h.val h.isLt) (ix3 0 0 0) = ((H h).m n : EReal) :=
  (congrArg xm (rM1_emb h.val h.isLt)).trans (hH.hm h)

/-- A head's normaliser, read from its buffer. -/
theorem Holds.n1 (d : Fin 256) : View.ld (Val := Elt Ideal) xn (rN h.val h.isLt) (ix3 0 0 d) = ((H h).n n d : EReal) :=
  (congrArg xn (rN_emb h.val h.isLt d)).trans (hH.hn h d)

/-- A head's matrix state, read from its buffer. -/
theorem Holds.c1 (d : Fin 256) (e : Fin 512) : View.ld (Val := Elt Ideal) xc (rC h.val h.isLt) (ix3 0 d e) = ((H h).c n d e : EReal) :=
  (congrArg xc (rC_emb h.val h.isLt d e)).trans (hH.hc h d e)

end Planes

variable (hP : ∀ b l k, m ((c : Thread nD τ).loc main_arg0) (ix3 b l k) = (((m ((c : Thread nD τ).loc main_arg0) (ix3 b l k) : EReal).toReal : ℝ) : EReal))
  (hG : ∀ b l k, m ((c : Thread nD τ).loc main_arg1) (ix3 b l k) = (((m ((c : Thread nD τ).loc main_arg1) (ix3 b l k) : EReal).toReal : ℝ) : EReal))
include hP hG

/-- A point's blocks hold the arguments' parts. -/
theorem blocks_at (t : Fin cfg0.N) :
    Blocks (kP m c (bt t)) (kG m c (bt t)) (kW m c) (at0 t) (iblk m c 0 t) (iblk m c 1 t) (iblk m c 2 t) where
  h0 := blk0 m c t
  h1 := blk1 m c t
  h2 := blk2 m c t
  hP p k := hP (bt t) p k
  hG p k := hG (bt t) p k

/-- What a point leaves, by its place in its batch. -/
theorem point_at (t : Fin cfg0.N)
    (ih : ¬ t.val % 16 = 0 → Holds (kH m c (bt t)) (at0 t) (outsAt0 m c (t.val - 1) (Nat.lt_of_le_of_lt (Nat.sub_le _ _) t.isLt)).2.1
      (outsAt0 m c (t.val - 1) (Nat.lt_of_le_of_lt (Nat.sub_le _ _) t.isLt)).2.2.1 (outsAt0 m c (t.val - 1) (Nat.lt_of_le_of_lt (Nat.sub_le _ _) t.isLt)).2.2.2) :
    Holds (kH m c (bt t)) (at0 t + 256) (outsAt0 m c t.val t.isLt).2.1 (outsAt0 m c t.val t.isLt).2.2.1 (outsAt0 m c t.val t.isLt).2.2.2
    ∧ ∀ (h : Fin 4) (r : Fin 256) (e : Fin 512), (outsAt0 m c t.val t.isLt).1 (ix3 0 r ⟨512 * h.val + e.val, by omega⟩)
      = res (kP m c (bt t)) (kG m c (bt t)) (kW m c) h (at0 t + r.val) e := by
  have hb := blocks_at m c hP hG t
  by_cases h0 : t.val % 16 = 0
  · have hz : Holds (kH m c (bt t)) (at0 t) (k0_pay3 (F := Ideal)) (k0_pay4 (F := Ideal)) (k0_pay5 (F := Ideal)) := by
      unfold at0
      rw [h0]
      exact holds_zero _
    rw [outsAt0_A m c t h0]
    dsimp only
    refine ⟨⟨fun h d e => ?_, fun h d => ?_, fun h => ?_⟩, fun h r e => ?_⟩
    · rw [c_first, fC_eq]
      exact (c_at _ _ _ _ _ h.val h.isLt d e).trans (cV_at hb h (hz.m1 h) (hz.c1 h) d e)
    · rw [n_first, fN_eq]
      exact (n_at _ _ _ _ _ h.val h.isLt d).trans (nV_at hb h (hz.m1 h) (hz.n1 h) d)
    · rw [m_first, fM_eq]
      exact (m_at _ _ _ h.val h.isLt).trans (mV_at hb h (hz.m1 h))
    · rw [o_first, fO_eq]
      exact (o_at _ _ _ _ _ _ _ h.val h.isLt r e).trans (oV_at hb h (hz.m1 h) (hz.n1 h) (hz.c1 h) r e)
  · have hz := ih h0
    rw [outsAt0_B m c t h0]
    dsimp only
    refine ⟨⟨fun h d e => ?_, fun h d => ?_, fun h => ?_⟩, fun h r e => ?_⟩
    · rw [c_later]
      exact (c_at _ _ _ _ _ h.val h.isLt d e).trans (cV_at hb h (hz.m1 h) (hz.c1 h) d e)
    · rw [n_later]
      exact (n_at _ _ _ _ _ h.val h.isLt d).trans (nV_at hb h (hz.m1 h) (hz.n1 h) d)
    · rw [m_later]
      exact (m_at _ _ _ h.val h.isLt).trans (mV_at hb h (hz.m1 h))
    · rw [o_later]
      exact (o_at _ _ _ _ _ _ _ h.val h.isLt r e).trans (oV_at hb h (hz.m1 h) (hz.n1 h) (hz.c1 h) r e)

/-- The states every point leaves. -/
theorem state_at : ∀ (n : ℕ) (hn : n < cfg0.N),
    Holds (kH m c (bt ⟨n, hn⟩)) (at0 ⟨n, hn⟩ + 256) (outsAt0 m c n hn).2.1 (outsAt0 m c n hn).2.2.1 (outsAt0 m c n hn).2.2.2
  | 0, hn => (point_at m c hP hG ⟨0, hn⟩ fun h => absurd (Nat.zero_mod _) h).1
  | n + 1, hn => (point_at m c hP hG ⟨n + 1, hn⟩ fun h => by
      have key := state_at n (by omega)
      dsimp only at h ⊢
      rw [show bt ⟨n + 1, hn⟩ = bt ⟨n, by omega⟩ from Fin.ext (by simp only [bt]; omega),
        show at0 ⟨n + 1, hn⟩ = at0 ⟨n, by omega⟩ + 256 by simp only [at0]; omega]
      exact key).1

/-- The result every point leaves. -/
theorem out_at (t : Fin cfg0.N) (h : Fin 4) (r : Fin 256) (e : Fin 512) :
    (outsAt0 m c t.val t.isLt).1 (ix3 0 r ⟨512 * h.val + e.val, by omega⟩)
      = res (kP m c (bt t)) (kG m c (bt t)) (kW m c) h (at0 t + r.val) e :=
  (point_at m c hP hG t fun h0 => by
    have key := state_at m c hP hG (t.val - 1) (Nat.lt_of_le_of_lt (Nat.sub_le _ _) t.isLt)
    rw [show bt t = bt ⟨t.val - 1, Nat.lt_of_le_of_lt (Nat.sub_le _ _) t.isLt⟩ from Fin.ext (by simp only [bt]; omega),
      show at0 t = at0 ⟨t.val - 1, Nat.lt_of_le_of_lt (Nat.sub_le _ _) t.isLt⟩ + 256 by simp only [at0]; omega]
    exact key).2 h r e

/-- The result array. -/
theorem array_at (b : Fin 8) (l : Fin 4096) (q : Fin 2048) :
    Value.G3 m c (ix3 b l q) = res (kP m c b) (kG m c b) (kW m c) ⟨q.val / 512, by omega⟩ l.val ⟨q.val % 512, by omega⟩ := by
  have hN : 16 * b.val + l.val / 256 < cfg0.N := by
    show _ < 128
    omega
  have hp : Value.pt3Of (ix3 b l q) = 16 * b.val + l.val / 256 := by
    show 16 * (b.val / 1 - 0) + 1 * (l.val / 256 - 0) + 1 * (q.val / 2048 - 0) = _
    omega
  have hl : Value.loc3Of (ix3 b l q) = ix3 0 ⟨l.val % 256, by omega⟩ ⟨512 * (q.val / 512) + q.val % 512, by omega⟩ := by
    funext a
    match a with
    | ⟨0, _⟩ => exact Fin.ext (Nat.mod_one _)
    | ⟨1, _⟩ => rfl
    | ⟨2, _⟩ => exact Fin.ext (by show q.val % 2048 = 512 * (q.val / 512) + q.val % 512; omega)
  unfold Value.G3
  rw [dif_pos (by rw [hp]; exact hN), ← Value.outsAt0_sweep m c _ (by rw [hp]; exact hN), hl]
  have key := out_at m c hP hG ⟨16 * b.val + l.val / 256, hN⟩ ⟨q.val / 512, by omega⟩ ⟨l.val % 256, by omega⟩ ⟨q.val % 512, by omega⟩
  dsimp only at key
  have hbt : bt ⟨16 * b.val + l.val / 256, hN⟩ = b := Fin.ext (by simp only [bt]; omega)
  have hat : at0 ⟨16 * b.val + l.val / 256, hN⟩ + l.val % 256 = l.val := by simp only [at0]; omega
  rw [hbt, hat] at key
  refine Eq.trans ?_ key
  simp only [hp]

end Cert.Ml

end
-- ==== Proof.MlTrips.lean ====
module

public import proofs.«01_k».proof.Proof.Gen.Reference7Ideal.Run
public import proofs.«01_k».proof.Proof.Gen.Reference7Ideal.Step

@[expose] public section

noncomputable section

namespace Cert.Ml.Ref

open Idealize.ShloMosaic Idealize.ShloMosaic.TcCoe Idealize.SL.Sem Idealize.ShloMosaic.StableHlo
open Cert.Reference7Ideal Cert.Reference7Ideal.Gen Cert.Reference7Ideal.Value
open Cert.Reference7Ideal.Step (State)

variable {F : FTy → Type} [FloatOps F]

/-- The loop's state after `n` chunks, of the two arguments the loop reads. -/
def chunks (a0 : (⟨S8x4096x6144, .bf16⟩ : BufTy).Contents (Elt F)) (a1 : (⟨S8x4096x128, .f32⟩ : BufTy).Contents (Elt F)) : ℕ → State F
  | 0 => Step.init a0 a1
  | n + 1 => Step.step n (chunks a0 a1 n)

/-- The loop's buffers before trip `n` are the state `s`, the trip's number and the causal mask. -/
def At (V : Valuation τ sig (Elt F)) (n : ℕ) (s : State F) : Prop :=
  (V (Proc.devRef .tc main_v32_6) = constantI S_ 32 (BitVec.ofNat 32 n) ∧ V (Proc.devRef .tc main_v32_5) = Step.K_main_v27 (F := F))
  ∧ s = ⟨V (Proc.devRef .tc main_v32_7), V (Proc.devRef .tc main_v32_8), V (Proc.devRef .tc main_v32_9),
      V (Proc.devRef .tc main_v32_10), V (Proc.devRef .tc main_v32_0), V (Proc.devRef .tc main_v32_1), V (Proc.devRef .tc main_v32_2),
      V (Proc.devRef .tc main_v32_3), V (Proc.devRef .tc main_v32_4)⟩

set_option maxRecDepth 65536 in
set_option maxHeartbeats 2000000 in
/-- A trip takes a state to its step. -/
theorem At.next {V : Valuation τ sig (Elt F)} {n : ℕ} {s : State F} (h : At V n s) : At (STEP V) (n + 1) (Step.step n s) := by
  obtain ⟨⟨h6, h5⟩, rfl⟩ := h
  refine ⟨⟨?_, (STEP_main_v32_5 V).trans h5⟩, ?_⟩
  · rw [STEP_main_v32_6, step_main_v32_6, h6]
    funext i
    change BitVec.ofNat 32 n + 1#32 = _
    rw [← BitVec.ofNat_add]
    rfl
  · rw [STEP_main_v32_7, STEP_main_v32_8, STEP_main_v32_9, STEP_main_v32_10, STEP_main_v32_0, STEP_main_v32_1, STEP_main_v32_2,
      STEP_main_v32_3, STEP_main_v32_4]
    unfold step_main_v32_7 step_main_v32_8 step_main_v32_9 step_main_v32_10 res_main_while0b_v120 res_main_while0b_v117 res_main_while0b_v113 res_main_while0b_v110 res_main_while0b_v106 res_main_while0b_v87 res_main_while0b_v85 res_main_while0b_v79 res_main_while0b_v77 res_main_while0b_v74 res_main_while0b_v65 res_main_while0b_v63 res_main_while0b_v62 res_main_while0b_v61 res_main_while0b_v60
    rw [h6, h5]
    rfl

set_option maxRecDepth 65536 in
set_option maxHeartbeats 2000000 in
/-- The loop starts at the initial state. -/
theorem At.entry (m : (ℓ : Loc nD τ sig) → Buf (Elt F) ℓ) (c : Dev nD) :
    At (entryContents preI m c) 0 (chunks (m ((c.tc : Thread nD τ).loc main_arg0)) (m ((c.tc : Thread nD τ).loc main_arg1)) 0) := by
  refine ⟨⟨?_, ?_⟩, ?_⟩
  · simp only [entryContents, afterL_cons, afterL_nil]; after_reads_simp; rfl
  · simp only [entryContents, afterL_cons, afterL_nil]; after_reads_simp; rfl
  · unfold chunks Step.init
    congr 1 <;>
      symm <;> (simp only [entryContents, afterL_cons, afterL_nil]; after_reads_simp) <;> rfl

/-- Before trip `n` the loop holds the state after `n` chunks. -/
theorem At.all (m : (ℓ : Loc nD τ sig) → Buf (Elt F) ℓ) (c : Dev nD) (n : ℕ) :
    At (STEP^[n] (entryContents preI m c)) n (chunks (m ((c.tc : Thread nD τ).loc main_arg0)) (m ((c.tc : Thread nD τ).loc main_arg1)) n) := by
  induction n with
  | zero => exact At.entry m c
  | succ n ih => rw [Function.iterate_succ_apply']; exact ih.next

set_option maxRecDepth 65536 in
set_option maxHeartbeats 2000000 in
/-- The reference's result, of the state after all 64 chunks. -/
theorem out_eq (m : (ℓ : Loc nD τ sig) → Buf (Elt F) ℓ) (c : Dev nD) :
    out_main_v59 (STEP^[64] (entryContents preI m c))
      = Step.R_main_v59 (chunks (m ((c.tc : Thread nD τ).loc main_arg0)) (m ((c.tc : Thread nD τ).loc main_arg1)) 64)
          (m ((c.tc : Thread nD τ).loc main_arg0)) (m ((c.tc : Thread nD τ).loc main_arg2)) := by
  have hs := (At.all m c 64).2
  have h0 := iter_main_arg0 m c 64
  have h2 := iter_main_arg2 m c 64
  rw [hs]
  clear hs
  revert h0 h2
  generalize STEP^[64] (entryContents preI m c) = V
  intro h0 h2
  rw [← h0, ← h2]
  rfl

end Cert.Ml.Ref

end
-- ==== Proof.MlRefValue.lean ====
module

public import proofs.«01_k».proof.Proof.MlTrips
public import proofs.«01_k».proof.Proof.MlSpec
public import proofs.«01_k».proof.Proof.RefValue
public import Idealize.ShloMosaic.Lib.Pointwise
/-! The reference's loop over the extended reals: it keeps the states of the mLSTM recurrence at its chunks' starts and
writes the recurrence's outputs. -/

@[expose] public section

set_option maxRecDepth 16384

noncomputable section

namespace Cert.Ml.Ref

open Idealize Idealize.ShloMosaic Idealize.ShloMosaic.TcCoe Idealize.SL.Sem Idealize.ShloMosaic.StableHlo
open Cert.Reference7Ideal Cert.Reference7Ideal.Gen
open Cert.Reference7Ideal.Step
open Cert.Ssd (ge_word bit_select)
open Cert.Ssd.Ref (fold_add window_prefix word_start)

/-- The host's running sum along the last axis sums a prefix. -/
theorem runsum (x : FVec Ideal S8x4x64 .f32) (init : FVec Ideal S_ .f32) (hi : init (Shape.Idx.first h_S_) = 0)
    (b : Fin 8) (h : Fin 4) (t : Fin 64) :
    Host.reduceWindowAdd ![1, 1, 64] ![1, 1, 1] ![0, 0, 63] ![0, 0, 0] x init
      reduceWindows_S8x4x64_S8x4x64_w1s1p0_0_w1s1p0_0_w64s1p63_0 h_S_ (ix3 b h t)
      = ∑ k : Fin 64, if k ≤ t then x (ix3 b h k) else 0 := by
  refine Eq.trans ?_ (window_prefix 63 rfl (fun k => x (ix3 b h k)) t)
  unfold Host.reduceWindowAdd
  rw [Ideal.hostReduceWindowAdd_def, hi]
  unfold Ideal.hostReduceWindowAdd Host.reduceWindow
  rw [fold_add, zero_add, ← List.ofFn_eq_map, List.sum_ofFn]
  refine ((Finset.sum_congr rfl fun i _ => dite_congr rfl (fun _ => rfl) (fun _ => rfl)).trans (Equiv.sum_comp (Shape.rowMajor (⟨3, ![1, 1, 64]⟩ : Shape)).symm
      (fun w : (⟨3, ![1, 1, 64]⟩ : Shape).Idx =>
        if hin : ∀ a : Fin S8x4x64.rank, (![0, 0, 63] : Fin 3 → ℕ) a ≤ ((ix3 b h t : S8x4x64.Idx) a).val * (![1, 1, 1] : Fin 3 → ℕ) a + (w a).val
            ∧ ((ix3 b h t : S8x4x64.Idx) a).val * (![1, 1, 1] : Fin 3 → ℕ) a + (w a).val - (![0, 0, 63] : Fin 3 → ℕ) a < S8x4x64.size a then
          x (fun a => ⟨((ix3 b h t : S8x4x64.Idx) a).val * (![1, 1, 1] : Fin 3 → ℕ) a + (w a).val - (![0, 0, 63] : Fin 3 → ℕ) a, (hin a).2⟩) else (0 : EReal)))).trans ?_
  rw [sum_idx3]
  simp only [Finset.univ_unique, Finset.sum_singleton]
  refine Finset.sum_congr rfl fun w _ => ?_
  by_cases hc : 63 ≤ t.val + w.val ∧ t.val + w.val - 63 < 64
  · rw [dif_pos hc, dif_pos]
    · refine congrArg x (funext fun a => Fin.ext ?_)
      fin_cases a <;> simp
    · intro a
      fin_cases a <;> simp <;> omega
  · rw [dif_neg hc, dif_neg]
    intro hin
    exact hc (by simpa using hin 2)

/-- Trip `j`'s position among the sequence's. -/
theorem pos_of {j : ℕ} (hj : j < 64) (t : Fin 64) (v : ℕ) (hv : v < 4096) (h : v = j * 64 + t.val) : (⟨v, hv⟩ : Fin 4096) = pos (64 * j + t.val) := by
  apply Fin.ext
  simp only [pos]
  omega

/-- The causal mask's entry. -/
theorem mask_at (r c : Fin 64) (x y : EReal) : Scalar.select (K_main_v27 (F := Ideal) (ix2 r c)) x y = if c ≤ r then x else y := by
  pointwise [K_main_v27, K_main_v26, K_main_call0_v0, K_main_call0_v1, K_main_call0_v2, K_main_call0_v3, K_main_call0_v4,
    K_main_call0_v5, K_main_call0_c, K_main_call0_c_0, K_main_c]
  rw [show IntOp.addi (BitVec.ofNat 32 r.val) 0#32 = BitVec.ofNat 32 r.val from BitVec.add_zero _, ge_word (by omega) (by omega),
    bit_select]
  by_cases h : c ≤ r
  · rw [if_pos h, if_pos (show c.val ≤ r.val from h)]; rfl
  · rw [if_neg h, if_neg (show ¬c.val ≤ r.val from h)]; rfl

section Args

variable (a0 : (⟨S8x4096x6144, .bf16⟩ : BufTy).Contents (Elt Ideal)) (a1 : (⟨S8x4096x128, .f32⟩ : BufTy).Contents (Elt Ideal))

/-- A batch's projections. -/
def rP (b : Fin 8) (l : Fin 4096) (k : Fin 6144) : EReal := a0 (ix3 b l k)

/-- A batch's gates. -/
def rG (b : Fin 8) (l : Fin 4096) (h : Fin 128) : EReal := a1 (ix3 b l h)

/-- A head's sequences. -/
def rH (b : Fin 8) (h : Fin 4) : Hd := hd (rP a0 b) (rG a1 b) h

/-- What the reference's state holds before trip `j`: the five operands of the loop. -/
structure Operands (s : State Ideal) : Prop where
  h0 : s.main_v32_0 = A_main_v15 a0 a1
  h1 : s.main_v32_1 = A_main_v18 a0 a1
  h2 : s.main_v32_2 = A_main_v21 a0 a1
  h3 : s.main_v32_3 = A_main_v23 a0 a1
  h4 : s.main_v32_4 = A_main_v25 a0 a1

variable (hP : ∀ b l k, a0 (ix3 b l k) = (((a0 (ix3 b l k) : EReal).toReal : ℝ) : EReal))
  (hG : ∀ b l k, a1 (ix3 b l k) = (((a1 (ix3 b l k) : EReal).toReal : ℝ) : EReal))
variable (s : State Ideal) (j : ℕ) (hj : j < 64) (ho : Operands a0 a1 s) (b : Fin 8) (h : Fin 4)
include hj ho

section Proj
include hP

/-- A trip's scaled queries. -/
theorem q_at (t : Fin 64) (d : Fin 256) : b5 j s (ix4 b h t d) = ((rH a0 a1 b h).q (64 * j + t.val) d : EReal) * ((1 / 16 : ℝ) : EReal) := by
  pointwise [b5, b4, b3, b2, b1, b0]
  simp [Host.clampedStart, constantI, word_start j hj]
  rw [ho.h0]
  pointwise [A_main_v15, A_main_v14, A_main_v13, A_main_v6, A_main_v1, A_main_v0, K_main_v5, K_main_cst]
  rw [Hd.scale, one_div, hP, pos_of hj t _ _ (by omega)]
  refine congrArg (fun k => ((rP a0 b (pos (64 * j + t.val)) k).toReal : EReal) * _) (Fin.ext ?_)
  dsimp only
  omega

/-- A trip's keys. -/
theorem k_at (t : Fin 64) (d : Fin 256) : b11 j s (ix4 b h t d) = ((rH a0 a1 b h).k (64 * j + t.val) d : EReal) := by
  pointwise [b11, b10, b9, b8, b7, b6]
  simp [Host.clampedStart, constantI, word_start j hj]
  rw [ho.h1]
  pointwise [A_main_v18, A_main_v17, A_main_v16, A_main_v2, A_main_v0]
  rw [hP, pos_of hj t _ _ (by omega)]
  refine congrArg (fun k => ((rP a0 b (pos (64 * j + t.val)) k).toReal : EReal)) (Fin.ext ?_)
  dsimp only
  omega

/-- A trip's values. -/
theorem v_at (t : Fin 64) (e : Fin 512) : b17 j s (ix4 b h t e) = ((rH a0 a1 b h).v (64 * j + t.val) e : EReal) := by
  pointwise [b17, b16, b15, b14, b13, b12]
  simp [Host.clampedStart, constantI, word_start j hj]
  rw [ho.h2]
  pointwise [A_main_v21, A_main_v20, A_main_v19, A_main_v3, A_main_v0]
  rw [hP, pos_of hj t _ _ (by omega)]
  refine congrArg (fun k => ((rP a0 b (pos (64 * j + t.val)) k).toReal : EReal)) (Fin.ext ?_)
  dsimp only
  omega

end Proj

section Gate
include hG

/-- A trip's input gates. -/
theorem i_at (t : Fin 64) : b22 j s (ix3 b h t) = ((rH a0 a1 b h).i (64 * j + t.val) : EReal) := by
  pointwise [b22, b21, b20, b19, b18]
  simp [Host.clampedStart, constantI, word_start j hj]
  rw [ho.h3]
  pointwise [A_main_v23, A_main_v22, A_main_v7]
  rw [hG, pos_of hj t _ _ (by omega)]
  rfl

/-- A trip's log forget gates. -/
theorem f_at (t : Fin 64) : b27 j s (ix3 b h t) = ((rH a0 a1 b h).f (64 * j + t.val) : EReal) := by
  pointwise [b27, b26, b25, b24, b23]
  simp [Host.clampedStart, constantI, word_start j hj]
  rw [ho.h4]
  pointwise [A_main_v25, A_main_v24, A_main_v12, A_main_v11, A_main_v10, A_main_v9, A_main_v8]
  rw [hG, lsg_host, pos_of hj t _ _ (by omega)]
  rfl

/-- A trip's summed log forget gates. -/
theorem cum_at (t : Fin 64) :
    b30 j s (ix3 b h t) = ((fs (rH a0 a1 b h).f (64 * j + t.val + 1) - fs (rH a0 a1 b h).f (64 * j) : ℝ) : EReal) := by
  unfold b30
  rw [runsum _ _ (by pointwise [b29, b28]), ← fs_prefix]
  refine Finset.sum_congr rfl fun k _ => ?_
  rw [f_at a0 a1 hG s j hj ho b h k]

/-- A trip's gates. -/
theorem gates : Gates (L := 64) (rH a0 a1 b h).f (rH a0 a1 b h).i (64 * j) (fun t => b30 j s (ix3 b h t)) (fun t => b22 j s (ix3 b h t)) where
  hb := cum_at a0 a1 hG s j hj ho b h
  hg := i_at a0 a1 hG s j hj ho b h

omit hG hj ho in
/-- A trip's masked log weight. -/
theorem logd (t u : Fin 64) : b43 j s (ix4 b h t u)
    = if u ≤ t then b30 j s (ix3 b h t) - b30 j s (ix3 b h u) + b22 j s (ix3 b h u) else ⊥ := by
  pointwise [b43, b42, b41, b40, b39, b38, b37, b36, b35, b34, b33, b32, b31]
  rw [mask_at, minf]

variable (hm : s.main_v32_9 (ix2 b h) = ((rH a0 a1 b h).m (64 * j) : EReal))
include hm

/-- A position's stabiliser. -/
theorem m_at (t : Fin 64) : b49 j s (ix3 b h t) = ((rH a0 a1 b h).m (64 * j + t.val + 1) : EReal) := by
  pointwise [b49, b48, b47, b46, b45, b44]
  rw [hm, minf]
  simp only [logd]
  exact row_max (gates a0 a1 hG s j hj ho b h) t

/-- What a position keeps of the carried state. -/
theorem dec_at (t : Fin 64) : b57 j s (ix3 b h t) = (dec (rH a0 a1 b h).f (rH a0 a1 b h).i (64 * j) (64 * j + t.val + 1) : EReal) := by
  pointwise [b57, b56, b46, b45, b44]
  rw [m_at a0 a1 hG s j hj ho b h hm, hm]
  exact row_dec (gates a0 a1 hG s j hj ho b h) t

/-- The stabiliser after the trip. -/
theorem mnew_at : b85 j s (ix2 b h) = ((rH a0 a1 b h).m (64 * j + 64) : EReal) := by
  pointwise [b85, b84, b83, b82, b81, b80, b79, b78, b77, b76]
  rw [hm, minf]
  exact last_max (gates a0 a1 hG s j hj ho b h) 63 rfl

/-- A position's weight after the trip. -/
theorem wend_at (u : Fin 64) : b89 j s (ix3 b h u) = (wt (rH a0 a1 b h).f (rH a0 a1 b h).i (64 * j + 64) (64 * j + u.val) : EReal) := by
  pointwise [b89, b88, b87, b86, b81, b80, b79, b78, b77, b76]
  rw [mnew_at a0 a1 hG s j hj ho b h hm]
  exact last_wt (gates a0 a1 hG s j hj ho b h) 63 rfl u

/-- What the trip keeps of the carried state. -/
theorem dend_at : b92 j s (ix2 b h) = (dec (rH a0 a1 b h).f (rH a0 a1 b h).i (64 * j) (64 * j + 64) : EReal) := by
  pointwise [b92, b91, b90, b77, b76]
  rw [mnew_at a0 a1 hG s j hj ho b h hm, hm]
  exact last_dec (gates a0 a1 hG s j hj ho b h) 63 rfl

include hP

/-- A position's weighted score. -/
theorem sw_at (t u : Fin 64) : b55 j s (ix4 b h t u) = ((rH a0 a1 b h).sk (64 * j + t.val) (64 * j + u.val) : EReal)
    * ((if u ≤ t then wt (rH a0 a1 b h).f (rH a0 a1 b h).i (64 * j + t.val + 1) (64 * j + u.val) else 0 : ℝ) : EReal) := by
  pointwise [b55, b54, b53, b52, b51, b50]
  rw [logd, m_at a0 a1 hG s j hj ho b h hm]
  refine congrArg₂ (· * ·) ?_ (row_wt (gates a0 a1 hG s j hj ho b h) t u)
  simp only [q_at a0 a1 hP s j hj ho b h, k_at a0 a1 hP s j hj ho b h]
  rw [Hd.scale_out, Hd.sk_eq]

/-- The matrix state after the trip. -/
theorem c_step (hc : ∀ d e, s.main_v32_7 (ix4 b h d e) = ((rH a0 a1 b h).c (64 * j) d e : EReal)) (d : Fin 256) (e : Fin 512) :
    b100 j s (ix4 b h d e) = ((rH a0 a1 b h).c (64 * j + 64) d e : EReal) := by
  pointwise [b100, b99, b98, b97, b96, b95, b94, b93]
  simp only [dend_at a0 a1 hG s j hj ho b h hm, wend_at a0 a1 hG s j hj ho b h hm, k_at a0 a1 hP s j hj ho b h,
    v_at a0 a1 hP s j hj ho b h, hc]
  refine Eq.trans (congrArg _ (Finset.sum_congr rfl fun x _ => ?_)) (Hd.c_chunk (L := 64) (rH a0 a1 b h) (64 * j) d e)
  rw [mul_comm ((rH a0 a1 b h).k _ d : EReal)]

/-- The normaliser state after the trip. -/
theorem n_step (hn : ∀ d, s.main_v32_8 (ix3 b h d) = ((rH a0 a1 b h).n (64 * j) d : EReal)) (d : Fin 256) :
    b105 j s (ix3 b h d) = ((rH a0 a1 b h).n (64 * j + 64) d : EReal) := by
  pointwise [b105, b104, b103, b102, b101]
  simp only [dend_at a0 a1 hG s j hj ho b h hm, wend_at a0 a1 hG s j hj ho b h hm, k_at a0 a1 hP s j hj ho b h, hn]
  refine Eq.trans (congrArg _ (Finset.sum_congr rfl fun x _ => ?_)) (Hd.n_chunk (L := 64) (rH a0 a1 b h) (64 * j) d)
  exact mul_comm _ _

/-- A trip's output. -/
theorem ho_at (hc : ∀ d e, s.main_v32_7 (ix4 b h d e) = ((rH a0 a1 b h).c (64 * j) d e : EReal))
    (hn : ∀ d, s.main_v32_8 (ix3 b h d) = ((rH a0 a1 b h).n (64 * j) d : EReal)) (t : Fin 64) (e : Fin 512) :
    b75 j s (ix4 b h t e) = (rH a0 a1 b h).ho (64 * j + t.val) e := by
  pointwise [b75, b74, b73, b72, b71, b70, b69, b68, b67, b66, b65, b64, b63, b62, b61, b60, b59, b58]
  simp only [sw_at a0 a1 hP hG s j hj ho b h hm, dec_at a0 a1 hG s j hj ho b h hm, m_at a0 a1 hG s j hj ho b h hm,
    q_at a0 a1 hP s j hj ho b h, v_at a0 a1 hP s j hj ho b h, hc, hn, Hd.scale_out, Hd.num_eq]
  rw [Hd.den_eq]
  rfl

end Gate

end Args

section Whole

variable (a0 : (⟨S8x4096x6144, .bf16⟩ : BufTy).Contents (Elt Ideal)) (a1 : (⟨S8x4096x128, .f32⟩ : BufTy).Contents (Elt Ideal))

/-- The loop's operands stay what they are. -/
theorem operands (n : ℕ) : Operands a0 a1 (chunks a0 a1 n) := by
  induction n with
  | zero => exact ⟨rfl, rfl, rfl, rfl, rfl⟩
  | succ n ih => exact ⟨ih.h0, ih.h1, ih.h2, ih.h3, ih.h4⟩

/-- A trip writes its own chunk of the outputs and leaves the others. -/
theorem outputs_step (s : State Ideal) (n : ℕ) (hn : n < 64) (j : Fin 64) (b : Fin 8) (h : Fin 4) (t : Fin 64) (e : Fin 512) :
    b111 n s (ix5 j b h t e) = if j.val = n then b75 n s (ix4 b h t e) else s.main_v32_10 (ix5 j b h t e) := by
  pointwise [b111, b110, b109, b108, b107, b106]
  simp [Host.clampedStart, constantI, word_start n hn]
  by_cases h : j.val = n
  · rw [if_pos (by omega), if_pos h]
  · rw [if_neg (by omega), if_neg h]

variable (hP : ∀ b l k, a0 (ix3 b l k) = (((a0 (ix3 b l k) : EReal).toReal : ℝ) : EReal))
  (hG : ∀ b l k, a1 (ix3 b l k) = (((a1 (ix3 b l k) : EReal).toReal : ℝ) : EReal))
include hP hG

/-- The reference's states after `n` chunks are the recurrence's. -/
theorem state_n (b : Fin 8) (h : Fin 4) (n : ℕ) (hn : n ≤ 64) :
    (chunks a0 a1 n).main_v32_9 (ix2 b h) = ((rH a0 a1 b h).m (64 * n) : EReal)
    ∧ (∀ d, (chunks a0 a1 n).main_v32_8 (ix3 b h d) = ((rH a0 a1 b h).n (64 * n) d : EReal))
    ∧ ∀ d e, (chunks a0 a1 n).main_v32_7 (ix4 b h d e) = ((rH a0 a1 b h).c (64 * n) d e : EReal) := by
  induction n with
  | zero =>
    refine ⟨?_, fun d => ?_, fun d e => ?_⟩
    · change K_main_v30 (F := Ideal) (ix2 b h) = _
      pointwise [K_main_v30, K_main_cst_2]
      rfl
    · change K_main_v29 (F := Ideal) (ix3 b h d) = _
      pointwise [K_main_v29, K_main_cst_1]
      unfold Hd.n wsum
      simp
    · change K_main_v28 (F := Ideal) (ix4 b h d e) = _
      pointwise [K_main_v28, K_main_cst_0]
      unfold Hd.c wsum
      simp
  | succ n ih =>
    obtain ⟨hm, hs, hc⟩ := ih (by omega)
    have ho := operands a0 a1 n
    exact ⟨mnew_at a0 a1 hG _ n (by omega) ho b h hm, n_step a0 a1 hP hG _ n (by omega) ho b h hm hs,
      c_step a0 a1 hP hG _ n (by omega) ho b h hm hc⟩

/-- The reference's outputs after `n` chunks. -/
theorem outputs_n (b : Fin 8) (h : Fin 4) (n : ℕ) (hn : n ≤ 64) (j : Fin 64) (hj : j.val < n) (t : Fin 64) (e : Fin 512) :
    (chunks a0 a1 n).main_v32_10 (ix5 j b h t e) = (rH a0 a1 b h).ho (64 * j.val + t.val) e := by
  induction n with
  | zero => exact absurd hj (by omega)
  | succ n ih =>
    refine (outputs_step (chunks a0 a1 n) n (by omega) j b h t e).trans ?_
    by_cases hjn : j.val = n
    · rw [if_pos hjn, hjn]
      obtain ⟨hm, hs, hc⟩ := state_n a0 a1 hP hG b h n (by omega)
      exact ho_at a0 a1 hP hG _ n (by omega) (operands a0 a1 n) b h hm hc hs t e
    · rw [if_neg hjn]
      exact ih (by omega) (by omega)

omit hP hG in
/-- The reference's result at an index, of a state whose outputs are known. -/
theorem result_of (a2 : (⟨S2048, .f32⟩ : BufTy).Contents (Elt Ideal)) (b : Fin 8) (s : State Ideal)
    (hs : ∀ (h : Fin 4) (j t : Fin 64) (e : Fin 512), s.main_v32_10 (ix5 j b h t e) = (rH a0 a1 b h).ho (64 * j.val + t.val) e)
    (l : Fin 4096) (q : Fin 2048) :
    R_main_v59 s a0 a2 (ix3 b l q)
      = res (rP a0 b) (rG a1 b) (fun q => a2 (ix1 q)) ⟨q.val / 512, by omega⟩ l.val ⟨q.val % 512, by omega⟩ := by
  pointwise [R_main_v59]
  simp only [hs]
  unfold res Hd.out
  have hl : 64 * (l.val / 64) + l.val % 64 = l.val := by omega
  have hq : (⟨512 * (q.val / 512) + q.val % 512, by omega⟩ : Fin 2048) = q := Fin.ext (by dsimp only; omega)
  have hg : rP a0 b (pos l.val) ⟨4096 + 512 * (q.val / 512) + q.val % 512, by omega⟩ = a0 (ix3 b l ⟨4096 + q.val, by omega⟩) :=
    congrArg₂ (fun l k => a0 (ix3 b l k)) (Fin.ext (by simp only [pos]; omega)) (Fin.ext (by dsimp only; omega))
  simp only [hl]
  rw [hq, hg]
  rfl

/-- The reference's result at an index. -/
theorem result_at (a2 : (⟨S2048, .f32⟩ : BufTy).Contents (Elt Ideal)) (b : Fin 8) (l : Fin 4096) (q : Fin 2048) :
    R_main_v59 (chunks a0 a1 64) a0 a2 (ix3 b l q)
      = res (rP a0 b) (rG a1 b) (fun q => a2 (ix1 q)) ⟨q.val / 512, by omega⟩ l.val ⟨q.val % 512, by omega⟩ :=
  result_of a0 a1 a2 b _ (fun h j t e => outputs_n a0 a1 hP hG b h 64 le_rfl j j.isLt t e) l q

end Whole

end Cert.Ml.Ref

end
-- ==== Proof.Norm.lean ====
module

public import proofs.«01_k».proof.Proof.Gen.Kernel8Ideal.Value
public import proofs.«01_k».proof.Proof.Product
public import Idealize.ShloMosaic.Lib.Pipeline.ValueKit
/-! The norm in front of the mLSTM layer with the projection to the gates: what a grid point stores, the two result arrays. -/

@[expose] public section

open Idealize Idealize.SL Idealize.ShloMosaic Idealize.ShloMosaic.TcCoe Idealize.ShloMosaic.Tactic Cert.Kernel8Ideal Cert.Kernel8Ideal.Gen Cert.Product

set_option maxRecDepth 16384

noncomputable section

namespace Cert.Norm

/-- A row over its root mean square, times the weights. -/
def normed (x w : Fin 2048 → EReal) (k : Fin 2048) : EReal :=
  x k * Ideal.rsqrt (Ideal.div (∑ j, x j * x j) (Ideal.ofBits .f32 0x45000000#32) + Ideal.ofBits .f32 0x358637BD#32) * w k

/-- A point's first stored element. -/
theorem pay1_at (x0 : Vec Ideal S256x2048 .f32) (x1 : Vec Ideal S1x2048 .f32) (r : Fin 256) (k : Fin 2048) :
    k0_pay1 x0 x1 (ix2 r k) = normed (fun j => x0 (ix2 r j)) (fun j => x1 (ix2 0 j)) k := by
  unfold normed
  pointwise [k0_pay1]

/-- A point's second stored element. -/
theorem pay2_at (x0 : Vec Ideal S256x2048 .f32) (x1 : Vec Ideal S1x2048 .f32) (x2 : Vec Ideal S2048x128 .bf16) (x3 : Vec Ideal S1x128 .f32) (r : Fin 256) (e : Fin 128) :
    k0_pay2 x0 x1 x2 x3 (ix2 r e)
      = prod (K := 2048) (normed (fun j => x0 (ix2 r j)) (fun j => x1 (ix2 0 j))) (fun k => x2 (ix2 k e)) + (x3 (ix2 0 e) : EReal) := by
  have h : ∀ k, k0_pay1 x0 x1 (ix2 r k) = normed (fun j => x0 (ix2 r j)) (fun j => x1 (ix2 0 j)) k := pay1_at x0 x1 r
  refine Eq.trans ?_ (congrArg (fun y : Fin 2048 → EReal => prod y (fun k => x2 (ix2 k e)) + (x3 (ix2 0 e) : EReal)) (funext h))
  unfold prod k0_pay2
  generalize k0_pay1 x0 x1 = y
  pointwise

variable (c : Dev nD) (m : (ℓ : Loc nD τ sig) → Buf (Elt Ideal) ℓ)

/-- The activations. -/
def xA (l : Fin 32768) (k : Fin 2048) : EReal := m ((c : Thread nD τ).loc main_arg0) (ix2 l k)

/-- The norm weights. -/
def nA (k : Fin 2048) : EReal := m ((c : Thread nD τ).loc main_arg1) (ix1 k)

/-- The gates' weights, padded with zeros. -/
def wA (k : Fin 2048) (e : Fin 128) : EReal :=
  if h : e.val < 8 then m ((c : Thread nD τ).loc main_arg2) (ix3 0 k ⟨6144 + e.val, by omega⟩) else 0

/-- The gates' biases, padded with zeros. -/
def bA (e : Fin 128) : EReal :=
  if h : e.val < 4 then m ((c : Thread nD τ).loc main_arg3) (ix1 ⟨e.val, h⟩)
  else if h' : e.val < 8 then m ((c : Thread nD τ).loc main_arg4) (ix1 ⟨e.val - 4, by omega⟩) else 0

/-- The norm weights as a row. -/
theorem v7_at (k : Fin 2048) : V m c main_v7 (ix2 0 k) = nA c m k := by
  unfold nA V
  simp only [hostOps0, hostOps0_1, hostOps0_2, hostOps0_3, hostOps0_4, List.flatten_cons, List.flatten_nil, List.append_nil, List.cons_append, List.nil_append]
  entry_read
  pointwise

/-- The padded weights. -/
theorem v6_at (k : Fin 2048) (e : Fin 128) : V m c main_v6 (ix2 k e) = wA c m k e := by
  unfold wA V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise
  split
  · rfl
  · exact Cert.Product.sitofp_zero

/-- The padded biases. -/
theorem v2_at (e : Fin 128) : V m c main_v2 (ix2 0 e) = bA c m e := by
  unfold bA V
  simp only [hostOps0, hostOps0_1, hostOps0_2, hostOps0_3, hostOps0_4, List.flatten_cons, List.flatten_nil, List.append_nil, List.cons_append, List.nil_append]
  entry_read
  simp only [StableHlo.TRef.toBuf, StableHlo.TRef.ofBuf, cast_eq]
  pointwise
  by_cases h4 : e.val < 4
  · have h8 : e.val < 8 := by omega
    simp only [h4, h8, dite_true]
  · by_cases h8 : e.val < 8
    · simp only [h4, h8, dite_true, dite_false]
    · simp only [h4, h8, dite_false]
      exact Cert.Product.sitofp_zero

/-- The windows' block indices at a point. -/
theorem idx_all : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] := by decide +kernel

/-- The activations' block. -/
theorem blk0 (t : Fin cfg0.N) (r : Fin 256) (k : Fin 2048) :
    iblk m c 0 t (ix2 r k) = xA c m ⟨256 * t.val + r.val, by have : t.val < 128 := t.isLt; omega⟩ k := by
  unfold xA
  blk_ext [iblk, V, idx_all t]

/-- The norm weights' block. -/
theorem blk1 (t : Fin cfg0.N) (k : Fin 2048) : iblk m c 1 t (ix2 0 k) = nA c m k := by
  refine Eq.trans ?_ (v7_at c m k)
  blk_ext [iblk, idx_all t]

/-- The weights' block. -/
theorem blk2 (t : Fin cfg0.N) (k : Fin 2048) (e : Fin 128) : iblk m c 2 t (ix2 k e) = wA c m k e := by
  refine Eq.trans ?_ (v6_at c m k e)
  blk_ext [iblk, idx_all t]

/-- The biases' block. -/
theorem blk3 (t : Fin cfg0.N) (e : Fin 128) : iblk m c 3 t (ix2 0 e) = bA c m e := by
  refine Eq.trans ?_ (v2_at c m e)
  blk_ext [iblk, idx_all t]

/-- The normed activations. -/
def G4 : Buf (Elt Ideal) ((c : Thread nD τ).loc main_v8_0) := fun i => normed (xA c m (i 0)) (nA c m) (i 1)

/-- The gates. -/
def G5 : Buf (Elt Ideal) ((c : Thread nD τ).loc main_v8_1) := fun i =>
  prod (normed (xA c m (i 0)) (nA c m)) (fun k => wA c m k (i 1)) + bA c m (i 1)

/-- The first result array. -/
theorem final4 : (dats m 0 c).arrAt 4 cfg0.N = G4 c m := by
  refine (dats m 0 c).arrAt_eq_of_covers 4 _ (by decide +kernel) fun t _ y => ?_
  obtain ⟨r, k, rfl⟩ : ∃ (r : Fin 256) (k : Fin 2048), y = ix2 r k := ⟨y 0, y 1, by funext a; match a with | ⟨0, _⟩ => rfl | ⟨1, _⟩ => rfl⟩
  rw [after0_4]
  frame_out
  refine (pay1_at _ _ r k).trans ?_
  simp only [blk0, blk1]
  unfold G4
  refine congrArg₂ (fun a b => normed (xA c m a) (nA c m) b) (Fin.ext ?_) (Fin.ext ?_) <;> blk_simp [idx_all t]
  exact congrArg (· + r.val) (Nat.mul_comm 256 t.val)

/-- The second result array. -/
theorem final5 : (dats m 0 c).arrAt 5 cfg0.N = G5 c m := by
  refine (dats m 0 c).arrAt_eq_of_covers 5 _ (by decide +kernel) fun t _ y => ?_
  obtain ⟨r, k, rfl⟩ : ∃ (r : Fin 256) (k : Fin 128), y = ix2 r k := ⟨y 0, y 1, by funext a; match a with | ⟨0, _⟩ => rfl | ⟨1, _⟩ => rfl⟩
  rw [after0_5]
  frame_out
  refine (pay2_at _ _ _ _ r k).trans ?_
  simp only [blk0, blk1, blk2, blk3]
  unfold G5
  refine congrArg₂ (fun a b => prod (normed (xA c m a) (nA c m)) (fun k => wA c m k b) + bA c m b) (Fin.ext ?_) (Fin.ext ?_) <;> blk_simp [idx_all t]
  exact congrArg (· + r.val) (Nat.mul_comm 256 t.val)

end Cert.Norm

end
-- ==== Proof.RefNorm.lean ====
module

public import proofs.«01_k».proof.Proof.Gen.Reference8Ideal.Run
public import proofs.«01_k».proof.Proof.Norm
/-! The reference of the norm in front of the mLSTM layer, read at an index. -/

@[expose] public section

open Idealize Idealize.SL Idealize.ShloMosaic Idealize.ShloMosaic.TcCoe Idealize.ShloMosaic.Tactic Cert.Product Cert.Norm
open Cert.Reference8Ideal Cert.Reference8Ideal.Gen

set_option maxRecDepth 16384

noncomputable section

namespace Cert.RefNorm

/-- The normed activations. -/
def rows (x : FVec Ideal S32768x2048 .f32) (w : FVec Ideal S2048 .f32) : FVec Ideal S32768x2048 .f32 :=
  mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 w))

/-- The normed activations at an index. -/
theorem rows_at (x : FVec Ideal S32768x2048 .f32) (w : FVec Ideal S2048 .f32) (l : Fin 32768) (k : Fin 2048) :
    rows x w (ix2 l k) = normed (fun j => x (ix2 l j)) (fun j => w (ix1 j)) k := by
  unfold normed
  pointwise [rows]

/-- The gates at an index, their padding zero. -/
theorem gates_at (y : FVec Ideal S32768x2048 .f32) (w : FVec Ideal S1x2048x6152 .f32) (b0 b1 : FVec Ideal S4 .f32) (l : Fin 32768) (e : Fin 128) :
    (pad S32768x128 ![0, 0] ![0, 120] ![0, 0] (addf (extractStridedSlice S32768x8 ![0, 6144] (Host.dotGeneral dot_S32768x2048_S2048x6152_S32768x6152_1_0_0_1_n_n none y (shapeCast _ w shapeCasts_S1x2048x6152_S2048x6152)) slices_S32768x6152_S32768x8_0_6144) (broadcastInDim S32768x8 ![0, 1] bcast_S1x8_S32768x8_0_1 (broadcastInDim S1x8 ![1] bcast_S8_S1x8_1 (concatenate S8 0 [⟨S4, b0⟩, ⟨S4, b1⟩] concatenates_S4_S4_S8_d0)))) (sitofp .f32 (constantI S_ 32 0#32)) pads_S32768x8_S32768x128_000_01200 h_S_ : FVec Ideal S32768x128 .f32) (ix2 l e)
      = if h : e.val < 8 then prod (K := 2048) (fun k => y (ix2 l k)) (fun k => w (ix3 0 k ⟨6144 + e.val, by omega⟩))
          + (if h4 : e.val < 4 then b0 (ix1 ⟨e.val, h4⟩) else b1 (ix1 ⟨e.val - 4, by omega⟩) : EReal) else 0 := by
  unfold prod
  pointwise
  split
  · rfl
  · exact Cert.Product.sitofp_zero

/-- A padded lane of the kernel is zero, so its gates are the reference's. -/
theorem gates_eq (x : Fin 2048 → EReal) (w : Fin 2048 → Fin 6152 → EReal) (b0 b1 : Fin 4 → EReal) (e : Fin 128) :
    prod x (fun k => if h : e.val < 8 then w k ⟨6144 + e.val, by omega⟩ else 0)
        + (if h : e.val < 4 then b0 ⟨e.val, h⟩ else if h' : e.val < 8 then b1 ⟨e.val - 4, by omega⟩ else 0)
      = if h : e.val < 8 then prod x (fun k => w k ⟨6144 + e.val, by omega⟩)
          + (if h4 : e.val < 4 then b0 ⟨e.val, h4⟩ else b1 ⟨e.val - 4, by omega⟩) else 0 := by
  by_cases h : e.val < 8
  · simp only [h, dite_true]
  · have h4 : ¬ e.val < 4 := by omega
    simp only [h, h4, dite_false]
    unfold prod
    simp only [mul_zero, Finset.sum_const_zero, add_zero]

end Cert.RefNorm

end
-- ==== Proof.lean ====
module

public import proofs.«01_k».proof.Proof.KernelRun
public import proofs.«01_k».proof.Proof.RefValue
public import proofs.«01_k».proof.Proof.Plain
public import proofs.«01_k».proof.Proof.Gate
public import proofs.«01_k».proof.Proof.SsdOut
public import proofs.«01_k».proof.Proof.MlOut
public import proofs.«01_k».proof.Proof.RefProducts
public import proofs.«01_k».proof.Proof.Conv
public import proofs.«01_k».proof.Proof.RefConv
public import proofs.«01_k».proof.Proof.FiniteArgs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.MlRun
public import proofs.«01_k».proof.Proof.MlRefValue
public import proofs.«01_k».proof.Proof.Gen.Kernel7.Frame
public import proofs.«01_k».proof.Proof.RefNorm
public import proofs.«01_k».proof.Proof.Gen.Kernel8.Frame
public import proofs.«01_k».proof.Defs
public import Idealize.ShloMosaic.Lib.Quiescent
public import Idealize.ShloMosaic.Lib.ReduceAll
public import Idealize.ShloMosaic.Lib.Affine
/-! The certificate's claims put together: the frames, and the equal results under the precondition. -/

@[expose] public section

noncomputable section

namespace Cert.Proof

open Idealize.ShloMosaic Idealize.ShloMosaic.TcCoe Idealize.SL.Sem

/-- The precondition's side conditions. -/
theorem preFacts : Cert.Pre_decay_above_minus_infinity.Facts := ⟨by decide, by decide, by decide⟩

/-- The reference leaves its arguments as they were; it declares no semaphore. -/
theorem reference_frame : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

/-- Under the precondition no log decay is minus infinity. -/
theorem decay_ne_bot [hf : Cert.Pre_decay_above_minus_infinity.Facts]
    {m : (ℓ : Loc Cert.KernelIdeal.nD Cert.KernelIdeal.τ Cert.KernelIdeal.sig) → Buf (Elt Ideal) ℓ}
    (hp : Cert.Pre_KernelIdeal_decay_above_minus_infinity m) (c : Dev Cert.KernelIdeal.nD) (h : Fin 64) :
    m ((c : Thread Cert.KernelIdeal.nD Cert.KernelIdeal.τ).loc Cert.KernelIdeal.main_arg3) (ix1 h) ≠ (⊥ : EReal) := by
  have h1 := congrFun (hp c) ix0
  dsimp only [Cert.Pre_decay_above_minus_infinity.fn] at h1
  have h2 := Host.reduce_andi_all _ _ _ _ _ h1 (ix1 h)
  intro hb
  replace h2 : Ideal.cmp .ogt (m ((c : Thread Cert.KernelIdeal.nD Cert.KernelIdeal.τ).loc Cert.KernelIdeal.main_arg3) (ix1 h))
    (Ideal.ofBits .f32 4286578688#32) = 1#1 := h2
  rw [hb, Cert.Ssd.Ref.minf] at h2
  simp [Ideal.cmp] at h2

/-- The two result arrays are equal. -/
theorem results_eq (m : (ℓ : Loc Cert.KernelIdeal.nD Cert.KernelIdeal.τ Cert.KernelIdeal.sig) → Buf (Elt Ideal) ℓ)
    (c : Dev Cert.KernelIdeal.nD) (hA : ∀ h : Fin 64, m ((c : Thread Cert.KernelIdeal.nD Cert.KernelIdeal.τ).loc Cert.KernelIdeal.main_arg3) (ix1 h) ≠ (⊥ : EReal)) :
    Cert.ReferenceIdeal.Step.R_main_v55
        (Cert.Ssd.Ref.chunks (F := Ideal) (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) 32)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg4))
        (m ((c : Thread Cert.KernelIdeal.nD Cert.KernelIdeal.τ).loc Cert.KernelIdeal.main_arg5))
      = Cert.KernelIdeal.Value.G7 m c := by
  funext i
  obtain ⟨b, l, q, rfl⟩ : ∃ b l q, i = ix3 b l q := ⟨i 0, i 1, i 2, by funext a; match a with | ⟨0, _⟩ => rfl | ⟨1, _⟩ => rfl | ⟨2, _⟩ => rfl⟩
  exact (Cert.Ssd.Ref.result_at _ _ _ _ _ _ b l q).trans (Cert.Ssd.array_at m c hA b l q).symm

/-- An index of a rank-two array is a pair. -/
theorem at_pair {a b : ℕ} (i : Shape.Idx ⟨2, ![a, b]⟩) : ∃ l q, i = ix2 l q :=
  ⟨i 0, i 1, by funext d; match d with | ⟨0, _⟩ => rfl | ⟨1, _⟩ => rfl⟩

/-- The reference of the projection without epilogue leaves its arguments as they were. -/
theorem reference2_frame : Cert.quiescent_Reference2Ideal (hReference2Ideal := Cert.Reference2Ideal.Gen.facts) := fun m g _ =>
  (θ_run (Cert.Reference2Ideal.defs (F := Ideal)) _ _).mono
    (fun r h => ⟨fun c => (h c).2, sem_eq_zero_of_no_sems (by decide) r.2⟩) (Cert.Reference2Ideal.Value.run (F := Ideal) m g)

/-- The reference of the gate's projection leaves its arguments as they were. -/
theorem reference3_frame : Cert.quiescent_Reference3Ideal (hReference3Ideal := Cert.Reference3Ideal.Gen.facts) := fun m g _ =>
  (θ_run (Cert.Reference3Ideal.defs (F := Ideal)) _ _).mono
    (fun r h => ⟨fun c => (h c).2, sem_eq_zero_of_no_sems (by decide) r.2⟩) (Cert.Reference3Ideal.Value.run (F := Ideal) m g)

/-- The reference of the convolved projection leaves its arguments as they were. -/
theorem reference4_frame : Cert.quiescent_Reference4Ideal (hReference4Ideal := Cert.Reference4Ideal.Gen.facts) := fun m g _ =>
  (θ_run (Cert.Reference4Ideal.defs (F := Ideal)) _ _).mono
    (fun r h => ⟨fun c => (h c).2, sem_eq_zero_of_no_sems (by decide) r.2⟩) (Cert.Reference4Ideal.Value.run (F := Ideal) m g)

/-- The reference of the SSD layer's output projection leaves its arguments as they were. -/
theorem reference5_frame : Cert.quiescent_Reference5Ideal (hReference5Ideal := Cert.Reference5Ideal.Gen.facts) := fun m g _ =>
  (θ_run (Cert.Reference5Ideal.defs (F := Ideal)) _ _).mono
    (fun r h => ⟨fun c => (h c).2, sem_eq_zero_of_no_sems (by decide) r.2⟩) (Cert.Reference5Ideal.Value.run (F := Ideal) m g)

/-- The reference of the mLSTM layer's output projection leaves its arguments as they were. -/
theorem reference6_frame : Cert.quiescent_Reference6Ideal (hReference6Ideal := Cert.Reference6Ideal.Gen.facts) := fun m g _ =>
  (θ_run (Cert.Reference6Ideal.defs (F := Ideal)) _ _).mono
    (fun r h => ⟨fun c => (h c).2, sem_eq_zero_of_no_sems (by decide) r.2⟩) (Cert.Reference6Ideal.Value.run (F := Ideal) m g)

/-- The mLSTM mixer's reference leaves its arguments as they were. -/
theorem reference7_frame : Cert.quiescent_Reference7Ideal (hReference7Ideal := Cert.Reference7Ideal.Gen.facts) := fun m g _ =>
  (θ_run (Cert.Reference7Ideal.defs (F := Ideal)) _ _).mono
    (fun r h => ⟨fun c => (h c).2, sem_eq_zero_of_no_sems (by decide) r.2⟩) (Cert.Reference7Ideal.Value.run (F := Ideal) m g)

/-- The norm's reference leaves its arguments as they were. -/
theorem reference8_frame : Cert.quiescent_Reference8Ideal (hReference8Ideal := Cert.Reference8Ideal.Gen.facts) := fun m g _ =>
  (θ_run (Cert.Reference8Ideal.defs (F := Ideal)) _ _).mono
    (fun r h => ⟨fun c => (h c).2.2, sem_eq_zero_of_no_sems (by decide) r.2⟩) (Cert.Reference8Ideal.Value.run (F := Ideal) m g)

/-- The projection without epilogue equals its reference. -/
theorem plain_equal : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Kernel2Ideal.Value.G2 m c, Cert.Kernel2Ideal.Value.run m g, ?_⟩
  refine (θ_run (Cert.Reference2Ideal.defs (F := Ideal)) _ _).mono (fun r h c => ⟨(h c).1.trans ?_, (h c).2⟩) (Cert.Reference2Ideal.Value.run (F := Ideal) m' g')
  obtain ⟨e0, e1⟩ := hag c
  rw [e0, e1]
  funext i
  obtain ⟨l, q, rfl⟩ := at_pair i
  exact (Cert.RefProducts.plain_at _ _ l q).trans (Cert.Plain.array_at c m l q).symm

/-- Of finite activations and weights, the gate equals its reference. -/
theorem gate_equal : Cert.algebraic_Kernel3Ideal_Reference3Ideal_pre_finite3 (hKernel3Ideal := Cert.Kernel3Ideal.Gen.facts)
    (hReference3Ideal := Cert.Reference3Ideal.Gen.facts) (hPre_finite3 := Cert.FiniteArgs.facts3) := by
  intro m g m' g' hp hag
  refine ⟨fun c => Cert.Kernel3Ideal.Value.G2 m c, Cert.Kernel3Ideal.Value.run m g, ?_⟩
  refine (θ_run (Cert.Reference3Ideal.defs (F := Ideal)) _ _).mono (fun r h c => ⟨(h c).1.trans ?_, (h c).2⟩) (Cert.Reference3Ideal.Value.run (F := Ideal) m' g')
  obtain ⟨e0, e1⟩ := hag c
  obtain ⟨ha, hw⟩ := Cert.FiniteArgs.finite3 (hf := Cert.FiniteArgs.facts3) _ _ (hp c)
  rw [e0, e1]
  funext i
  obtain ⟨l, q, rfl⟩ := at_pair i
  refine (Cert.RefProducts.gate_at _ _ l q).trans (Eq.trans ?_ (Cert.Gate.array_at c m l q).symm)
  exact (Cert.Product.gate_eq_silu (Cert.Product.Finite.prod (fun k => ha l k) fun k => hw k _)).symm

/-- Of finite activations, weights, taps and bias, the projection with the causal convolution equals its reference. -/
theorem conv_equal : Cert.algebraic_Kernel4Ideal_Reference4Ideal_pre_finite4 (hKernel4Ideal := Cert.Kernel4Ideal.Gen.facts)
    (hReference4Ideal := Cert.Reference4Ideal.Gen.facts) (hPre_finite4 := Cert.FiniteArgs.facts4) := by
  intro m g m' g' hp hag
  refine ⟨fun c => Cert.Kernel4Ideal.Value.G5 m c, Cert.Kernel4Ideal.Value.run m g, ?_⟩
  refine (θ_run (Cert.Reference4Ideal.defs (F := Ideal)) _ _).mono (fun r h c => ⟨(h c).1.trans ?_, (h c).2⟩) (Cert.Reference4Ideal.Value.run (F := Ideal) m' g')
  obtain ⟨e0, e1, e2, e3⟩ := hag c
  obtain ⟨ha, hw, hcw, hcb⟩ := Cert.FiniteArgs.finite4 (hf := Cert.FiniteArgs.facts4) _ _ _ _ (hp c)
  unfold Cert.Reference4Ideal.Value.res_main_v38
  rw [e0, e1, e2, e3]
  funext i
  obtain ⟨l, q, rfl⟩ := at_pair i
  refine (Cert.RefConv.conv_at _ _ _ _ l q).trans (Eq.trans ?_ (Cert.Conv.array_at c m l q).symm)
  have hu : ∀ s, Cert.Product.Finite (Cert.Conv.uA c m l s q) := by
    intro s
    unfold Cert.Conv.uA
    split
    · exact ⟨0, rfl⟩
    · exact Cert.Product.Finite.prod (fun k => ha _ k) fun k => hw k _
  have hc : ∀ s, Cert.Product.Finite (Cert.Conv.cA c m s q) := fun s => hcw s q
  have hb : Cert.Product.Finite (Cert.Conv.bA c m q) := hcb q
  have hterm : ∀ s r, Cert.Product.Finite (Cert.Conv.cA c m s q * Cert.Conv.uA c m l r q) := fun s r => (hc s).mul (hu r)
  rw [Cert.Product.gate_eq_silu (by unfold Cert.Conv.tapped; exact ((((hb.add (hterm 3 0)).add (hterm 0 3)).add (hterm 1 2)).add (hterm 2 1)))]
  refine congrArg Cert.Product.silu ?_
  show Cert.Conv.cA c m 0 q * Cert.Conv.uA c m l 3 q + Cert.Conv.cA c m 1 q * Cert.Conv.uA c m l 2 q + Cert.Conv.cA c m 2 q * Cert.Conv.uA c m l 1 q
      + Cert.Conv.cA c m 3 q * Cert.Conv.uA c m l 0 q + Cert.Conv.bA c m q = _
  unfold Cert.Conv.tapped
  ac_rfl

/-- The SSD layer's output projection with the residual equals its reference. -/
theorem ssd_out_equal : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Kernel5Ideal.Value.G3 m c, Cert.Kernel5Ideal.Value.run m g, ?_⟩
  refine (θ_run (Cert.Reference5Ideal.defs (F := Ideal)) _ _).mono (fun r h c => ⟨(h c).1.trans ?_, (h c).2⟩) (Cert.Reference5Ideal.Value.run (F := Ideal) m' g')
  obtain ⟨e0, e1, e2⟩ := hag c
  rw [e0, e1, e2]
  funext i
  obtain ⟨l, q, rfl⟩ := at_pair i
  exact (Cert.RefProducts.ssd_out_at _ _ _ l q).trans (Cert.SsdOut.array_at c m l q).symm

/-- The mLSTM layer's output projection with the residual equals its reference. -/
theorem ml_out_equal : Cert.algebraic_Kernel6Ideal_Reference6Ideal (hKernel6Ideal := Cert.Kernel6Ideal.Gen.facts)
    (hReference6Ideal := Cert.Reference6Ideal.Gen.facts) := by
  intro m g m' g' _ hag
  refine ⟨fun c => Cert.Kernel6Ideal.Value.G3 m c, Cert.Kernel6Ideal.Value.run m g, ?_⟩
  refine (θ_run (Cert.Reference6Ideal.defs (F := Ideal)) _ _).mono (fun r h c => ⟨(h c).1.trans ?_, (h c).2⟩) (Cert.Reference6Ideal.Value.run (F := Ideal) m' g')
  obtain ⟨e0, e1, e2⟩ := hag c
  rw [e0, e1, e2]
  funext i
  obtain ⟨l, q, rfl⟩ := at_pair i
  exact (Cert.RefProducts.ml_out_at _ _ _ l q).trans (Cert.MlOut.array_at c m l q).symm

/-- The SSD recurrence equals its reference. -/
theorem recurrence_equal : Cert.algebraic_KernelIdeal_ReferenceIdeal_pre_decay_above_minus_infinity (hKernelIdeal := Cert.KernelIdeal.Gen.facts)
    (hReferenceIdeal := Cert.ReferenceIdeal.Gen.facts) (hPre_decay_above_minus_infinity := preFacts) := by
  intro m g m' g' hp hag
  refine ⟨fun c => Cert.KernelIdeal.Value.G7 m c, Cert.KernelIdeal.Value.run m g, ?_⟩
  refine (θ_run (Cert.ReferenceIdeal.defs (F := Ideal)) _ _).mono (fun r h c => ⟨(h c).1.trans ?_, (h c).2⟩) (Cert.ReferenceIdeal.Value.run (F := Ideal) m' g')
  obtain ⟨e0, e1, e2, e3, e4, e5⟩ := hag c
  rw [Cert.Ssd.Ref.out_eq, e0, e1, e2, e3, e4, e5]
  exact results_eq m c (decay_ne_bot (hf := preFacts) hp c)

/-- A finite element is the real it reads as. -/
theorem finite_real {x : EReal} (h : Cert.Product.Finite x) : x = (x.toReal : EReal) := by
  obtain ⟨r, rfl⟩ := h
  rw [EReal.toReal_coe]

/-- Of finite projections and gates, the two result arrays of the mLSTM mixer are equal. -/
theorem mixers_eq (m : (ℓ : Loc Cert.Kernel7Ideal.nD Cert.Kernel7Ideal.τ Cert.Kernel7Ideal.sig) → Buf (Elt Ideal) ℓ)
    (c : Dev Cert.Kernel7Ideal.nD)
    (hP : ∀ b l k, Cert.Product.Finite (m ((c : Thread Cert.Kernel7Ideal.nD Cert.Kernel7Ideal.τ).loc Cert.Kernel7Ideal.main_arg0) (ix3 b l k)))
    (hG : ∀ b l k, Cert.Product.Finite (m ((c : Thread Cert.Kernel7Ideal.nD Cert.Kernel7Ideal.τ).loc Cert.Kernel7Ideal.main_arg1) (ix3 b l k))) :
    Cert.Reference7Ideal.Step.R_main_v59
        (Cert.Ml.Ref.chunks (F := Ideal) (m ((c : Thread Cert.Kernel7Ideal.nD Cert.Kernel7Ideal.τ).loc Cert.Kernel7Ideal.main_arg0))
          (m ((c : Thread Cert.Kernel7Ideal.nD Cert.Kernel7Ideal.τ).loc Cert.Kernel7Ideal.main_arg1)) 64)
        (m ((c : Thread Cert.Kernel7Ideal.nD Cert.Kernel7Ideal.τ).loc Cert.Kernel7Ideal.main_arg0))
        (m ((c : Thread Cert.Kernel7Ideal.nD Cert.Kernel7Ideal.τ).loc Cert.Kernel7Ideal.main_arg2))
      = Cert.Kernel7Ideal.Value.G3 m c := by
  funext i
  obtain ⟨b, l, q, rfl⟩ : ∃ b l q, i = ix3 b l q := ⟨i 0, i 1, i 2, by funext a; match a with | ⟨0, _⟩ => rfl | ⟨1, _⟩ => rfl | ⟨2, _⟩ => rfl⟩
  exact (Cert.Ml.Ref.result_at _ _ (fun b l k => finite_real (hP b l k)) (fun b l k => finite_real (hG b l k)) _ b l q).trans
    (Cert.Ml.array_at m c (fun b l k => finite_real (hP b l k)) (fun b l k => finite_real (hG b l k)) b l q).symm

/-- Of finite projections and gates, the mLSTM mixer equals its reference. -/
theorem mlstm_equal : Cert.algebraic_Kernel7Ideal_Reference7Ideal_pre_finite7 (hKernel7Ideal := Cert.Kernel7Ideal.Gen.facts)
    (hReference7Ideal := Cert.Reference7Ideal.Gen.facts) (hPre_finite7 := Cert.FiniteArgs.facts7) := by
  intro m g m' g' hp hag
  refine ⟨fun c => Cert.Kernel7Ideal.Value.G3 m c, Cert.Kernel7Ideal.Value.run m g, ?_⟩
  refine (θ_run (Cert.Reference7Ideal.defs (F := Ideal)) _ _).mono (fun r h c => ⟨(h c).1.trans ?_, (h c).2⟩) (Cert.Reference7Ideal.Value.run (F := Ideal) m' g')
  obtain ⟨e0, e1, e2⟩ := hag c
  obtain ⟨ha, hg⟩ := Cert.FiniteArgs.finite7 (hf := Cert.FiniteArgs.facts7) _ _ _ (hp c)
  rw [Cert.Ml.Ref.out_eq, e0, e1, e2]
  exact mixers_eq m c ha hg

/-- The norm in front of the mLSTM layer and the gates equal their reference. -/
theorem norm_equal : Cert.algebraic_Kernel8Ideal_Reference8Ideal (hKernel8Ideal := Cert.Kernel8Ideal.Gen.facts)
    (hReference8Ideal := Cert.Reference8Ideal.Gen.facts) := by
  intro m g m' g' _ hag
  refine ⟨fun c => Cert.Norm.G4 c m, fun c => Cert.Norm.G5 c m,
    (θ_run (Cert.Kernel8Ideal.defs (F := Ideal)) _ _).mono
      (fun r h c => ⟨(h c).1.trans (Cert.Norm.final4 c m), (h c).2.1.trans (Cert.Norm.final5 c m), (h c).2.2⟩)
      (Cert.Kernel8Ideal.Value.run_blocks (F := Ideal) m g), ?_⟩
  refine (θ_run (Cert.Reference8Ideal.defs (F := Ideal)) _ _).mono
    (fun r h c => ⟨(h c).1.trans ?_, (h c).2.1.trans ?_, (h c).2.2⟩) (Cert.Reference8Ideal.Value.run (F := Ideal) m' g')
  · obtain ⟨e0, e1, e2, e3, e4⟩ := hag c
    rw [e0, e1]
    funext i
    obtain ⟨l, k, rfl⟩ := at_pair i
    exact Cert.RefNorm.rows_at _ _ l k
  · obtain ⟨e0, e1, e2, e3, e4⟩ := hag c
    rw [e0, e1, e2, e3, e4]
    funext i
    obtain ⟨l, e, rfl⟩ := at_pair i
    refine (Cert.RefNorm.gates_at (Cert.RefNorm.rows _ _) _ _ _ l e).trans ?_
    simp only [Cert.RefNorm.rows_at]
    exact (Cert.RefNorm.gates_eq _ (fun k q => m ((c : Thread Cert.Kernel8Ideal.nD Cert.Kernel8Ideal.τ).loc Cert.Kernel8Ideal.main_arg2) (ix3 0 k q))
      (fun q => m ((c : Thread Cert.Kernel8Ideal.nD Cert.Kernel8Ideal.τ).loc Cert.Kernel8Ideal.main_arg3) (ix1 q))
      (fun q => m ((c : Thread Cert.Kernel8Ideal.nD Cert.Kernel8Ideal.τ).loc Cert.Kernel8Ideal.main_arg4) (ix1 q)) e).symm

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    preFacts, Cert.FiniteArgs.facts3, Cert.FiniteArgs.facts4, Cert.FiniteArgs.facts7,
    fun m g _ => Cert.Kernel.Gen.frame m g, fun m g _ => Cert.KernelIdeal.Gen.frame m g, fun m g _ => Cert.KernelIdeal.Gen.frame m g,
    reference_frame, fun m g _ => reference_frame m g trivial,
    fun m g _ => Cert.Kernel2.Gen.frame m g, fun m g _ => Cert.Kernel2Ideal.Gen.frame m g, reference2_frame,
    fun m g _ => Cert.Kernel3.Gen.frame m g, fun m g _ => Cert.Kernel3Ideal.Gen.frame m g, fun m g _ => Cert.Kernel3Ideal.Gen.frame m g,
    reference3_frame, fun m g _ => reference3_frame m g trivial,
    fun m g _ => Cert.Kernel4.Gen.frame m g, fun m g _ => Cert.Kernel4Ideal.Gen.frame m g, fun m g _ => Cert.Kernel4Ideal.Gen.frame m g,
    reference4_frame, fun m g _ => reference4_frame m g trivial,
    fun m g _ => Cert.Kernel5.Gen.frame m g, fun m g _ => Cert.Kernel5Ideal.Gen.frame m g, reference5_frame,
    fun m g _ => Cert.Kernel6.Gen.frame m g, fun m g _ => Cert.Kernel6Ideal.Gen.frame m g, reference6_frame,
    fun m g _ => Cert.Kernel7.Gen.frame m g, fun m g _ => Cert.Kernel7Ideal.Gen.frame m g, fun m g _ => Cert.Kernel7Ideal.Gen.frame m g,
    reference7_frame, fun m g _ => reference7_frame m g trivial,
    fun m g _ => Cert.Kernel8.Gen.frame m g, fun m g _ => Cert.Kernel8Ideal.Gen.frame m g, reference8_frame,
    trivial, recurrence_equal, trivial, plain_equal, trivial, gate_equal, trivial, conv_equal, trivial, ssd_out_equal, trivial, ml_out_equal,
    trivial, mlstm_equal, trivial, norm_equal⟩

end Cert.Proof

end
